-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_draws_resolved [hPre_draws_resolved : Cert.Pre_draws_resolved.Facts] (m : (ℓ : Loc Cert.KernelIdeal.nD Cert.KernelIdeal.τ Cert.KernelIdeal.sig) → Buf (Elt Ideal) ℓ) : Prop :=
  ∀ c : Dev Cert.KernelIdeal.nD,
    (Cert.Pre_draws_resolved.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_draws_resolved [hPre_draws_resolved : Cert.Pre_draws_resolved.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_draws_resolved.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_draws_resolved [hKernelIdeal : Cert.KernelIdeal.Facts] [hPre_draws_resolved : Cert.Pre_draws_resolved.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_draws_resolved m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_draws_resolved [hReferenceIdeal : Cert.ReferenceIdeal.Facts] [hPre_draws_resolved : Cert.Pre_draws_resolved.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_draws_resolved m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_draws_resolved [hKernelIdeal : Cert.KernelIdeal.Facts] [hReferenceIdeal : Cert.ReferenceIdeal.Facts] [hPre_draws_resolved : Cert.Pre_draws_resolved.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_draws_resolved m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_draws_resolved : Cert.Pre_draws_resolved.Facts),
    quiescent_Kernel (hKernel := hKernel)
    ∧ quiescent_KernelIdeal (hKernelIdeal := hKernelIdeal)
    ∧ quiescent_KernelIdeal_pre_draws_resolved (hKernelIdeal := hKernelIdeal) (hPre_draws_resolved := hPre_draws_resolved)
    ∧ quiescent_ReferenceIdeal (hReferenceIdeal := hReferenceIdeal)
    ∧ quiescent_ReferenceIdeal_pre_draws_resolved (hReferenceIdeal := hReferenceIdeal) (hPre_draws_resolved := hPre_draws_resolved)
    ∧ preserves_Kernel_KernelIdeal
    ∧ algebraic_KernelIdeal_ReferenceIdeal_pre_draws_resolved (hKernelIdeal := hKernelIdeal) (hReferenceIdeal := hReferenceIdeal) (hPre_draws_resolved := hPre_draws_resolved)
-- ==== Pre_draws_resolved.lean ====
abbrev S128x100000 : Shape := ⟨2, ![128, 100000]⟩
abbrev S128 : Shape := ⟨1, ![128]⟩
abbrev S128x1 : Shape := ⟨2, ![128, 1]⟩
abbrev S_ : Shape := ⟨0, ![]⟩
abbrev S1x1 : Shape := ⟨2, ![1, 1]⟩
abbrev S1 : Shape := ⟨1, ![1]⟩

class Facts : Prop where
  bcast_S128_S128x1_0 : S128.BroadcastsInDim S128x1 (![0] : Fin 1 → Fin S128x1.rank)
  bcast_S128x1_S128x100000_0_1 : S128x1.BroadcastsInDim S128x100000 (![0, 1] : Fin 2 → Fin S128x100000.rank)
  reducesTo_S128x100000_S128_d1 : S128x100000.ReducesTo [1] S128
  h_S_ : 0 < S_.numel
  bcast_S_S128 : S_.BroadcastsInDim S128 (![] : Fin 0 → Fin S128.rank)
  reducesTo_S128_S_d0 : S128.ReducesTo [0] S_
  bcast_S_S128x100000 : S_.BroadcastsInDim S128x100000 (![] : Fin 0 → Fin S128x100000.rank)
  reducesTo_S128x100000_S_d0_1 : S128x100000.ReducesTo [0, 1] S_
  slices_S128x100000_S1x1_80_37755 : S128x100000.Slices ![80, 37755] S1x1
  shapeCasts_S1x1_S_ : S1x1.ShapeCasts S_
  slices_S128_S1_80 : S128.Slices ![80] S1
  shapeCasts_S1_S_ : S1.ShapeCasts S_
  slices_S128x100000_S1x1_110_40093 : S128x100000.Slices ![110, 40093] S1x1
  slices_S128_S1_110 : S128.Slices ![110] S1
  slices_S128x100000_S1x1_118_55306 : S128x100000.Slices ![118, 55306] S1x1
  slices_S128_S1_118 : S128.Slices ![118] S1

variable [Facts]

def fn_part2 {F : FTy → Type} [FloatOps F] (main_v2 : FVec F S128x100000 .f32) (main_v3 : FVec F S128 .f32) (main_v38 : IVec S_ 1) : IVec S_ 1 :=
  let main_v39 : FVec F S1x1 .f32 := (extractStridedSlice S1x1 ![118, 55306] · slices_S128x100000_S1x1_118_55306) main_v2
  let main_v40 : FVec F S_ .f32 := shapeCast S_ main_v39 shapeCasts_S1x1_S_
  let main_cst_7 : FVec F S_ .f32 := constant S_ .f32 0x40E00000#32
  let main_v41 : FVec F S_ .f32 := addf main_v40 main_cst_7
  let main_v42 : FVec F S1 .f32 := (extractStridedSlice S1 ![118] · slices_S128_S1_118) main_v3
  let main_v43 : FVec F S_ .f32 := shapeCast S_ main_v42 shapeCasts_S1_S_
  let main_v44 : IVec S_ 1 := cmpf .oge main_v41 main_v43
  let main_v45 : FVec F S1x1 .f32 := (extractStridedSlice S1x1 ![118, 55306] · slices_S128x100000_S1x1_118_55306) main_v2
  let main_v46 : FVec F S_ .f32 := shapeCast S_ main_v45 shapeCasts_S1x1_S_
  let main_cst_8 : FVec F S_ .f32 := constant S_ .f32 0x41D80000#32
  let main_v47 : FVec F S_ .f32 := addf main_v46 main_cst_8
  let main_v48 : FVec F S1 .f32 := (extractStridedSlice S1 ![118] · slices_S128_S1_118) main_v3
  let main_v49 : FVec F S_ .f32 := shapeCast S_ main_v48 shapeCasts_S1_S_
  let main_v50 : IVec S_ 1 := cmpf .ole main_v47 main_v49
  let main_v51 : IVec S_ 1 := ori main_v44 main_v50
  let main_v52 : IVec S_ 1 := andi main_v38 main_v51
  main_v52

def fn_part1 {F : FTy → Type} [FloatOps F] (main_v2 : FVec F S128x100000 .f32) (main_v3 : FVec F S128 .f32) (main_v10 : IVec S_ 1) (main_v16 : IVec S_ 1) (main_v17 : FVec F S1x1 .f32) : IVec S_ 1 :=
  let main_v18 : FVec F S_ .f32 := shapeCast S_ main_v17 shapeCasts_S1x1_S_
  let main_cst_4 : FVec F S_ .f32 := constant S_ .f32 0x41D80000#32
  let main_v19 : FVec F S_ .f32 := addf main_v18 main_cst_4
  let main_v20 : FVec F S1 .f32 := (extractStridedSlice S1 ![80] · slices_S128_S1_80) main_v3
  let main_v21 : FVec F S_ .f32 := shapeCast S_ main_v20 shapeCasts_S1_S_
  let main_v22 : IVec S_ 1 := cmpf .ole main_v19 main_v21
  let main_v23 : IVec S_ 1 := ori main_v16 main_v22
  let main_v24 : IVec S_ 1 := andi main_v10 main_v23
  let main_v25 : FVec F S1x1 .f32 := (extractStridedSlice S1x1 ![110, 40093] · slices_S128x100000_S1x1_110_40093) main_v2
  let main_v26 : FVec F S_ .f32 := shapeCast S_ main_v25 shapeCasts_S1x1_S_
  let main_cst_5 : FVec F S_ .f32 := constant S_ .f32 0x40E00000#32
  let main_v27 : FVec F S_ .f32 := addf main_v26 main_cst_5
  let main_v28 : FVec F S1 .f32 := (extractStridedSlice S1 ![110] · slices_S128_S1_110) main_v3
  let main_v29 : FVec F S_ .f32 := shapeCast S_ main_v28 shapeCasts_S1_S_
  let main_v30 : IVec S_ 1 := cmpf .oge main_v27 main_v29
  let main_v31 : FVec F S1x1 .f32 := (extractStridedSlice S1x1 ![110, 40093] · slices_S128x100000_S1x1_110_40093) main_v2
  let main_v32 : FVec F S_ .f32 := shapeCast S_ main_v31 shapeCasts_S1x1_S_
  let main_cst_6 : FVec F S_ .f32 := constant S_ .f32 0x41D80000#32
  let main_v33 : FVec F S_ .f32 := addf main_v32 main_cst_6
  let main_v34 : FVec F S1 .f32 := (extractStridedSlice S1 ![110] · slices_S128_S1_110) main_v3
  let main_v35 : FVec F S_ .f32 := shapeCast S_ main_v34 shapeCasts_S1_S_
  let main_v36 : IVec S_ 1 := cmpf .ole main_v33 main_v35
  let main_v37 : IVec S_ 1 := ori main_v30 main_v36
  let main_v38 : IVec S_ 1 := andi main_v24 main_v37
  fn_part2 (F := F) main_v2 main_v3 main_v38

def fn {F : FTy → Type} [FloatOps F] (main_arg0 : FVec F S128x100000 .f32) (main_arg1 : FVec F S128 .f32) : IVec S_ 1 :=
  let main_v0 : FVec F S128x1 .f32 := broadcastInDim S128x1 ![0] bcast_S128_S128x1_0 main_arg1
  let main_v1 : FVec F S128x100000 .f32 := broadcastInDim S128x100000 ![0, 1] bcast_S128x1_S128x100000_0_1 main_v0
  let main_v2 : FVec F S128x100000 .f32 := Host.divf main_arg0 main_v1
  let main_cst : FVec F S_ .f32 := constant S_ .f32 0xFF800000#32
  let main_v3 : FVec F S128 .f32 := (fun x v => Host.reduce FloatOps.maximumf x v reducesTo_S128x100000_S128_d1 h_S_) main_v2 main_cst
  let main_cst_0 : FVec F S_ .f32 := constant S_ .f32 0x00000000#32
  let main_v4 : FVec F S128 .f32 := broadcastInDim S128 ![] bcast_S_S128 main_cst_0
  let main_v5 : IVec S128 1 := cmpf .une main_arg1 main_v4
  let main_c : IVec S_ 1 := constantI S_ 1 1#1
  let main_v6 : IVec S_ 1 := (fun x v => Host.reduce IntOp.andi x v reducesTo_S128_S_d0 h_S_) main_v5 main_c
  let main_cst_1 : FVec F S_ .f32 := constant S_ .f32 0x7F800000#32
  let main_v7 : FVec F S128x100000 .f32 := broadcastInDim S128x100000 ![] bcast_S_S128x100000 main_cst_1
  let main_v8 : IVec S128x100000 1 := cmpf .olt main_v2 main_v7
  let main_c_2 : IVec S_ 1 := constantI S_ 1 1#1
  let main_v9 : IVec S_ 1 := (fun x v => Host.reduce IntOp.andi x v reducesTo_S128x100000_S_d0_1 h_S_) main_v8 main_c_2
  let main_v10 : IVec S_ 1 := andi main_v6 main_v9
  let main_v11 : FVec F S1x1 .f32 := (extractStridedSlice S1x1 ![80, 37755] · slices_S128x100000_S1x1_80_37755) main_v2
  let main_v12 : FVec F S_ .f32 := shapeCast S_ main_v11 shapeCasts_S1x1_S_
  let main_cst_3 : FVec F S_ .f32 := constant S_ .f32 0x40E00000#32
  let main_v13 : FVec F S_ .f32 := addf main_v12 main_cst_3
  let main_v14 : FVec F S1 .f32 := (extractStridedSlice S1 ![80] · slices_S128_S1_80) main_v3
  let main_v15 : FVec F S_ .f32 := shapeCast S_ main_v14 shapeCasts_S1_S_
  let main_v16 : IVec S_ 1 := cmpf .oge main_v13 main_v15
  let main_v17 : FVec F S1x1 .f32 := (extractStridedSlice S1x1 ![80, 37755] · slices_S128x100000_S1x1_80_37755) main_v2
  fn_part1 (F := F) main_v2 main_v3 main_v10 main_v16 main_v17
-- ==== Kernel.lean ====
abbrev S128x100000 : Shape := ⟨2, ![128, 100000]⟩
abbrev S128 : Shape := ⟨1, ![128]⟩
abbrev S128x1 : Shape := ⟨2, ![128, 1]⟩
abbrev S128x4096 : Shape := ⟨2, ![128, 4096]⟩
abbrev S16x512 : Shape := ⟨2, ![16, 512]⟩
abbrev S16x1 : Shape := ⟨2, ![16, 1]⟩

abbrev nBuf : Space → Nat
  | .hbm => 6
  | .vmem => 8
  | .smem => 0
  | _ => 0

abbrev bufTy : (tb : Table) → Fin (tcTables nBuf tb) → BufTy
  | .hbm, ⟨0, _⟩ => ⟨S128x100000, .f32⟩
  | .hbm, ⟨1, _⟩ => ⟨S128, .f32⟩
  | .hbm, ⟨2, _⟩ => ⟨S128x1, .f32⟩
  | .hbm, ⟨3, _⟩ => ⟨S128x1, .f32⟩
  | .hbm, ⟨4, _⟩ => ⟨S128x1, .i32⟩
  | .hbm, ⟨5, _⟩ => ⟨S128, .i32⟩
  | .local _ .vmem, ⟨0, _⟩ => ⟨S128x4096, .f32⟩
  | .local _ .vmem, ⟨1, _⟩ => ⟨S128x4096, .f32⟩
  | .local _ .vmem, ⟨2, _⟩ => ⟨S128x1, .f32⟩
  | .local _ .vmem, ⟨3, _⟩ => ⟨S128x1, .f32⟩
  | .local _ .vmem, ⟨4, _⟩ => ⟨S128x1, .i32⟩
  | .local _ .vmem, ⟨5, _⟩ => ⟨S128x4096, .f32⟩
  | .local _ .vmem, ⟨6, _⟩ => ⟨S128x4096, .i32⟩
  | .local _ .vmem, ⟨7, _⟩ => ⟨S128x1, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v9 : BitVec 1 := Scalar.cmpi .slt arg0 c24_i32
  let v10 : BitVec 32 := Scalar.extui v9
  let c0_i32_1 : BitVec 32 := 0#32
  let v11 : BitVec 1 := Scalar.cmpi .ne v10 c0_i32_1
  v11

@[reducible] def k0_t1_loop : Scf.Loop 32 :=
  let c0_i32_6 : BitVec 32 := 0#32
  let c32_i32 : BitVec 32 := 32#32
  let v18 : BitVec 32 := Scalar.addi c0_i32_6 c32_i32
  let c1_i32 : BitVec 32 := 1#32
  ⟨c0_i32_6, v18, c1_i32⟩
def k0_off1 (k0_t1 : Fin k0_t1_loop.trips) : Fin 2 → Nat :=
  let c0_i32_6 : BitVec 32 := 0#32
  let c1_i32 : BitVec 32 := 1#32
  let arg8 : BitVec 32 := Scf.iv c0_i32_6 c1_i32 k0_t1
  let c2_i32 : BitVec 32 := 2#32
  let v19 : BitVec 32 := Scalar.shrsi arg8 c2_i32
  let c16_i32 : BitVec 32 := 16#32
  let v20 : BitVec 32 := Scalar.muli v19 c16_i32
  let v371 : Index := Scalar.indexCast v20
  let c0 : Index := 0#32
  ![v371.toNat, 0]
def k0_off2 (k0_t1 : Fin k0_t1_loop.trips) : Fin 2 → Nat :=
  let c0_i32_6 : BitVec 32 := 0#32
  let c1_i32 : BitVec 32 := 1#32
  let arg8 : BitVec 32 := Scf.iv c0_i32_6 c1_i32 k0_t1
  let c2_i32 : BitVec 32 := 2#32
  let v19 : BitVec 32 := Scalar.shrsi arg8 c2_i32
  let c16_i32 : BitVec 32 := 16#32
  let v20 : BitVec 32 := Scalar.muli v19 c16_i32
  let v373 : Index := Scalar.indexCast v20
  let c3_i32 : BitVec 32 := 3#32
  let v21 : BitVec 32 := Scalar.andi arg8 c3_i32
  let c1024_i32 : BitVec 32 := 1024#32
  let v22 : BitVec 32 := Scalar.muli v21 c1024_i32
  let v374 : Index := Scalar.indexCast v22
  ![v373.toNat, v374.toNat]
def k0_off3 (k0_t1 : Fin k0_t1_loop.trips) : Fin 2 → Nat :=
  let c0_i32_6 : BitVec 32 := 0#32
  let c1_i32 : BitVec 32 := 1#32
  let arg8 : BitVec 32 := Scf.iv c0_i32_6 c1_i32 k0_t1
  let c2_i32 : BitVec 32 := 2#32
  let v19 : BitVec 32 := Scalar.shrsi arg8 c2_i32
  let c16_i32 : BitVec 32 := 16#32
  let v20 : BitVec 32 := Scalar.muli v19 c16_i32
  let v397 : Index := Scalar.indexCast v20
  let c3_i32 : BitVec 32 := 3#32
  let v21 : BitVec 32 := Scalar.andi arg8 c3_i32
  let c1024_i32 : BitVec 32 := 1024#32
  let v22 : BitVec 32 := Scalar.muli v21 c1024_i32
  let c512_i32_112 : BitVec 32 := 512#32
  let v396 : BitVec 32 := Scalar.addi v22 c512_i32_112
  let v398 : Index := Scalar.indexCast v396
  ![v397.toNat, v398.toNat]
def k0_cond3 (i : grid0.Coords) : BitVec 1 :=
  let arg0 : BitVec 32 := BitVec.ofNat 32 (i 0).val
  let c24_i32_2 : BitVec 32 := 24#32
  let v12 : BitVec 1 := Scalar.cmpi .eq arg0 c24_i32_2
  let v13 : BitVec 32 := Scalar.extui v12
  let c0_i32_3 : BitVec 32 := 0#32
  let v14 : BitVec 1 := Scalar.cmpi .ne v13 c0_i32_3
  v14

@[reducible] def k0_t2_loop : Scf.Loop 32 :=
  let c0_i32_6 : BitVec 32 := 0#32
  let c32_i32 : BitVec 32 := 32#32
  let v18 : BitVec 32 := Scalar.addi c0_i32_6 c32_i32
  let c1_i32 : BitVec 32 := 1#32
  ⟨c0_i32_6, v18, c1_i32⟩
def k0_off4 (k0_t2 : Fin k0_t2_loop.trips) : Fin 2 → Nat :=
  let c0_i32_6 : BitVec 32 := 0#32
  let c1_i32 : BitVec 32 := 1#32
  let arg8 : BitVec 32 := Scf.iv c0_i32_6 c1_i32 k0_t2
  let c2_i32 : BitVec 32 := 2#32
  let v19 : BitVec 32 := Scalar.shrsi arg8 c2_i32
  let c16_i32 : BitVec 32 := 16#32
  let v20 : BitVec 32 := Scalar.muli v19 c16_i32
  let v371 : Index := Scalar.indexCast v20
  let c0 : Index := 0#32
  ![v371.toNat, 0]
def k0_off5 (k0_t2 : Fin k0_t2_loop.trips) : Fin 2 → Nat :=
  let c0_i32_6 : BitVec 32 := 0#32
  let c1_i32 : BitVec 32 := 1#32
  let arg8 : BitVec 32 := Scf.iv c0_i32_6 c1_i32 k0_t2
  let c2_i32 : BitVec 32 := 2#32
  let v19 : BitVec 32 := Scalar.shrsi arg8 c2_i32
  let c16_i32 : BitVec 32 := 16#32
  let v20 : BitVec 32 := Scalar.muli v19 c16_i32
  let v373 : Index := Scalar.indexCast v20
  let c3_i32 : BitVec 32 := 3#32
  let v21 : BitVec 32 := Scalar.andi arg8 c3_i32
  let c1024_i32 : BitVec 32 := 1024#32
  let v22 : BitVec 32 := Scalar.muli v21 c1024_i32
  let v374 : Index := Scalar.indexCast v22
  ![v373.toNat, v374.toNat]
def k0_off6 (k0_t2 : Fin k0_t2_loop.trips) : Fin 2 → Nat :=
  let c0_i32_6 : BitVec 32 := 0#32
  let c1_i32 : BitVec 32 := 1#32
  let arg8 : BitVec 32 := Scf.iv c0_i32_6 c1_i32 k0_t2
  let c2_i32 : BitVec 32 := 2#32
  let v19 : BitVec 32 := Scalar.shrsi arg8 c2_i32
  let c16_i32 : BitVec 32 := 16#32
  let v20 : BitVec 32 := Scalar.muli v19 c16_i32
  let v397 : Index := Scalar.indexCast v20
  let c3_i32 : BitVec 32 := 3#32
  let v21 : BitVec 32 := Scalar.andi arg8 c3_i32
  let c1024_i32 : BitVec 32 := 1024#32
  let v22 : BitVec 32 := Scalar.muli v21 c1024_i32
  let c512_i32_112 : BitVec 32 := 512#32
  let v396 : BitVec 32 := Scalar.addi v22 c512_i32_112
  let v398 : Index := Scalar.indexCast v396
  ![v397.toNat, v398.toNat]
def k0_cond4 (i : grid0.Coords) : BitVec 1 :=
  let arg0 : BitVec 32 := BitVec.ofNat 32 (i 0).val
  let c24_i32_4 : BitVec 32 := 24#32
  let v15 : BitVec 1 := Scalar.cmpi .eq arg0 c24_i32_4
  let v16 : BitVec 32 := Scalar.extui v15
  let c0_i32_5 : BitVec 32 := 0#32
  let v17 : BitVec 1 := Scalar.cmpi .ne v16 c0_i32_5
  v17

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S128x100000 : Shape := ⟨2, ![128, 100000]⟩
abbrev S128 : Shape := ⟨1, ![128]⟩
abbrev S128x1 : Shape := ⟨2, ![128, 1]⟩
abbrev S_ : Shape := ⟨0, ![]⟩
abbrev S1 : Shape := ⟨1, ![1]⟩
abbrev S2 : Shape := ⟨1, ![2]⟩
abbrev S1x1 : Shape := ⟨2, ![1, 1]⟩

abbrev nBuf : Space → Nat
  | .hbm => 306
  | .vmem => 0
  | .smem => 0
  | _ => 0

abbrev hbmTy0_0 (i : Nat) : BufTy := match i % 128 with
  | 0 => ⟨S128x100000, .f32⟩
  | 1 => ⟨S128, .f32⟩
  | 2 => ⟨S128x1, .f32⟩
  | 3 => ⟨S128x100000, .f32⟩
  | 4 => ⟨S128x100000, .f32⟩
  | 5 => ⟨S_, .f32⟩
  | 6 => ⟨S128, .f32⟩
  | 7 => ⟨S_, .f32⟩
  | 8 => ⟨S128, .f32⟩
  | 9 => ⟨S128, .f32⟩
  | 10 => ⟨S128x1, .f32⟩
  | 11 => ⟨S128x100000, .f32⟩
  | 12 => ⟨S128x100000, .f32⟩
  | 13 => ⟨S128x100000, .f32⟩
  | 14 => ⟨S_, .f32⟩
  | 15 => ⟨S128, .f32⟩
  | 16 => ⟨S128x1, .f32⟩
  | 17 => ⟨S128x100000, .f32⟩
  | 18 => ⟨S128x100000, .f32⟩
  | 19 => ⟨S_, .i32⟩
  | 20 => ⟨S_, .i32⟩
  | 21 => ⟨S_, .i32⟩
  | 22 => ⟨S_, .i32⟩
  | 23 => ⟨S1, .i32⟩
  | 24 => ⟨S_, .i32⟩
  | 25 => ⟨S_, .i32⟩
  | 26 => ⟨S_, .i32⟩
  | 27 => ⟨S1, .i32⟩
  | 28 => ⟨S2, .i32⟩
  | 29 => ⟨S_, .f32⟩
  | 30 => ⟨S_, .f32⟩
  | 31 => ⟨S_, .f32⟩
  | 32 => ⟨S_, .f32⟩
  | 33 => ⟨S1x1, .f32⟩
  | 34 => ⟨S1x1, .f32⟩
  | 35 => ⟨S1, .i32⟩
  | 36 => ⟨S_, .i32⟩
  | 37 => ⟨S1, .i32⟩
  | 38 => ⟨S_, .i32⟩
  | 39 => ⟨S128x100000, .i64⟩
  | 40 => ⟨S128x100000, .i64⟩
  | 41 => ⟨S_, .i64⟩
  | 42 => ⟨S128x100000, .i64⟩
  | 43 => ⟨S128x100000, .i64⟩
  | 44 => ⟨S_, .i64⟩
  | 45 => ⟨S128x100000, .i64⟩
  | 46 => ⟨S128x100000, .i64⟩
  | 47 => ⟨S128x100000, .i64⟩
  | 48 => ⟨S_, .i64⟩
  | 49 => ⟨S128x100000, .i64⟩
  | 50 => ⟨S128x100000, .i64⟩
  | 51 => ⟨S128x100000, .i32⟩
  | 52 => ⟨S128x100000, .i32⟩
  | 53 => ⟨S_, .i32⟩
  | 54 => ⟨S_, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S_, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S128x100000, .i32⟩
  | 87 => ⟨S128x100000, .i32⟩
  | 88 => ⟨S_, .i32⟩
  | 89 => ⟨S128x100000, .i32⟩
  | 90 => ⟨S128x100000, .i32⟩
  | 91 => ⟨S_, .i32⟩
  | 92 => ⟨S128x100000, .i32⟩
  | 93 => ⟨S128x100000, .i32⟩
  | 94 => ⟨S128x100000, .i32⟩
  | 95 => ⟨S128x100000, .i32⟩
  | 96 => ⟨S128x100000, .i32⟩
  | 97 => ⟨S128x100000, .i32⟩
  | 98 => ⟨S128x100000, .i32⟩
  | 99 => ⟨S128x100000, .i32⟩
  | 100 => ⟨S_, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S_, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_1 (i : Nat) : BufTy := match i % 128 with
  | 0 => ⟨S128x100000, .i32⟩
  | 1 => ⟨S128x100000, .i32⟩
  | 2 => ⟨S128x100000, .i32⟩
  | 3 => ⟨S_, .i32⟩
  | 4 => ⟨S128x100000, .i32⟩
  | 5 => ⟨S128x100000, .i32⟩
  | 6 => ⟨S_, .i32⟩
  | 7 => ⟨S128x100000, .i32⟩
  | 8 => ⟨S128x100000, .i32⟩
  | 9 => ⟨S128x100000, .i32⟩
  | 10 => ⟨S128x100000, .i32⟩
  | 11 => ⟨S128x100000, .i32⟩
  | 12 => ⟨S128x100000, .i32⟩
  | 13 => ⟨S128x100000, .i32⟩
  | 14 => ⟨S128x100000, .i32⟩
  | 15 => ⟨S_, .i32⟩
  | 16 => ⟨S128x100000, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S128x100000, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S128x100000, .i32⟩
  | 53 => ⟨S128x100000, .i32⟩
  | 54 => ⟨S128x100000, .i32⟩
  | 55 => ⟨S128x100000, .i32⟩
  | 56 => ⟨S128x100000, .i32⟩
  | 57 => ⟨S128x100000, .i32⟩
  | 58 => ⟨S_, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S128x100000, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S_, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S_, .i32⟩
  | 93 => ⟨S128x100000, .i32⟩
  | 94 => ⟨S128x100000, .i32⟩
  | 95 => ⟨S128x100000, .i32⟩
  | 96 => ⟨S128x100000, .i32⟩
  | 97 => ⟨S128x100000, .i32⟩
  | 98 => ⟨S128x100000, .i32⟩
  | 99 => ⟨S128x100000, .i32⟩
  | 100 => ⟨S128x100000, .i32⟩
  | 101 => ⟨S_, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S128x100000, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S_, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_2 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S128x100000, .i32⟩
  | 11 => ⟨S128x100000, .i32⟩
  | 12 => ⟨S128x100000, .i32⟩
  | 13 => ⟨S128x100000, .i32⟩
  | 14 => ⟨S128x100000, .i32⟩
  | 15 => ⟨S128x100000, .i32⟩
  | 16 => ⟨S_, .i32⟩
  | 17 => ⟨S128x100000, .i32⟩
  | 18 => ⟨S128x100000, .i32⟩
  | 19 => ⟨S128x100000, .i32⟩
  | 20 => ⟨S_, .i32⟩
  | 21 => ⟨S128x100000, .i32⟩
  | 22 => ⟨S128x100000, .i32⟩
  | 23 => ⟨S_, .i32⟩
  | 24 => ⟨S128x100000, .i32⟩
  | 25 => ⟨S128x100000, .i32⟩
  | 26 => ⟨S128x100000, .f32⟩
  | 27 => ⟨S_, .f32⟩
  | 28 => ⟨S128x100000, .f32⟩
  | 29 => ⟨S128x100000, .f32⟩
  | 30 => ⟨S1x1, .f32⟩
  | 31 => ⟨S128x100000, .f32⟩
  | 32 => ⟨S128x100000, .f32⟩
  | 33 => ⟨S128x100000, .f32⟩
  | 34 => ⟨S128x100000, .f32⟩
  | 35 => ⟨S128x100000, .f32⟩
  | 36 => ⟨S128x100000, .f32⟩
  | 37 => ⟨S128x100000, .f32⟩
  | 38 => ⟨S128x100000, .f32⟩
  | 39 => ⟨S128x100000, .f32⟩
  | 40 => ⟨S_, .f32⟩
  | 41 => ⟨S_, .f32⟩
  | 42 => ⟨S128x100000, .f32⟩
  | 43 => ⟨S128x100000, .f32⟩
  | 44 => ⟨S128x100000, .f32⟩
  | 45 => ⟨S128x100000, .i32⟩
  | 46 => ⟨S_, .f32⟩
  | 47 => ⟨S_, .i32⟩
  | 48 => ⟨S128, .f32⟩
  | 49 => ⟨S128, .i32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_cst : Ref sig .tc := ⟨.hbm, 29, rfl⟩
abbrev main_call0_cst_0 : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_v9 : Ref sig .tc := ⟨.hbm, 40, rfl⟩
abbrev main_call0_call0_c : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_call0_c_0 : Ref sig .tc := ⟨.hbm, 44, rfl⟩
abbrev main_call0_call0_v12 : Ref sig .tc := ⟨.hbm, 45, rfl⟩
abbrev main_call0_call0_v13 : Ref sig .tc := ⟨.hbm, 46, rfl⟩
abbrev main_call0_call0_v14 : Ref sig .tc := ⟨.hbm, 47, rfl⟩
abbrev main_call0_call0_c_1 : Ref sig .tc := ⟨.hbm, 48, rfl⟩
abbrev main_call0_call0_v15 : Ref sig .tc := ⟨.hbm, 49, rfl⟩
abbrev main_call0_call0_v16 : Ref sig .tc := ⟨.hbm, 50, rfl⟩
abbrev main_call0_call0_v17 : Ref sig .tc := ⟨.hbm, 51, rfl⟩
abbrev main_call0_call0_v18 : Ref sig .tc := ⟨.hbm, 52, rfl⟩
abbrev main_call0_call0_call0_v0 : Ref sig .tc := ⟨.hbm, 53, rfl⟩
abbrev main_call0_call0_call0_c : Ref sig .tc := ⟨.hbm, 54, rfl⟩
abbrev main_call0_call0_call0_v1 : Ref sig .tc := ⟨.hbm, 55, rfl⟩
abbrev main_call0_call0_call0_v2 : Ref sig .tc := ⟨.hbm, 56, rfl⟩
abbrev main_call0_call0_call0_v3 : Ref sig .tc := ⟨.hbm, 57, rfl⟩
abbrev main_call0_call0_call0_v4 : Ref sig .tc := ⟨.hbm, 58, rfl⟩
abbrev main_call0_call0_call0_v5 : Ref sig .tc := ⟨.hbm, 59, rfl⟩
abbrev main_call0_call0_call0_v6 : Ref sig .tc := ⟨.hbm, 60, rfl⟩
abbrev main_call0_call0_call0_c_0 : Ref sig .tc := ⟨.hbm, 61, rfl⟩
abbrev main_call0_call0_call0_v7 : Ref sig .tc := ⟨.hbm, 62, rfl⟩
abbrev main_call0_call0_call0_v8 : Ref sig .tc := ⟨.hbm, 63, rfl⟩
abbrev main_call0_call0_call0_c_1 : Ref sig .tc := ⟨.hbm, 64, rfl⟩
abbrev main_call0_call0_call0_v9 : Ref sig .tc := ⟨.hbm, 65, rfl⟩
abbrev main_call0_call0_call0_v10 : Ref sig .tc := ⟨.hbm, 66, rfl⟩
abbrev main_call0_call0_call0_v11 : Ref sig .tc := ⟨.hbm, 67, rfl⟩
abbrev main_call0_call0_call0_v12 : Ref sig .tc := ⟨.hbm, 68, rfl⟩
abbrev main_call0_call0_call0_v13 : Ref sig .tc := ⟨.hbm, 69, rfl⟩
abbrev main_call0_call0_call0_c_2 : Ref sig .tc := ⟨.hbm, 70, rfl⟩
abbrev main_call0_call0_call0_v14 : Ref sig .tc := ⟨.hbm, 71, rfl⟩
abbrev main_call0_call0_call0_v15 : Ref sig .tc := ⟨.hbm, 72, rfl⟩
abbrev main_call0_call0_call0_c_3 : Ref sig .tc := ⟨.hbm, 73, rfl⟩
abbrev main_call0_call0_call0_v16 : Ref sig .tc := ⟨.hbm, 74, rfl⟩
abbrev main_call0_call0_call0_v17 : Ref sig .tc := ⟨.hbm, 75, rfl⟩
abbrev main_call0_call0_call0_v18 : Ref sig .tc := ⟨.hbm, 76, rfl⟩
abbrev main_call0_call0_call0_v19 : Ref sig .tc := ⟨.hbm, 77, rfl⟩
abbrev main_call0_call0_call0_v20 : Ref sig .tc := ⟨.hbm, 78, rfl⟩
abbrev main_call0_call0_call0_c_4 : Ref sig .tc := ⟨.hbm, 79, rfl⟩
abbrev main_call0_call0_call0_v21 : Ref sig .tc := ⟨.hbm, 80, rfl⟩
abbrev main_call0_call0_call0_v22 : Ref sig .tc := ⟨.hbm, 81, rfl⟩
abbrev main_call0_call0_call0_c_5 : Ref sig .tc := ⟨.hbm, 82, rfl⟩
abbrev main_call0_call0_call0_v23 : Ref sig .tc := ⟨.hbm, 83, rfl⟩
abbrev main_call0_call0_call0_v24 : Ref sig .tc := ⟨.hbm, 84, rfl⟩
abbrev main_call0_call0_call0_v25 : Ref sig .tc := ⟨.hbm, 85, rfl⟩
abbrev main_call0_call0_call0_v26 : Ref sig .tc := ⟨.hbm, 86, rfl⟩
abbrev main_call0_call0_call0_v27 : Ref sig .tc := ⟨.hbm, 87, rfl⟩
abbrev main_call0_call0_call0_c_6 : Ref sig .tc := ⟨.hbm, 88, rfl⟩
abbrev main_call0_call0_call0_v28 : Ref sig .tc := ⟨.hbm, 89, rfl⟩
abbrev main_call0_call0_call0_v29 : Ref sig .tc := ⟨.hbm, 90, rfl⟩
abbrev main_call0_call0_call0_c_7 : Ref sig .tc := ⟨.hbm, 91, rfl⟩
abbrev main_call0_call0_call0_v30 : Ref sig .tc := ⟨.hbm, 92, rfl⟩
abbrev main_call0_call0_call0_v31 : Ref sig .tc := ⟨.hbm, 93, rfl⟩
abbrev main_call0_call0_call0_v32 : Ref sig .tc := ⟨.hbm, 94, rfl⟩
abbrev main_call0_call0_call0_v33 : Ref sig .tc := ⟨.hbm, 95, rfl⟩
abbrev main_call0_call0_call0_v34 : Ref sig .tc := ⟨.hbm, 96, rfl⟩
abbrev main_call0_call0_call0_v35 : Ref sig .tc := ⟨.hbm, 97, rfl⟩
abbrev main_call0_call0_call0_v36 : Ref sig .tc := ⟨.hbm, 98, rfl⟩
abbrev main_call0_call0_call0_v37 : Ref sig .tc := ⟨.hbm, 99, rfl⟩
abbrev main_call0_call0_call0_c_8 : Ref sig .tc := ⟨.hbm, 100, rfl⟩
abbrev main_call0_call0_call0_v38 : Ref sig .tc := ⟨.hbm, 101, rfl⟩
abbrev main_call0_call0_call0_v39 : Ref sig .tc := ⟨.hbm, 102, rfl⟩
abbrev main_call0_call0_call0_v40 : Ref sig .tc := ⟨.hbm, 103, rfl⟩
abbrev main_call0_call0_call0_c_9 : Ref sig .tc := ⟨.hbm, 104, rfl⟩
abbrev main_call0_call0_call0_v41 : Ref sig .tc := ⟨.hbm, 105, rfl⟩
abbrev main_call0_call0_call0_v42 : Ref sig .tc := ⟨.hbm, 106, rfl⟩
abbrev main_call0_call0_call0_c_10 : Ref sig .tc := ⟨.hbm, 107, rfl⟩
abbrev main_call0_call0_call0_v43 : Ref sig .tc := ⟨.hbm, 108, rfl⟩
abbrev main_call0_call0_call0_v44 : Ref sig .tc := ⟨.hbm, 109, rfl⟩
abbrev main_call0_call0_call0_v45 : Ref sig .tc := ⟨.hbm, 110, rfl⟩
abbrev main_call0_call0_call0_v46 : Ref sig .tc := ⟨.hbm, 111, rfl⟩
abbrev main_call0_call0_call0_v47 : Ref sig .tc := ⟨.hbm, 112, rfl⟩
abbrev main_call0_call0_call0_c_11 : Ref sig .tc := ⟨.hbm, 113, rfl⟩
abbrev main_call0_call0_call0_v48 : Ref sig .tc := ⟨.hbm, 114, rfl⟩
abbrev main_call0_call0_call0_v49 : Ref sig .tc := ⟨.hbm, 115, rfl⟩
abbrev main_call0_call0_call0_c_12 : Ref sig .tc := ⟨.hbm, 116, rfl⟩
abbrev main_call0_call0_call0_v50 : Ref sig .tc := ⟨.hbm, 117, rfl⟩
abbrev main_call0_call0_call0_v51 : Ref sig .tc := ⟨.hbm, 118, rfl⟩
abbrev main_call0_call0_call0_v52 : Ref sig .tc := ⟨.hbm, 119, rfl⟩
abbrev main_call0_call0_call0_v53 : Ref sig .tc := ⟨.hbm, 120, rfl⟩
abbrev main_call0_call0_call0_v54 : Ref sig .tc := ⟨.hbm, 121, rfl⟩
abbrev main_call0_call0_call0_c_13 : Ref sig .tc := ⟨.hbm, 122, rfl⟩
abbrev main_call0_call0_call0_v55 : Ref sig .tc := ⟨.hbm, 123, rfl⟩
abbrev main_call0_call0_call0_v56 : Ref sig .tc := ⟨.hbm, 124, rfl⟩
abbrev main_call0_call0_call0_c_14 : Ref sig .tc := ⟨.hbm, 125, rfl⟩
abbrev main_call0_call0_call0_v57 : Ref sig .tc := ⟨.hbm, 126, rfl⟩
abbrev main_call0_call0_call0_v58 : Ref sig .tc := ⟨.hbm, 127, rfl⟩
abbrev main_call0_call0_call0_v59 : Ref sig .tc := ⟨.hbm, 128, rfl⟩
abbrev main_call0_call0_call0_v60 : Ref sig .tc := ⟨.hbm, 129, rfl⟩
abbrev main_call0_call0_call0_v61 : Ref sig .tc := ⟨.hbm, 130, rfl⟩
abbrev main_call0_call0_call0_c_15 : Ref sig .tc := ⟨.hbm, 131, rfl⟩
abbrev main_call0_call0_call0_v62 : Ref sig .tc := ⟨.hbm, 132, rfl⟩
abbrev main_call0_call0_call0_v63 : Ref sig .tc := ⟨.hbm, 133, rfl⟩
abbrev main_call0_call0_call0_c_16 : Ref sig .tc := ⟨.hbm, 134, rfl⟩
abbrev main_call0_call0_call0_v64 : Ref sig .tc := ⟨.hbm, 135, rfl⟩
abbrev main_call0_call0_call0_v65 : Ref sig .tc := ⟨.hbm, 136, rfl⟩
abbrev main_call0_call0_call0_v66 : Ref sig .tc := ⟨.hbm, 137, rfl⟩
abbrev main_call0_call0_call0_v67 : Ref sig .tc := ⟨.hbm, 138, rfl⟩
abbrev main_call0_call0_call0_v68 : Ref sig .tc := ⟨.hbm, 139, rfl⟩
abbrev main_call0_call0_call0_v69 : Ref sig .tc := ⟨.hbm, 140, rfl⟩
abbrev main_call0_call0_call0_v70 : Ref sig .tc := ⟨.hbm, 141, rfl⟩
abbrev main_call0_call0_call0_v71 : Ref sig .tc := ⟨.hbm, 142, rfl⟩
abbrev main_call0_call0_call0_c_17 : Ref sig .tc := ⟨.hbm, 143, rfl⟩
abbrev main_call0_call0_call0_v72 : Ref sig .tc := ⟨.hbm, 144, rfl⟩
abbrev main_call0_call0_call0_v73 : Ref sig .tc := ⟨.hbm, 145, rfl⟩
abbrev main_call0_call0_call0_v74 : Ref sig .tc := ⟨.hbm, 146, rfl⟩
abbrev main_call0_call0_call0_c_18 : Ref sig .tc := ⟨.hbm, 147, rfl⟩
abbrev main_call0_call0_call0_v75 : Ref sig .tc := ⟨.hbm, 148, rfl⟩
abbrev main_call0_call0_call0_v76 : Ref sig .tc := ⟨.hbm, 149, rfl⟩
abbrev main_call0_call0_call0_c_19 : Ref sig .tc := ⟨.hbm, 150, rfl⟩
abbrev main_call0_call0_call0_v77 : Ref sig .tc := ⟨.hbm, 151, rfl⟩
abbrev main_call0_call0_call0_v78 : Ref sig .tc := ⟨.hbm, 152, rfl⟩
abbrev main_call0_call0_call0_v79 : Ref sig .tc := ⟨.hbm, 153, rfl⟩
abbrev main_call0_call0_call0_v80 : Ref sig .tc := ⟨.hbm, 154, rfl⟩
abbrev main_call0_call0_call0_v81 : Ref sig .tc := ⟨.hbm, 155, rfl⟩
abbrev main_call0_call0_call0_c_20 : Ref sig .tc := ⟨.hbm, 156, rfl⟩
abbrev main_call0_call0_call0_v82 : Ref sig .tc := ⟨.hbm, 157, rfl⟩
abbrev main_call0_call0_call0_v83 : Ref sig .tc := ⟨.hbm, 158, rfl⟩
abbrev main_call0_call0_call0_c_21 : Ref sig .tc := ⟨.hbm, 159, rfl⟩
abbrev main_call0_call0_call0_v84 : Ref sig .tc := ⟨.hbm, 160, rfl⟩
abbrev main_call0_call0_call0_v85 : Ref sig .tc := ⟨.hbm, 161, rfl⟩
abbrev main_call0_call0_call0_v86 : Ref sig .tc := ⟨.hbm, 162, rfl⟩
abbrev main_call0_call0_call0_v87 : Ref sig .tc := ⟨.hbm, 163, rfl⟩
abbrev main_call0_call0_call0_v88 : Ref sig .tc := ⟨.hbm, 164, rfl⟩
abbrev main_call0_call0_call0_c_22 : Ref sig .tc := ⟨.hbm, 165, rfl⟩
abbrev main_call0_call0_call0_v89 : Ref sig .tc := ⟨.hbm, 166, rfl⟩
abbrev main_call0_call0_call0_v90 : Ref sig .tc := ⟨.hbm, 167, rfl⟩
abbrev main_call0_call0_call0_c_23 : Ref sig .tc := ⟨.hbm, 168, rfl⟩
abbrev main_call0_call0_call0_v91 : Ref sig .tc := ⟨.hbm, 169, rfl⟩
abbrev main_call0_call0_call0_v92 : Ref sig .tc := ⟨.hbm, 170, rfl⟩
abbrev main_call0_call0_call0_v93 : Ref sig .tc := ⟨.hbm, 171, rfl⟩
abbrev main_call0_call0_call0_v94 : Ref sig .tc := ⟨.hbm, 172, rfl⟩
abbrev main_call0_call0_call0_v95 : Ref sig .tc := ⟨.hbm, 173, rfl⟩
abbrev main_call0_call0_call0_c_24 : Ref sig .tc := ⟨.hbm, 174, rfl⟩
abbrev main_call0_call0_call0_v96 : Ref sig .tc := ⟨.hbm, 175, rfl⟩
abbrev main_call0_call0_call0_v97 : Ref sig .tc := ⟨.hbm, 176, rfl⟩
abbrev main_call0_call0_call0_c_25 : Ref sig .tc := ⟨.hbm, 177, rfl⟩
abbrev main_call0_call0_call0_v98 : Ref sig .tc := ⟨.hbm, 178, rfl⟩
abbrev main_call0_call0_call0_v99 : Ref sig .tc := ⟨.hbm, 179, rfl⟩
abbrev main_call0_call0_call0_v100 : Ref sig .tc := ⟨.hbm, 180, rfl⟩
abbrev main_call0_call0_call0_v101 : Ref sig .tc := ⟨.hbm, 181, rfl⟩
abbrev main_call0_call0_call0_v102 : Ref sig .tc := ⟨.hbm, 182, rfl⟩
abbrev main_call0_call0_call0_v103 : Ref sig .tc := ⟨.hbm, 183, rfl⟩
abbrev main_call0_call0_call0_v104 : Ref sig .tc := ⟨.hbm, 184, rfl⟩
abbrev main_call0_call0_call0_v105 : Ref sig .tc := ⟨.hbm, 185, rfl⟩
abbrev main_call0_call0_call0_c_26 : Ref sig .tc := ⟨.hbm, 186, rfl⟩
abbrev main_call0_call0_call0_v106 : Ref sig .tc := ⟨.hbm, 187, rfl⟩
abbrev main_call0_call0_call0_v107 : Ref sig .tc := ⟨.hbm, 188, rfl⟩
abbrev main_call0_call0_call0_v108 : Ref sig .tc := ⟨.hbm, 189, rfl⟩
abbrev main_call0_call0_call0_c_27 : Ref sig .tc := ⟨.hbm, 190, rfl⟩
abbrev main_call0_call0_call0_v109 : Ref sig .tc := ⟨.hbm, 191, rfl⟩
abbrev main_call0_call0_call0_v110 : Ref sig .tc := ⟨.hbm, 192, rfl⟩
abbrev main_call0_call0_call0_c_28 : Ref sig .tc := ⟨.hbm, 193, rfl⟩
abbrev main_call0_call0_call0_v111 : Ref sig .tc := ⟨.hbm, 194, rfl⟩
abbrev main_call0_call0_call0_v112 : Ref sig .tc := ⟨.hbm, 195, rfl⟩
abbrev main_call0_call0_call0_v113 : Ref sig .tc := ⟨.hbm, 196, rfl⟩
abbrev main_call0_call0_call0_v114 : Ref sig .tc := ⟨.hbm, 197, rfl⟩
abbrev main_call0_call0_call0_v115 : Ref sig .tc := ⟨.hbm, 198, rfl⟩
abbrev main_call0_call0_call0_c_29 : Ref sig .tc := ⟨.hbm, 199, rfl⟩
abbrev main_call0_call0_call0_v116 : Ref sig .tc := ⟨.hbm, 200, rfl⟩
abbrev main_call0_call0_call0_v117 : Ref sig .tc := ⟨.hbm, 201, rfl⟩
abbrev main_call0_call0_call0_c_30 : Ref sig .tc := ⟨.hbm, 202, rfl⟩
abbrev main_call0_call0_call0_v118 : Ref sig .tc := ⟨.hbm, 203, rfl⟩
abbrev main_call0_call0_call0_v119 : Ref sig .tc := ⟨.hbm, 204, rfl⟩
abbrev main_call0_call0_call0_v120 : Ref sig .tc := ⟨.hbm, 205, rfl⟩
abbrev main_call0_call0_call0_v121 : Ref sig .tc := ⟨.hbm, 206, rfl⟩
abbrev main_call0_call0_call0_v122 : Ref sig .tc := ⟨.hbm, 207, rfl⟩
abbrev main_call0_call0_call0_c_31 : Ref sig .tc := ⟨.hbm, 208, rfl⟩
abbrev main_call0_call0_call0_v123 : Ref sig .tc := ⟨.hbm, 209, rfl⟩
abbrev main_call0_call0_call0_v124 : Ref sig .tc := ⟨.hbm, 210, rfl⟩
abbrev main_call0_call0_call0_c_32 : Ref sig .tc := ⟨.hbm, 211, rfl⟩
abbrev main_call0_call0_call0_v125 : Ref sig .tc := ⟨.hbm, 212, rfl⟩
abbrev main_call0_call0_call0_v126 : Ref sig .tc := ⟨.hbm, 213, rfl⟩
abbrev main_call0_call0_call0_v127 : Ref sig .tc := ⟨.hbm, 214, rfl⟩
abbrev main_call0_call0_call0_v128 : Ref sig .tc := ⟨.hbm, 215, rfl⟩
abbrev main_call0_call0_call0_v129 : Ref sig .tc := ⟨.hbm, 216, rfl⟩
abbrev main_call0_call0_call0_c_33 : Ref sig .tc := ⟨.hbm, 217, rfl⟩
abbrev main_call0_call0_call0_v130 : Ref sig .tc := ⟨.hbm, 218, rfl⟩
abbrev main_call0_call0_call0_v131 : Ref sig .tc := ⟨.hbm, 219, rfl⟩
abbrev main_call0_call0_call0_c_34 : Ref sig .tc := ⟨.hbm, 220, rfl⟩
abbrev main_call0_call0_call0_v132 : Ref sig .tc := ⟨.hbm, 221, rfl⟩
abbrev main_call0_call0_call0_v133 : Ref sig .tc := ⟨.hbm, 222, rfl⟩
abbrev main_call0_call0_call0_v134 : Ref sig .tc := ⟨.hbm, 223, rfl⟩
abbrev main_call0_call0_call0_v135 : Ref sig .tc := ⟨.hbm, 224, rfl⟩
abbrev main_call0_call0_call0_v136 : Ref sig .tc := ⟨.hbm, 225, rfl⟩
abbrev main_call0_call0_call0_v137 : Ref sig .tc := ⟨.hbm, 226, rfl⟩
abbrev main_call0_call0_call0_v138 : Ref sig .tc := ⟨.hbm, 227, rfl⟩
abbrev main_call0_call0_call0_v139 : Ref sig .tc := ⟨.hbm, 228, rfl⟩
abbrev main_call0_call0_call0_c_35 : Ref sig .tc := ⟨.hbm, 229, rfl⟩
abbrev main_call0_call0_call0_v140 : Ref sig .tc := ⟨.hbm, 230, rfl⟩
abbrev main_call0_call0_call0_v141 : Ref sig .tc := ⟨.hbm, 231, rfl⟩
abbrev main_call0_call0_call0_v142 : Ref sig .tc := ⟨.hbm, 232, rfl⟩
abbrev main_call0_call0_call0_c_36 : Ref sig .tc := ⟨.hbm, 233, rfl⟩
abbrev main_call0_call0_call0_v143 : Ref sig .tc := ⟨.hbm, 234, rfl⟩
abbrev main_call0_call0_call0_v144 : Ref sig .tc := ⟨.hbm, 235, rfl⟩
abbrev main_call0_call0_call0_c_37 : Ref sig .tc := ⟨.hbm, 236, rfl⟩
abbrev main_call0_call0_call0_v145 : Ref sig .tc := ⟨.hbm, 237, rfl⟩
abbrev main_call0_call0_call0_v146 : Ref sig .tc := ⟨.hbm, 238, rfl⟩
abbrev main_call0_call0_call0_v147 : Ref sig .tc := ⟨.hbm, 239, rfl⟩
abbrev main_call0_call0_call0_v148 : Ref sig .tc := ⟨.hbm, 240, rfl⟩
abbrev main_call0_call0_call0_v149 : Ref sig .tc := ⟨.hbm, 241, rfl⟩
abbrev main_call0_call0_call0_c_38 : Ref sig .tc := ⟨.hbm, 242, rfl⟩
abbrev main_call0_call0_call0_v150 : Ref sig .tc := ⟨.hbm, 243, rfl⟩
abbrev main_call0_call0_call0_v151 : Ref sig .tc := ⟨.hbm, 244, rfl⟩
abbrev main_call0_call0_call0_c_39 : Ref sig .tc := ⟨.hbm, 245, rfl⟩
abbrev main_call0_call0_call0_v152 : Ref sig .tc := ⟨.hbm, 246, rfl⟩
abbrev main_call0_call0_call0_v153 : Ref sig .tc := ⟨.hbm, 247, rfl⟩
abbrev main_call0_call0_call0_v154 : Ref sig .tc := ⟨.hbm, 248, rfl⟩
abbrev main_call0_call0_call0_v155 : Ref sig .tc := ⟨.hbm, 249, rfl⟩
abbrev main_call0_call0_call0_v156 : Ref sig .tc := ⟨.hbm, 250, rfl⟩
abbrev main_call0_call0_call0_c_40 : Ref sig .tc := ⟨.hbm, 251, rfl⟩
abbrev main_call0_call0_call0_v157 : Ref sig .tc := ⟨.hbm, 252, rfl⟩
abbrev main_call0_call0_call0_v158 : Ref sig .tc := ⟨.hbm, 253, rfl⟩
abbrev main_call0_call0_call0_c_41 : Ref sig .tc := ⟨.hbm, 254, rfl⟩
abbrev main_call0_call0_call0_v159 : Ref sig .tc := ⟨.hbm, 255, rfl⟩
abbrev main_call0_call0_call0_v160 : Ref sig .tc := ⟨.hbm, 256, rfl⟩
abbrev main_call0_call0_call0_v161 : Ref sig .tc := ⟨.hbm, 257, rfl⟩
abbrev main_call0_call0_call0_v162 : Ref sig .tc := ⟨.hbm, 258, rfl⟩
abbrev main_call0_call0_call0_v163 : Ref sig .tc := ⟨.hbm, 259, rfl⟩
abbrev main_call0_call0_call0_c_42 : Ref sig .tc := ⟨.hbm, 260, rfl⟩
abbrev main_call0_call0_call0_v164 : Ref sig .tc := ⟨.hbm, 261, rfl⟩
abbrev main_call0_call0_call0_v165 : Ref sig .tc := ⟨.hbm, 262, rfl⟩
abbrev main_call0_call0_call0_c_43 : Ref sig .tc := ⟨.hbm, 263, rfl⟩
abbrev main_call0_call0_call0_v166 : Ref sig .tc := ⟨.hbm, 264, rfl⟩
abbrev main_call0_call0_call0_v167 : Ref sig .tc := ⟨.hbm, 265, rfl⟩
abbrev main_call0_call0_call0_v168 : Ref sig .tc := ⟨.hbm, 266, rfl⟩
abbrev main_call0_call0_call0_v169 : Ref sig .tc := ⟨.hbm, 267, rfl⟩
abbrev main_call0_call0_call0_v170 : Ref sig .tc := ⟨.hbm, 268, rfl⟩
abbrev main_call0_call0_v19_0 : Ref sig .tc := ⟨.hbm, 269, rfl⟩
abbrev main_call0_call0_call0_v172 : Ref sig .tc := ⟨.hbm, 270, rfl⟩
abbrev main_call0_call0_call0_v173 : Ref sig .tc := ⟨.hbm, 271, rfl⟩
abbrev main_call0_call0_call0_c_44 : Ref sig .tc := ⟨.hbm, 272, rfl⟩
abbrev main_call0_call0_call0_v174 : Ref sig .tc := ⟨.hbm, 273, rfl⟩
abbrev main_call0_call0_v19_1 : Ref sig .tc := ⟨.hbm, 274, rfl⟩
abbrev main_call0_call0_v20 : Ref sig .tc := ⟨.hbm, 275, rfl⟩
abbrev main_call0_call0_c_2 : Ref sig .tc := ⟨.hbm, 276, rfl⟩
abbrev main_call0_call0_v21 : Ref sig .tc := ⟨.hbm, 277, rfl⟩
abbrev main_call0_call0_v22 : Ref sig .tc := ⟨.hbm, 278, rfl⟩
abbrev main_call0_call0_c_3 : Ref sig .tc := ⟨.hbm, 279, rfl⟩
abbrev main_call0_call0_v23 : Ref sig .tc := ⟨.hbm, 280, rfl⟩
abbrev main_call0_call0_v24 : Ref sig .tc := ⟨.hbm, 281, rfl⟩
abbrev main_call0_call0_v25 : Ref sig .tc := ⟨.hbm, 282, rfl⟩
abbrev main_call0_call0_cst : Ref sig .tc := ⟨.hbm, 283, rfl⟩
abbrev main_call0_call0_v26 : Ref sig .tc := ⟨.hbm, 284, rfl⟩
abbrev main_call0_call0_v27 : Ref sig .tc := ⟨.hbm, 285, rfl⟩
abbrev main_call0_call0_v28 : Ref sig .tc := ⟨.hbm, 286, rfl⟩
abbrev main_call0_call0_v29 : Ref sig .tc := ⟨.hbm, 287, rfl⟩
abbrev main_call0_call0_v30 : Ref sig .tc := ⟨.hbm, 288, rfl⟩
abbrev main_call0_call0_v31 : Ref sig .tc := ⟨.hbm, 289, rfl⟩
abbrev main_call0_call0_v32 : Ref sig .tc := ⟨.hbm, 290, rfl⟩
abbrev main_call0_call0_v33 : Ref sig .tc := ⟨.hbm, 291, rfl⟩
abbrev main_call0_v0 : Ref sig .tc := ⟨.hbm, 292, rfl⟩
abbrev main_call0_v1 : Ref sig .tc := ⟨.hbm, 293, rfl⟩
abbrev main_call0_v2 : Ref sig .tc := ⟨.hbm, 294, rfl⟩
abbrev main_v21 : Ref sig .tc := ⟨.hbm, 295, rfl⟩
abbrev main_cst_4 : Ref sig .tc := ⟨.hbm, 296, rfl⟩
abbrev main_call1_v0 : Ref sig .tc := ⟨.hbm, 297, rfl⟩
abbrev main_call1_v1 : Ref sig .tc := ⟨.hbm, 298, rfl⟩
abbrev main_v22 : Ref sig .tc := ⟨.hbm, 299, rfl⟩
abbrev main_v23 : Ref sig .tc := ⟨.hbm, 300, rfl⟩
abbrev main_call2_v0 : Ref sig .tc := ⟨.hbm, 301, rfl⟩
abbrev main_call2_cst : Ref sig .tc := ⟨.hbm, 302, rfl⟩
abbrev main_call2_c : Ref sig .tc := ⟨.hbm, 303, rfl⟩
abbrev main_call2_v1_0 : Ref sig .tc := ⟨.hbm, 304, rfl⟩
abbrev main_v24 : Ref sig .tc := ⟨.hbm, 305, rfl⟩

abbrev nD : Nat := 1
abbrev τ : Topo := Topo.v7x

variable {F : FTy → Type} [FloatOps F]
-- ==== Proof.KernelLoops.lean ====
/-
  The two counted loops of the sampling kernel, as loop invariants: a trip reads a tile of the logits and the inverse
  temperatures, and rewrites the same tile of the two running arrays. For the frame nothing is said of the contents.
-/
module

public import proofs.«01_k».proof.Proof.Gen.Kernel.Frame
public import proofs.«01_k».proof.Proof.Gen.Kernel.Loops
public import proofs.«01_k».proof.Proof.Gen.Kernel.Skeleton

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Where a trip's tiles lie -/

/-- Where a trip of the first loop reads the scaled temperatures. -/
theorem off1_eq : ∀ t, k0_off1 t = ![16 * (t.val / 4), 0] := by decide +kernel
/-- Its first tile. -/
theorem off2_eq : ∀ t, k0_off2 t = ![16 * (t.val / 4), 1024 * (t.val % 4)] := by decide +kernel
/-- Its second tile. -/
theorem off3_eq : ∀ t, k0_off3 t = ![16 * (t.val / 4), 1024 * (t.val % 4) + 512] := by decide +kernel
/-- Where a trip of the second loop reads the scaled temperatures. -/
theorem off4_eq : ∀ t, k0_off4 t = ![16 * (t.val / 4), 0] := by decide +kernel
/-- Its first tile. -/
theorem off5_eq : ∀ t, k0_off5 t = ![16 * (t.val / 4), 1024 * (t.val % 4)] := by decide +kernel
/-- Its second tile. -/
theorem off6_eq : ∀ t, k0_off6 t = ![16 * (t.val / 4), 1024 * (t.val % 4) + 512] := by decide +kernel

instance (t : Fin k0_t1_loop.trips) : ClosedOff (k0_off2 t) := ⟨_, off2_eq t⟩
instance (t : Fin k0_t1_loop.trips) : ClosedOff (k0_off3 t) := ⟨_, off3_eq t⟩
instance (t : Fin k0_t2_loop.trips) : ClosedOff (k0_off5 t) := ⟨_, off5_eq t⟩
instance (t : Fin k0_t2_loop.trips) : ClosedOff (k0_off6 t) := ⟨_, off6_eq t⟩

/-- A buffer read and written through a memref, whole, at contents nothing names. -/
abbrev held (c : Dev nD) {sp : Space} {S : Shape} {e : EltTy} (M : Memref sig .tc sp S e) : sProp 𝕄 :=
  iprop(∃ f, M.view.loc (c : Thread nD τ) ↦[M.view.set]{fullShare} f)

/-- The loop over whole chunks touches the logits' block, the two running arrays and the inverse temperatures. -/
@[sl_loop, instance_reducible] def loopInv_k0_t1 (c : Dev nD) (i : grid0.Coords) (arg1 : Memref sig .tc .vmem S128x4096 .f32) (harg1 : arg1.IsWhole) (arg2 : Memref sig .tc .vmem S128x1 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x4096 .f32) (harg5 : arg5.IsWhole) (arg6 : Memref sig .tc .vmem S128x4096 .i32) (harg6 : arg6.IsWhole) (arg7 : Memref sig .tc .vmem S128x1 .f32) (harg7 : arg7.IsWhole) (v8 : BitVec 32) (k0_h2 : k0_cond2 i = 1#1) :
    Gen.LoopInvTy_k0_t1 (F := F) Unit ℕ (UR sig nD τ) ℕ Variants.none c none Set.univ i arg1 harg1 arg2 harg2 arg3 harg3 arg4 harg4 arg5 harg5 arg6 harg6 arg7 harg7 v8 k0_h2 where
  inv := fun _ _ => iprop(held c arg1 ∗ held c arg5 ∗ held c arg6 ∗ held c arg7)
  step := fun k acc => by
    unfold Gen.k0_t1_body
    iintro ⟨⟨%f1, H1⟩, ⟨%f5, H5⟩, ⟨%f6, H6⟩, ⟨%f7, H7⟩⟩
    sl_exec
    sl_step
    sl_close

/-- The loop over the last, partial chunk touches the same buffers. -/
@[sl_loop, instance_reducible] def loopInv_k0_t2 (c : Dev nD) (i : grid0.Coords) (arg1 : Memref sig .tc .vmem S128x4096 .f32) (harg1 : arg1.IsWhole) (arg2 : Memref sig .tc .vmem S128x1 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x4096 .f32) (harg5 : arg5.IsWhole) (arg6 : Memref sig .tc .vmem S128x4096 .i32) (harg6 : arg6.IsWhole) (arg7 : Memref sig .tc .vmem S128x1 .f32) (harg7 : arg7.IsWhole) (arg0 : BitVec 32) (v4 : IVec S16x512 32) (v8 : BitVec 32) (k0_h3 : k0_cond3 i = 1#1) :
    Gen.LoopInvTy_k0_t2 (F := F) Unit ℕ (UR sig nD τ) ℕ Variants.none c none Set.univ i arg1 harg1 arg2 harg2 arg3 harg3 arg4 harg4 arg5 harg5 arg6 harg6 arg7 harg7 arg0 v4 v8 k0_h3 where
  inv := fun _ _ => iprop(held c arg1 ∗ held c arg5 ∗ held c arg6 ∗ held c arg7)
  step := fun k acc => by
    unfold Gen.k0_t2_body
    iintro ⟨⟨%f1, H1⟩, ⟨%f5, H5⟩, ⟨%f6, H6⟩, ⟨%f7, H7⟩⟩
    sl_exec
    sl_step
    sl_close

end Cert.Kernel.Hand

end
-- ==== Proof.KernelIdealOffsets.lean ====
/-
  Where the tiles of a trip of the kernel's two loops lie.
-/
module

public import proofs.«01_k».proof.Proof.Gen.KernelIdeal.Frame
public import proofs.«01_k».proof.Proof.Gen.KernelIdeal.Loops
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Where a trip's tiles lie -/

/-- Where a trip of the first loop reads the scaled temperatures. -/
theorem off1_eq : ∀ t, k0_off1 t = ![16 * (t.val / 4), 0] := by decide +kernel
/-- Its first tile. -/
theorem off2_eq : ∀ t, k0_off2 t = ![16 * (t.val / 4), 1024 * (t.val % 4)] := by decide +kernel
/-- Its second tile. -/
theorem off3_eq : ∀ t, k0_off3 t = ![16 * (t.val / 4), 1024 * (t.val % 4) + 512] := by decide +kernel
/-- Where a trip of the second loop reads the scaled temperatures. -/
theorem off4_eq : ∀ t, k0_off4 t = ![16 * (t.val / 4), 0] := by decide +kernel
/-- Its first tile. -/
theorem off5_eq : ∀ t, k0_off5 t = ![16 * (t.val / 4), 1024 * (t.val % 4)] := by decide +kernel
/-- Its second tile. -/
theorem off6_eq : ∀ t, k0_off6 t = ![16 * (t.val / 4), 1024 * (t.val % 4) + 512] := by decide +kernel

instance (t : Fin k0_t1_loop.trips) : ClosedOff (k0_off2 t) := ⟨_, off2_eq t⟩
instance (t : Fin k0_t1_loop.trips) : ClosedOff (k0_off3 t) := ⟨_, off3_eq t⟩
instance (t : Fin k0_t2_loop.trips) : ClosedOff (k0_off5 t) := ⟨_, off5_eq t⟩
instance (t : Fin k0_t2_loop.trips) : ClosedOff (k0_off6 t) := ⟨_, off6_eq t⟩

end Cert.KernelIdeal.Hand

end
-- ==== Proof.KernelIdealLoops.lean ====
/-
  The two counted loops of the sampling kernel, as loop invariants: a trip reads a tile of the logits and the inverse
  temperatures, and rewrites the same tile of the two running arrays. For the frame nothing is said of the contents.
-/
module

public import proofs.«01_k».proof.Proof.KernelIdealOffsets

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A buffer read and written through a memref, whole, at contents nothing names. -/
abbrev held (c : Dev nD) {sp : Space} {S : Shape} {e : EltTy} (M : Memref sig .tc sp S e) : sProp 𝕄 :=
  iprop(∃ f, M.view.loc (c : Thread nD τ) ↦[M.view.set]{fullShare} f)

/-- The loop over whole chunks touches the logits' block, the two running arrays and the inverse temperatures. -/
@[sl_loop, instance_reducible] def loopInv_k0_t1 (c : Dev nD) (i : grid0.Coords) (arg1 : Memref sig .tc .vmem S128x4096 .f32) (harg1 : arg1.IsWhole) (arg2 : Memref sig .tc .vmem S128x1 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x4096 .f32) (harg5 : arg5.IsWhole) (arg6 : Memref sig .tc .vmem S128x4096 .i32) (harg6 : arg6.IsWhole) (arg7 : Memref sig .tc .vmem S128x1 .f32) (harg7 : arg7.IsWhole) (v8 : BitVec 32) (k0_h2 : k0_cond2 i = 1#1) :
    Gen.LoopInvTy_k0_t1 (F := F) Unit ℕ (UR sig nD τ) ℕ Variants.none c none Set.univ i arg1 harg1 arg2 harg2 arg3 harg3 arg4 harg4 arg5 harg5 arg6 harg6 arg7 harg7 v8 k0_h2 where
  inv := fun _ _ => iprop(held c arg1 ∗ held c arg5 ∗ held c arg6 ∗ held c arg7)
  step := fun k acc => by
    unfold Gen.k0_t1_body
    iintro ⟨⟨%f1, H1⟩, ⟨%f5, H5⟩, ⟨%f6, H6⟩, ⟨%f7, H7⟩⟩
    sl_exec
    sl_step
    sl_close

/-- The loop over the last, partial chunk touches the same buffers. -/
@[sl_loop, instance_reducible] def loopInv_k0_t2 (c : Dev nD) (i : grid0.Coords) (arg1 : Memref sig .tc .vmem S128x4096 .f32) (harg1 : arg1.IsWhole) (arg2 : Memref sig .tc .vmem S128x1 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x4096 .f32) (harg5 : arg5.IsWhole) (arg6 : Memref sig .tc .vmem S128x4096 .i32) (harg6 : arg6.IsWhole) (arg7 : Memref sig .tc .vmem S128x1 .f32) (harg7 : arg7.IsWhole) (arg0 : BitVec 32) (v4 : IVec S16x512 32) (v8 : BitVec 32) (k0_h3 : k0_cond3 i = 1#1) :
    Gen.LoopInvTy_k0_t2 (F := F) Unit ℕ (UR sig nD τ) ℕ Variants.none c none Set.univ i arg1 harg1 arg2 harg2 arg3 harg3 arg4 harg4 arg5 harg5 arg6 harg6 arg7 harg7 arg0 v4 v8 k0_h3 where
  inv := fun _ _ => iprop(held c arg1 ∗ held c arg5 ∗ held c arg6 ∗ held c arg7)
  step := fun k acc => by
    unfold Gen.k0_t2_body
    iintro ⟨⟨%f1, H1⟩, ⟨%f5, H5⟩, ⟨%f6, H6⟩, ⟨%f7, H7⟩⟩
    sl_exec
    sl_step
    sl_close

end Cert.KernelIdeal.Hand

end
-- ==== Proof.KernelIdealFrame.lean ====
/-
  The frame of the sampling kernel: it runs to the end without a fault, its two arguments end as they were, and every
  counter ends at zero. What the running arrays, the staged blocks and the results hold is left open here.
-/
module

public import proofs.«01_k».proof.Proof.KernelIdealLoops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- One grid point: every buffer is held whole before and after. -/
theorem body_held (c : Dev nD) (i : grid0.Coords) (arg1 : Memref sig .tc .vmem S128x4096 .f32) (harg1 : arg1.IsWhole) (arg2 : Memref sig .tc .vmem S128x1 .f32) (harg2 : arg2.IsWhole) (arg3 : Memref sig .tc .vmem S128x1 .f32) (harg3 : arg3.IsWhole) (arg4 : Memref sig .tc .vmem S128x1 .i32) (harg4 : arg4.IsWhole) (arg5 : Memref sig .tc .vmem S128x4096 .f32) (harg5 : arg5.IsWhole) (arg6 : Memref sig .tc .vmem S128x4096 .i32) (harg6 : arg6.IsWhole) (arg7 : Memref sig .tc .vmem S128x1 .f32) (harg7 : arg7.IsWhole) (Φ : PUnit → sProp 𝕄) :
    (iprop(held c arg1 ∗ held c arg2 ∗ held c arg3 ∗ held c arg4 ∗ held c arg5 ∗ held c arg6 ∗ held c arg7
      ∗ ((held c arg1 ∗ held c arg2 ∗ held c arg3 ∗ held c arg4 ∗ held c arg5 ∗ held c arg6 ∗ held c arg7) -∗ Φ ⟨⟩)) : sProp 𝕄)
      ⊢ wp frame (wpE defs₀ Variants.none (c : Thread nD τ) none) Set.univ (cc0__sample_kernel (F := F) i arg1 harg1 arg2 harg2 arg3 harg3 arg4 harg4 arg5 harg5 arg6 harg6 arg7 harg7) Φ := by
  rw [cc0__sample_kernel_eq_skeleton]; unfold cc0__sample_kernel_skel
  by_cases h2 : k0_cond2 i = 1#1 <;> by_cases h3 : k0_cond3 i = 1#1 <;> by_cases h4 : k0_cond4 i = 1#1
  all_goals
    simp only [h2, h3, h4, ↓reduceDIte]
    iintro ⟨⟨%f1, H1⟩, ⟨%f2, H2⟩, ⟨%f3, H3⟩, ⟨%f4, H4⟩, ⟨%f5, H5⟩, ⟨%f6, H6⟩, ⟨%f7, H7⟩, Hk⟩
    sl_exec
    sl_step
    iapply Hk
    sl_close

/-- A buffer held at unnamed contents, as the pipeline states it of a staging buffer, and back. -/
theorem held_of_owns (c : Dev nD) {sp : Space} {S : Shape} {e : EltTy} (M : Memref sig .tc sp S e) :
    (iprop(∃ X, owns (c : Thread nD τ) M fullShare X) : sProp 𝕄) ⊢ held (F := F) c M := by
  unfold owns
  iintro ⟨%X, %f, -, H⟩
  iexists f; iexact H

/-- A buffer held whole is owned with some contents. -/
theorem owns_of_held (c : Dev nD) {sp : Space} {S : Shape} {e : EltTy} (M : Memref sig .tc sp S e) :
    (held (F := F) c M : sProp 𝕄) ⊢ iprop(∃ X, owns (c : Thread nD τ) M fullShare X) := by
  unfold owns
  iintro ⟨%f, H⟩
  iexists (M.view.read (Elt F) f), f
  isplitr
  · ipureintro; rfl
  · iexact H

/-- A whole scratch buffer, as the pipeline states it and as the body's triple does. -/
theorem held_whole (c : Dev nD) (b : Ref sig .tc) :
    (held (F := F) c (Memref.whole b) : sProp 𝕄) = iprop(∃ f, (c : Thread nD τ).loc b ↦{fullShare} f) := by
  simp only [held, Memref.view_whole, View.set_whole]

variable (m : (ℓ : Loc nD τ sig) → Buf (Elt F) ℓ) (ρ : Dev nD → PrngReg)

/-- The proof data: the arrays as the region finds them, nothing named of the buffers. -/
def dats (_ : Fin 1) (c : Dev nD) : Dat τ (Elt F) Unit ℕ (UR sig nD τ) ℕ cfg0 c where
  A w := V m c (Pipeline.arrRef spec0 w)
  after := Dat.unnamed
  Φ _ := Pipeline.ΦA spec0 c
  q _ := fullShare
  owed _ := 0

/-- Every point of the grid hands back what it was handed. -/
theorem body_obligation (c : Dev nD) :
    BodyObligationLoose (dats (F := F) m 0 c) (defs₀ (F := F)) Variants.none () Set.univ (fun _ => true) := fun t => by
  rw [bigSep_W0]
  simp only
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  rw [← held_whole, ← held_whole, ← held_whole]
  iintro ⟨⟨⟨H5, H6, H7⟩, Hr⟩, Ho, H1, H2, H3, H4⟩
  iapply (body_held (F := F) c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (Memref.whole cc0_scratch0) (Memref.isWhole_whole _)
    (Memref.whole cc0_scratch1) (Memref.isWhole_whole _) (Memref.whole cc0_scratch2) (Memref.isWhole_whole _) _)
  isplitl [H1]; · iapply (held_of_owns c _); iexact H1
  isplitl [H2]; · iapply (held_of_owns c _); iexact H2
  isplitl [H3]; · iapply (held_of_owns c _); iexact H3
  isplitl [H4]; · iapply (held_of_owns c _); iexact H4
  isplitl [H5]; · iexact H5
  isplitl [H6]; · iexact H6
  isplitl [H7]; · iexact H7
  iintro ⟨H1, H2, H3, H4, H5, H6, H7⟩
  isplitl [H5 H6 H7 Hr]
  · isplitl [H5 H6 H7]
    · isplitl [H5]; · iexact H5
      isplitl [H6]; · iexact H6
      iexact H7
    · iexact Hr
  isplitl [Ho]; · iexact Ho
  isplitl [H1]; · iapply (owns_of_held c _); iexact H1
  isplitl [H2]; · iapply (owns_of_held c _); iexact H2
  isplitl [H3]; · iapply (owns_of_held c _); iexact H3
  iapply (owns_of_held c _); iexact H4

set_option backward.isDefEq.respectTransparency.types false in
/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_around_T_forget cfgs (dats m) (0 : Fin 1) launch0 defs₀ Variants.none (fun _ => true) {main_v2} m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hT := by
      intro ops hops op hop b hb
      simp only [List.mem_cons, List.mem_nil_iff, or_false] at hops
      subst hops
      simp only [hostOps1, List.mem_cons, List.mem_nil_iff, or_false] at hop
      subst hop
      rw [StableHlo.reshape_writes, Finset.mem_singleton] at hb
      by_contra hne
      exact StableHlo.devRef_ne_of_ne (fun h => hne (by rw [h]; exact Finset.mem_singleton_self _)) hb)
    (hmain := hmain m Variants.none) (hA := fun _ _ => rfl) (hΦ := fun _ _ => rfl)
    (Q' := _)
    (hQ' := fun r h => ⟨fun c => ⟨(Pipeline.RDat.FramePostR.arr_in h.1 c 0 rfl).trans (V_main_arg0 m c),
      ((h.1 c).2 main_arg1 (Finset.mem_sdiff.mpr ⟨Pipeline.mem_restRefs_of main_arg1 (by decide) (by decide), by decide⟩)).trans (V_main_arg1 m c)⟩, h.2⟩)

end Cert.KernelIdeal.Hand

end
-- ==== Proof.ReferenceLine.lean ====
/-
  The reference as one straight line of operations: the printed program's own, stretch by stretch, with its calls laid
  out in place, and the program equal to the line.
-/
module

public import proofs.«01_k».proof.Defs
public import proofs.«01_k».proof.Proof.Gen.ReferenceIdeal
public import Idealize.ShloMosaic.Lib.StableHlo.Run

@[expose] public section

set_option maxRecDepth 65536

noncomputable section

namespace Cert.ReferenceIdeal.Hand

open Cert.ReferenceIdeal
open Idealize.ShloMosaic Idealize.ShloMosaic.TcCoe Idealize.SL.Sem
open Idealize.ShloMosaic.StableHlo (seq)

variable {F : FTy → Type} [FloatOps F] [Facts]
open Facts₀ Facts

/-- The cipher's operations, stretch 1 of four. -/
def cipherOps0 (arg0 arg1 : StableHlo.TRef sig ⟨S_, .i32⟩) (arg2 arg3 : StableHlo.TRef sig ⟨S128x100000, .i32⟩) (φ : fn_threefry2x32.Bufs) : List (HloOp τ sig (Elt F)) :=
  [ StableHlo.TRef.binary arg0 arg1 φ.v0 xori
  , StableHlo.TRef.nullary φ.c (constantI S_ 32 466688986#32)
  , StableHlo.TRef.binary φ.v0 φ.c φ.v1 xori
  , StableHlo.TRef.unary arg0 φ.v2 (broadcastInDim S128x100000 ![] bcast_S_S128x100000)
  , StableHlo.TRef.binary arg2 φ.v2 φ.v3 addi
  , StableHlo.TRef.unary arg1 φ.v4 (broadcastInDim S128x100000 ![] bcast_S_S128x100000)
  , StableHlo.TRef.binary arg3 φ.v4 φ.v5 addi
  , StableHlo.TRef.binary φ.v3 φ.v5 φ.v6 addi
  , StableHlo.TRef.nullary φ.c_0 (constantI S_ 32 13#32)
  , StableHlo.TRef.unary φ.c_0 φ.v7 (broadcastInDim S128x100000 ![] bcast_S_S128x100000)
  , StableHlo.TRef.binary φ.v5 φ.v7 φ.v8 Host.shli
  , StableHlo.TRef.nullary φ.c_1 (constantI S_ 32 19#32)
  , StableHlo.TRef.unary φ.c_1 φ.v9 (broadcastInDim S128x100000 ![] bcast_S_S128x100000)
  , StableHlo.TRef.binary φ.v5 φ.v9 φ.v10 Host.shrui
  , StableHlo.TRef.binary φ.v8 φ.v10 φ.v11 ori
  , StableHlo.TRef.binary φ.v6 φ.v11 φ.v12 xori
  , StableHlo.TRef.binary φ.v6 φ.v12 φ.v13 addi
  , StableHlo.TRef.nullary φ.c_2 (constantI S_ 32 15#32)
  , StableHlo.TRef.unary φ.c_2 φ.v14 (broadcastInDim S128x100000 ![] bcast_S_S128x100000)
  , StableHlo.TRef.binary φ.v12 φ.v14 φ.v15 Host.shli
  , StableHlo.TRef.nullary φ.c_3 (constantI S_ 32 17#32)
  , StableHlo.TRef.unary φ.c_3 φ.v16 (broadcastInDim S128x100000 ![] bcast_S_S128x100000)
  , StableHlo.TRef.binary φ.v12 φ.v16 φ.v17 Host.shrui
  , StableHlo.TRef.binary φ.v15 φ.v17 φ.v18 ori
  , StableHlo.TRef.binary φ.v13 φ.v18 φ.v19 xori
  , StableHlo.TRef.binary φ.v13 φ.v19 φ.v20 addi
  , StableHlo.TRef.nullary φ.c_4 (constantI S_ 32 26#32)
  , StableHlo.TRef.unary φ.c_4 φ.v21 (broadcastInDim S128x100000 ![] bcast_S_S128x100000)
  , StableHlo.TRef.binary φ.v19 φ.v21 φ.v22 Host.shli
  , StableHlo.TRef.nullary φ.c_5 (constantI S_ 32 6#32)
  , StableHlo.TRef.unary φ.c_5 φ.v23 (broadcastInDim S128x100000 ![] bcast_S_S128x100000)
  , StableHlo.TRef.binary φ.v19 φ.v23 φ.v24 Host.shrui
  , StableHlo.TRef.binary φ.v22 φ.v24 φ.v25 ori
  , StableHlo.TRef.binary φ.v20 φ.v25 φ.v26 xori
  , StableHlo.TRef.binary φ.v20 φ.v26 φ.v27 addi
  , StableHlo.TRef.nullary φ.c_6 (constantI S_ 32 6#32)
  , StableHlo.TRef.unary φ.c_6 φ.v28 (broadcastInDim S128x100000 ![] bcast_S_S128x100000)
  , StableHlo.TRef.binary φ.v26 φ.v28 φ.v29 Host.shli
  , StableHlo.TRef.nullary φ.c_7 (constantI S_ 32 26#32)
  , StableHlo.TRef.unary φ.c_7 φ.v30 (broadcastInDim S128x100000 ![] bcast_S_S128x100000)
  , StableHlo.TRef.binary φ.v26 φ.v30 φ.v31 Host.shrui
  , StableHlo.TRef.binary φ.v29 φ.v31 φ.v32 ori
  , StableHlo.TRef.binary φ.v27 φ.v32 φ.v33 xori
  , StableHlo.TRef.unary arg1 φ.v34 (broadcastInDim S128x100000 ![] bcast_S_S128x100000)
  , StableHlo.TRef.binary φ.v27 φ.v34 φ.v35 addi
  , StableHlo.TRef.unary φ.v1 φ.v36 (broadcastInDim S128x100000 ![] bcast_S_S128x100000)
  , StableHlo.TRef.binary φ.v33 φ.v36 φ.v37 addi
  , StableHlo.TRef.nullary φ.c_8 (constantI S_ 32 1#32)
  , StableHlo.TRef.unary φ.c_8 φ.v38 (broadcastInDim S128x100000 ![] bcast_S_S128x100000)
  , StableHlo.TRef.binary φ.v37 φ.v38 φ.v39 addi
  , StableHlo.TRef.binary φ.v35 φ.v39 φ.v40 addi
  , StableHlo.TRef.nullary φ.c_9 (constantI S_ 32 17#32)
  , StableHlo.TRef.unary φ.c_9 φ.v41 (broadcastInDim S128x100000 ![] bcast_S_S128x100000)
  , StableHlo.TRef.binary φ.v39 φ.v41 φ.v42 Host.shli
  , StableHlo.TRef.nullary φ.c_10 (constantI S_ 32 15#32)
  , StableHlo.TRef.unary φ.c_10 φ.v43 (broadcastInDim S128x100000 ![] bcast_S_S128x100000)
  , StableHlo.TRef.binary φ.v39 φ.v43 φ.v44 Host.shrui
  , StableHlo.TRef.binary φ.v42 φ.v44 φ.v45 ori
  , StableHlo.TRef.binary φ.v40 φ.v45 φ.v46 xori
  , StableHlo.TRef.binary φ.v40 φ.v46 φ.v47 addi ]

/-- The cipher's operations, stretch 2 of four. -/
def cipherOps1 (arg0 arg1 : StableHlo.TRef sig ⟨S_, .i32⟩) (arg2 arg3 : StableHlo.TRef sig ⟨S128x100000, .i32⟩) (φ : fn_threefry2x32.Bufs) : List (HloOp τ sig (Elt F)) :=
  [ StableHlo.TRef.nullary φ.c_11 (constantI S_ 32 29#32)
  , StableHlo.TRef.unary φ.c_11 φ.v48 (broadcastInDim S128x100000 ![] bcast_S_S128x100000)
  , StableHlo.TRef.binary φ.v46 φ.v48 φ.v49 Host.shli
  , StableHlo.TRef.nullary φ.c_12 (constantI S_ 32 3#32)
  , StableHlo.TRef.unary φ.c_12 φ.v50 (broadcastInDim S128x100000 ![] bcast_S_S128x100000)
  , StableHlo.TRef.binary φ.v46 φ.v50 φ.v51 Host.shrui
  , StableHlo.TRef.binary φ.v49 φ.v51 φ.v52 ori
  , StableHlo.TRef.binary φ.v47 φ.v52 φ.v53 xori
  , StableHlo.TRef.binary φ.v47 φ.v53 φ.v54 addi
  , StableHlo.TRef.nullary φ.c_13 (constantI S_ 32 16#32)
  , StableHlo.TRef.unary φ.c_13 φ.v55 (broadcastInDim S128x100000 ![] bcast_S_S128x100000)
  , StableHlo.TRef.binary φ.v53 φ.v55 φ.v56 Host.shli
  , StableHlo.TRef.nullary φ.c_14 (constantI S_ 32 16#32)
  , StableHlo.TRef.unary φ.c_14 φ.v57 (broadcastInDim S128x100000 ![] bcast_S_S128x100000)
  , StableHlo.TRef.binary φ.v53 φ.v57 φ.v58 Host.shrui
  , StableHlo.TRef.binary φ.v56 φ.v58 φ.v59 ori
  , StableHlo.TRef.binary φ.v54 φ.v59 φ.v60 xori
  , StableHlo.TRef.binary φ.v54 φ.v60 φ.v61 addi
  , StableHlo.TRef.nullary φ.c_15 (constantI S_ 32 24#32)
  , StableHlo.TRef.unary φ.c_15 φ.v62 (broadcastInDim S128x100000 ![] bcast_S_S128x100000)
  , StableHlo.TRef.binary φ.v60 φ.v62 φ.v63 Host.shli
  , StableHlo.TRef.nullary φ.c_16 (constantI S_ 32 8#32)
  , StableHlo.TRef.unary φ.c_16 φ.v64 (broadcastInDim S128x100000 ![] bcast_S_S128x100000)
  , StableHlo.TRef.binary φ.v60 φ.v64 φ.v65 Host.shrui
  , StableHlo.TRef.binary φ.v63 φ.v65 φ.v66 ori
  , StableHlo.TRef.binary φ.v61 φ.v66 φ.v67 xori
  , StableHlo.TRef.unary φ.v1 φ.v68 (broadcastInDim S128x100000 ![] bcast_S_S128x100000)
  , StableHlo.TRef.binary φ.v61 φ.v68 φ.v69 addi
  , StableHlo.TRef.unary arg0 φ.v70 (broadcastInDim S128x100000 ![] bcast_S_S128x100000)
  , StableHlo.TRef.binary φ.v67 φ.v70 φ.v71 addi
  , StableHlo.TRef.nullary φ.c_17 (constantI S_ 32 2#32)
  , StableHlo.TRef.unary φ.c_17 φ.v72 (broadcastInDim S128x100000 ![] bcast_S_S128x100000)
  , StableHlo.TRef.binary φ.v71 φ.v72 φ.v73 addi
  , StableHlo.TRef.binary φ.v69 φ.v73 φ.v74 addi
  , StableHlo.TRef.nullary φ.c_18 (constantI S_ 32 13#32)
  , StableHlo.TRef.unary φ.c_18 φ.v75 (broadcastInDim S128x100000 ![] bcast_S_S128x100000)
  , StableHlo.TRef.binary φ.v73 φ.v75 φ.v76 Host.shli
  , StableHlo.TRef.nullary φ.c_19 (constantI S_ 32 19#32)
  , StableHlo.TRef.unary φ.c_19 φ.v77 (broadcastInDim S128x100000 ![] bcast_S_S128x100000)
  , StableHlo.TRef.binary φ.v73 φ.v77 φ.v78 Host.shrui
  , StableHlo.TRef.binary φ.v76 φ.v78 φ.v79 ori
  , StableHlo.TRef.binary φ.v74 φ.v79 φ.v80 xori
  , StableHlo.TRef.binary φ.v74 φ.v80 φ.v81 addi
  , StableHlo.TRef.nullary φ.c_20 (constantI S_ 32 15#32)
  , StableHlo.TRef.unary φ.c_20 φ.v82 (broadcastInDim S128x100000 ![] bcast_S_S128x100000)
  , StableHlo.TRef.binary φ.v80 φ.v82 φ.v83 Host.shli
  , StableHlo.TRef.nullary φ.c_21 (constantI S_ 32 17#32)
  , StableHlo.TRef.unary φ.c_21 φ.v84 (broadcastInDim S128x100000 ![] bcast_S_S128x100000)
  , StableHlo.TRef.binary φ.v80 φ.v84 φ.v85 Host.shrui
  , StableHlo.TRef.binary φ.v83 φ.v85 φ.v86 ori
  , StableHlo.TRef.binary φ.v81 φ.v86 φ.v87 xori
  , StableHlo.TRef.binary φ.v81 φ.v87 φ.v88 addi
  , StableHlo.TRef.nullary φ.c_22 (constantI S_ 32 26#32)
  , StableHlo.TRef.unary φ.c_22 φ.v89 (broadcastInDim S128x100000 ![] bcast_S_S128x100000)
  , StableHlo.TRef.binary φ.v87 φ.v89 φ.v90 Host.shli
  , StableHlo.TRef.nullary φ.c_23 (constantI S_ 32 6#32)
  , StableHlo.TRef.unary φ.c_23 φ.v91 (broadcastInDim S128x100000 ![] bcast_S_S128x100000)
  , StableHlo.TRef.binary φ.v87 φ.v91 φ.v92 Host.shrui
  , StableHlo.TRef.binary φ.v90 φ.v92 φ.v93 ori
  , StableHlo.TRef.binary φ.v88 φ.v93 φ.v94 xori ]

/-- The cipher's operations, stretch 3 of four. -/
def cipherOps2 (arg0 arg1 : StableHlo.TRef sig ⟨S_, .i32⟩) (arg2 arg3 : StableHlo.TRef sig ⟨S128x100000, .i32⟩) (φ : fn_threefry2x32.Bufs) : List (HloOp τ sig (Elt F)) :=
  [ StableHlo.TRef.binary φ.v88 φ.v94 φ.v95 addi
  , StableHlo.TRef.nullary φ.c_24 (constantI S_ 32 6#32)
  , StableHlo.TRef.unary φ.c_24 φ.v96 (broadcastInDim S128x100000 ![] bcast_S_S128x100000)
  , StableHlo.TRef.binary φ.v94 φ.v96 φ.v97 Host.shli
  , StableHlo.TRef.nullary φ.c_25 (constantI S_ 32 26#32)
  , StableHlo.TRef.unary φ.c_25 φ.v98 (broadcastInDim S128x100000 ![] bcast_S_S128x100000)
  , StableHlo.TRef.binary φ.v94 φ.v98 φ.v99 Host.shrui
  , StableHlo.TRef.binary φ.v97 φ.v99 φ.v100 ori
  , StableHlo.TRef.binary φ.v95 φ.v100 φ.v101 xori
  , StableHlo.TRef.unary arg0 φ.v102 (broadcastInDim S128x100000 ![] bcast_S_S128x100000)
  , StableHlo.TRef.binary φ.v95 φ.v102 φ.v103 addi
  , StableHlo.TRef.unary arg1 φ.v104 (broadcastInDim S128x100000 ![] bcast_S_S128x100000)
  , StableHlo.TRef.binary φ.v101 φ.v104 φ.v105 addi
  , StableHlo.TRef.nullary φ.c_26 (constantI S_ 32 3#32)
  , StableHlo.TRef.unary φ.c_26 φ.v106 (broadcastInDim S128x100000 ![] bcast_S_S128x100000)
  , StableHlo.TRef.binary φ.v105 φ.v106 φ.v107 addi
  , StableHlo.TRef.binary φ.v103 φ.v107 φ.v108 addi
  , StableHlo.TRef.nullary φ.c_27 (constantI S_ 32 17#32)
  , StableHlo.TRef.unary φ.c_27 φ.v109 (broadcastInDim S128x100000 ![] bcast_S_S128x100000)
  , StableHlo.TRef.binary φ.v107 φ.v109 φ.v110 Host.shli
  , StableHlo.TRef.nullary φ.c_28 (constantI S_ 32 15#32)
  , StableHlo.TRef.unary φ.c_28 φ.v111 (broadcastInDim S128x100000 ![] bcast_S_S128x100000)
  , StableHlo.TRef.binary φ.v107 φ.v111 φ.v112 Host.shrui
  , StableHlo.TRef.binary φ.v110 φ.v112 φ.v113 ori
  , StableHlo.TRef.binary φ.v108 φ.v113 φ.v114 xori
  , StableHlo.TRef.binary φ.v108 φ.v114 φ.v115 addi
  , StableHlo.TRef.nullary φ.c_29 (constantI S_ 32 29#32)
  , StableHlo.TRef.unary φ.c_29 φ.v116 (broadcastInDim S128x100000 ![] bcast_S_S128x100000)
  , StableHlo.TRef.binary φ.v114 φ.v116 φ.v117 Host.shli
  , StableHlo.TRef.nullary φ.c_30 (constantI S_ 32 3#32)
  , StableHlo.TRef.unary φ.c_30 φ.v118 (broadcastInDim S128x100000 ![] bcast_S_S128x100000)
  , StableHlo.TRef.binary φ.v114 φ.v118 φ.v119 Host.shrui
  , StableHlo.TRef.binary φ.v117 φ.v119 φ.v120 ori
  , StableHlo.TRef.binary φ.v115 φ.v120 φ.v121 xori
  , StableHlo.TRef.binary φ.v115 φ.v121 φ.v122 addi
  , StableHlo.TRef.nullary φ.c_31 (constantI S_ 32 16#32)
  , StableHlo.TRef.unary φ.c_31 φ.v123 (broadcastInDim S128x100000 ![] bcast_S_S128x100000)
  , StableHlo.TRef.binary φ.v121 φ.v123 φ.v124 Host.shli
  , StableHlo.TRef.nullary φ.c_32 (constantI S_ 32 16#32)
  , StableHlo.TRef.unary φ.c_32 φ.v125 (broadcastInDim S128x100000 ![] bcast_S_S128x100000)
  , StableHlo.TRef.binary φ.v121 φ.v125 φ.v126 Host.shrui
  , StableHlo.TRef.binary φ.v124 φ.v126 φ.v127 ori
  , StableHlo.TRef.binary φ.v122 φ.v127 φ.v128 xori
  , StableHlo.TRef.binary φ.v122 φ.v128 φ.v129 addi
  , StableHlo.TRef.nullary φ.c_33 (constantI S_ 32 24#32)
  , StableHlo.TRef.unary φ.c_33 φ.v130 (broadcastInDim S128x100000 ![] bcast_S_S128x100000)
  , StableHlo.TRef.binary φ.v128 φ.v130 φ.v131 Host.shli
  , StableHlo.TRef.nullary φ.c_34 (constantI S_ 32 8#32)
  , StableHlo.TRef.unary φ.c_34 φ.v132 (broadcastInDim S128x100000 ![] bcast_S_S128x100000)
  , StableHlo.TRef.binary φ.v128 φ.v132 φ.v133 Host.shrui
  , StableHlo.TRef.binary φ.v131 φ.v133 φ.v134 ori
  , StableHlo.TRef.binary φ.v129 φ.v134 φ.v135 xori
  , StableHlo.TRef.unary arg1 φ.v136 (broadcastInDim S128x100000 ![] bcast_S_S128x100000)
  , StableHlo.TRef.binary φ.v129 φ.v136 φ.v137 addi
  , StableHlo.TRef.unary φ.v1 φ.v138 (broadcastInDim S128x100000 ![] bcast_S_S128x100000)
  , StableHlo.TRef.binary φ.v135 φ.v138 φ.v139 addi
  , StableHlo.TRef.nullary φ.c_35 (constantI S_ 32 4#32)
  , StableHlo.TRef.unary φ.c_35 φ.v140 (broadcastInDim S128x100000 ![] bcast_S_S128x100000)
  , StableHlo.TRef.binary φ.v139 φ.v140 φ.v141 addi
  , StableHlo.TRef.binary φ.v137 φ.v141 φ.v142 addi ]

/-- The cipher's operations, stretch 4 of four. -/
def cipherOps3 (arg0 arg1 : StableHlo.TRef sig ⟨S_, .i32⟩) (arg2 arg3 : StableHlo.TRef sig ⟨S128x100000, .i32⟩) (φ : fn_threefry2x32.Bufs) : List (HloOp τ sig (Elt F)) :=
  [ StableHlo.TRef.nullary φ.c_36 (constantI S_ 32 13#32)
  , StableHlo.TRef.unary φ.c_36 φ.v143 (broadcastInDim S128x100000 ![] bcast_S_S128x100000)
  , StableHlo.TRef.binary φ.v141 φ.v143 φ.v144 Host.shli
  , StableHlo.TRef.nullary φ.c_37 (constantI S_ 32 19#32)
  , StableHlo.TRef.unary φ.c_37 φ.v145 (broadcastInDim S128x100000 ![] bcast_S_S128x100000)
  , StableHlo.TRef.binary φ.v141 φ.v145 φ.v146 Host.shrui
  , StableHlo.TRef.binary φ.v144 φ.v146 φ.v147 ori
  , StableHlo.TRef.binary φ.v142 φ.v147 φ.v148 xori
  , StableHlo.TRef.binary φ.v142 φ.v148 φ.v149 addi
  , StableHlo.TRef.nullary φ.c_38 (constantI S_ 32 15#32)
  , StableHlo.TRef.unary φ.c_38 φ.v150 (broadcastInDim S128x100000 ![] bcast_S_S128x100000)
  , StableHlo.TRef.binary φ.v148 φ.v150 φ.v151 Host.shli
  , StableHlo.TRef.nullary φ.c_39 (constantI S_ 32 17#32)
  , StableHlo.TRef.unary φ.c_39 φ.v152 (broadcastInDim S128x100000 ![] bcast_S_S128x100000)
  , StableHlo.TRef.binary φ.v148 φ.v152 φ.v153 Host.shrui
  , StableHlo.TRef.binary φ.v151 φ.v153 φ.v154 ori
  , StableHlo.TRef.binary φ.v149 φ.v154 φ.v155 xori
  , StableHlo.TRef.binary φ.v149 φ.v155 φ.v156 addi
  , StableHlo.TRef.nullary φ.c_40 (constantI S_ 32 26#32)
  , StableHlo.TRef.unary φ.c_40 φ.v157 (broadcastInDim S128x100000 ![] bcast_S_S128x100000)
  , StableHlo.TRef.binary φ.v155 φ.v157 φ.v158 Host.shli
  , StableHlo.TRef.nullary φ.c_41 (constantI S_ 32 6#32)
  , StableHlo.TRef.unary φ.c_41 φ.v159 (broadcastInDim S128x100000 ![] bcast_S_S128x100000)
  , StableHlo.TRef.binary φ.v155 φ.v159 φ.v160 Host.shrui
  , StableHlo.TRef.binary φ.v158 φ.v160 φ.v161 ori
  , StableHlo.TRef.binary φ.v156 φ.v161 φ.v162 xori
  , StableHlo.TRef.binary φ.v156 φ.v162 φ.v163 addi
  , StableHlo.TRef.nullary φ.c_42 (constantI S_ 32 6#32)
  , StableHlo.TRef.unary φ.c_42 φ.v164 (broadcastInDim S128x100000 ![] bcast_S_S128x100000)
  , StableHlo.TRef.binary φ.v162 φ.v164 φ.v165 Host.shli
  , StableHlo.TRef.nullary φ.c_43 (constantI S_ 32 26#32)
  , StableHlo.TRef.unary φ.c_43 φ.v166 (broadcastInDim S128x100000 ![] bcast_S_S128x100000)
  , StableHlo.TRef.binary φ.v162 φ.v166 φ.v167 Host.shrui
  , StableHlo.TRef.binary φ.v165 φ.v167 φ.v168 ori
  , StableHlo.TRef.binary φ.v163 φ.v168 φ.v169 xori
  , StableHlo.TRef.unary φ.v1 φ.v170 (broadcastInDim S128x100000 ![] bcast_S_S128x100000)
  , StableHlo.TRef.binary φ.v163 φ.v170 φ.v171 addi
  , StableHlo.TRef.unary arg0 φ.v172 (broadcastInDim S128x100000 ![] bcast_S_S128x100000)
  , StableHlo.TRef.binary φ.v169 φ.v172 φ.v173 addi
  , StableHlo.TRef.nullary φ.c_44 (constantI S_ 32 5#32)
  , StableHlo.TRef.unary φ.c_44 φ.v174 (broadcastInDim S128x100000 ![] bcast_S_S128x100000)
  , StableHlo.TRef.binary φ.v173 φ.v174 φ.v175 addi ]

/-- The uniform draw before the cipher: the key split in two words, the counters. -/
def uniformOps0 (arg0 : StableHlo.TRef sig ⟨S2, .i32⟩) (arg1 arg2 : StableHlo.TRef sig ⟨S_, .f32⟩) (φ : fn_uniform.Bufs) : List (HloOp τ sig (Elt F)) :=
  [ StableHlo.TRef.unary arg1 φ.v0 id
  , StableHlo.TRef.unary arg2 φ.v1 id
  , StableHlo.TRef.unary φ.v0 φ.v2 (broadcastInDim S1x1 ![] bcast_S_S1x1)
  , StableHlo.TRef.unary φ.v1 φ.v3 (broadcastInDim S1x1 ![] bcast_S_S1x1)
  , StableHlo.TRef.unary arg0 φ.v4 (extractStridedSlice S1 ![0] · slices_S2_S1_0)
  , StableHlo.TRef.reshape φ.v4 φ.v5 (rfl : (.i32 : EltTy) = .i32) shapeCasts_S1_S_
  , StableHlo.TRef.unary arg0 φ.v6 (extractStridedSlice S1 ![1] · slices_S2_S1_1)
  , StableHlo.TRef.reshape φ.v6 φ.v7 (rfl : (.i32 : EltTy) = .i32) shapeCasts_S1_S_
  , StableHlo.TRef.nullary φ.v8 (iotaInDim S128x100000 64 0)
  , StableHlo.TRef.nullary φ.v9 (iotaInDim S128x100000 64 1)
  , StableHlo.TRef.nullary φ.c (constantI S_ 64 100000#64)
  , StableHlo.TRef.unary φ.c φ.v10 (broadcastInDim S128x100000 ![] bcast_S_S128x100000)
  , StableHlo.TRef.binary φ.v10 φ.v8 φ.v11 muli
  , StableHlo.TRef.nullary φ.c_0 (constantI S_ 64 1#64)
  , StableHlo.TRef.unary φ.c_0 φ.v12 (broadcastInDim S128x100000 ![] bcast_S_S128x100000)
  , StableHlo.TRef.binary φ.v12 φ.v9 φ.v13 muli
  , StableHlo.TRef.binary φ.v11 φ.v13 φ.v14 addi
  , StableHlo.TRef.nullary φ.c_1 (constantI S_ 64 32#64)
  , StableHlo.TRef.unary φ.c_1 φ.v15 (broadcastInDim S128x100000 ![] bcast_S_S128x100000)
  , StableHlo.TRef.binary φ.v14 φ.v15 φ.v16 Host.shrui
  , StableHlo.TRef.unary φ.v14 φ.v17 (trunci 32 · natLt_32_64)
  , StableHlo.TRef.unary φ.v16 φ.v18 (trunci 32 · natLt_32_64) ]

/-- The uniform draw after the cipher: the words turned to floats in [0, 1). -/
def uniformOps1 (arg0 : StableHlo.TRef sig ⟨S2, .i32⟩) (arg1 arg2 : StableHlo.TRef sig ⟨S_, .f32⟩) (φ : fn_uniform.Bufs) : List (HloOp τ sig (Elt F)) :=
  [ StableHlo.TRef.binary φ.call0.v171 φ.call0.v175 φ.v20 xori
  , StableHlo.TRef.nullary φ.c_2 (constantI S_ 32 9#32)
  , StableHlo.TRef.unary φ.c_2 φ.v21 (broadcastInDim S128x100000 ![] bcast_S_S128x100000)
  , StableHlo.TRef.binary φ.v20 φ.v21 φ.v22 Host.shrui
  , StableHlo.TRef.nullary φ.c_3 (constantI S_ 32 1065353216#32)
  , StableHlo.TRef.unary φ.c_3 φ.v23 (broadcastInDim S128x100000 ![] bcast_S_S128x100000)
  , StableHlo.TRef.binary φ.v22 φ.v23 φ.v24 ori
  , StableHlo.TRef.unary φ.v24 φ.v25 (bitcastToFloat .f32)
  , StableHlo.TRef.nullary φ.cst (constant S_ .f32 0x3F800000#32)
  , StableHlo.TRef.unary φ.cst φ.v26 (broadcastInDim S128x100000 ![] bcast_S_S128x100000)
  , StableHlo.TRef.binary φ.v25 φ.v26 φ.v27 subf
  , StableHlo.TRef.binary φ.v3 φ.v2 φ.v28 subf
  , StableHlo.TRef.unary φ.v28 φ.v29 (broadcastInDim S128x100000 ![0, 1] bcast_S1x1_S128x100000_0_1)
  , StableHlo.TRef.binary φ.v27 φ.v29 φ.v30 mulf
  , StableHlo.TRef.unary φ.v2 φ.v31 (broadcastInDim S128x100000 ![0, 1] bcast_S1x1_S128x100000_0_1)
  , StableHlo.TRef.binary φ.v30 φ.v31 φ.v32 addf
  , StableHlo.TRef.unary φ.v2 φ.v33 (broadcastInDim S128x100000 ![0, 1] bcast_S1x1_S128x100000_0_1)
  , StableHlo.TRef.binary φ.v33 φ.v32 φ.v34 maximumf ]

/-- The exponential draw before the uniform one. -/
def exponentialOps0 (arg0 : StableHlo.TRef sig ⟨S2, .i32⟩) (φ : fn_exponential.Bufs) : List (HloOp τ sig (Elt F)) :=
  [ StableHlo.TRef.nullary φ.cst (constant S_ .f32 0x00000000#32)
  , StableHlo.TRef.nullary φ.cst_0 (constant S_ .f32 0x3F800000#32) ]

/-- The exponential draw after the uniform one. -/
def exponentialOps1 (arg0 : StableHlo.TRef sig ⟨S2, .i32⟩) (φ : fn_exponential.Bufs) : List (HloOp τ sig (Elt F)) :=
  [ StableHlo.TRef.unary φ.call0.v34 φ.v1 Host.negf
  , StableHlo.TRef.unary φ.v1 φ.v2 Host.log1p
  , StableHlo.TRef.unary φ.v2 φ.v3 Host.negf ]

/-- The clip from below. -/
def clipOps (arg0 : StableHlo.TRef sig ⟨S128x100000, .f32⟩) (arg1 : StableHlo.TRef sig ⟨S_, .f32⟩) (φ : fn_clip.Bufs) : List (HloOp τ sig (Elt F)) :=
  [ StableHlo.TRef.unary arg1 φ.v0 id
  , StableHlo.TRef.unary φ.v0 φ.v1 (broadcastInDim S128x100000 ![] bcast_S_S128x100000)
  , StableHlo.TRef.binary φ.v1 arg0 φ.v2 maximumf ]

/-- The index of the greatest entry of each row. -/
def argmaxOps (arg0 : StableHlo.TRef sig ⟨S128x100000, .f32⟩) (φ : fn_argmax.Bufs) : List (HloOp τ sig (Elt F)) :=
  [ StableHlo.TRef.nullary φ.v0 (iotaInDim S128x100000 32 1)
  , StableHlo.TRef.nullary φ.cst (constant S_ .f32 0xFF800000#32)
  , StableHlo.TRef.nullary φ.c (constantI S_ 32 0#32)
  , StableHlo.TRef.quaternary arg0 φ.v0 φ.cst φ.c φ.v1_0 (fun x y u v j => (Host.argReduce reducer_argmax_f32_i32 x y u v reducesTo_S128x100000_S128_d1 h_S_ j).1)
  , StableHlo.TRef.quaternary arg0 φ.v0 φ.cst φ.c φ.v1_1 (fun x y u v j => (Host.argReduce reducer_argmax_f32_i32 x y u v reducesTo_S128x100000_S128_d1 h_S_ j).2) ]

/-- The softmax and the key. -/
def mainOps0 : List (HloOp τ sig (Elt F)) :=
  [ StableHlo.unary main_arg1 main_v0 (broadcastInDim S128x1 ![0] bcast_S128_S128x1_0 : (⟨S128, .f32⟩ : BufTy).Contents (Elt F) → (⟨S128x1, .f32⟩ : BufTy).Contents (Elt F))
  , StableHlo.unary main_v0 main_v1 (broadcastInDim S128x100000 ![0, 1] bcast_S128x1_S128x100000_0_1 : (⟨S128x1, .f32⟩ : BufTy).Contents (Elt F) → (⟨S128x100000, .f32⟩ : BufTy).Contents (Elt F))
  , StableHlo.binary main_arg0 main_v1 main_v2 (Host.divf : (⟨S128x100000, .f32⟩ : BufTy).Contents (Elt F) → (⟨S128x100000, .f32⟩ : BufTy).Contents (Elt F) → (⟨S128x100000, .f32⟩ : BufTy).Contents (Elt F))
  , StableHlo.nullary main_cst (constant S_ .f32 0xFF800000#32)
  , StableHlo.binary main_v2 main_cst main_v3 ((fun x v => Host.reduce FloatOps.maximumf x v reducesTo_S128x100000_S128_d1 h_S_) : (⟨S128x100000, .f32⟩ : BufTy).Contents (Elt F) → (⟨S_, .f32⟩ : BufTy).Contents (Elt F) → (⟨S128, .f32⟩ : BufTy).Contents (Elt F))
  , StableHlo.nullary main_cst_0 (constant S_ .f32 0xFF800000#32)
  , StableHlo.unary main_cst_0 main_v4 (broadcastInDim S128 ![] bcast_S_S128 : (⟨S_, .f32⟩ : BufTy).Contents (Elt F) → (⟨S128, .f32⟩ : BufTy).Contents (Elt F))
  , StableHlo.binary main_v4 main_v3 main_v5 (maximumf : (⟨S128, .f32⟩ : BufTy).Contents (Elt F) → (⟨S128, .f32⟩ : BufTy).Contents (Elt F) → (⟨S128, .f32⟩ : BufTy).Contents (Elt F))
  , StableHlo.unary main_v5 main_v6 (broadcastInDim S128x1 ![0] bcast_S128_S128x1_0 : (⟨S128, .f32⟩ : BufTy).Contents (Elt F) → (⟨S128x1, .f32⟩ : BufTy).Contents (Elt F))
  , StableHlo.unary main_v6 main_v7 (broadcastInDim S128x100000 ![0, 1] bcast_S128x1_S128x100000_0_1 : (⟨S128x1, .f32⟩ : BufTy).Contents (Elt F) → (⟨S128x100000, .f32⟩ : BufTy).Contents (Elt F))
  , StableHlo.binary main_v2 main_v7 main_v8 (subf : (⟨S128x100000, .f32⟩ : BufTy).Contents (Elt F) → (⟨S128x100000, .f32⟩ : BufTy).Contents (Elt F) → (⟨S128x100000, .f32⟩ : BufTy).Contents (Elt F))
  , StableHlo.unary main_v8 main_v9 (Host.exp : (⟨S128x100000, .f32⟩ : BufTy).Contents (Elt F) → (⟨S128x100000, .f32⟩ : BufTy).Contents (Elt F))
  , StableHlo.nullary main_cst_1 (constant S_ .f32 0x00000000#32)
  , StableHlo.binary main_v9 main_cst_1 main_v10 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F))
  , StableHlo.unary main_v10 main_v11 (broadcastInDim S128x1 ![0] bcast_S128_S128x1_0 : (⟨S128, .f32⟩ : BufTy).Contents (Elt F) → (⟨S128x1, .f32⟩ : BufTy).Contents (Elt F))
  , StableHlo.unary main_v11 main_v12 (broadcastInDim S128x100000 ![0, 1] bcast_S128x1_S128x100000_0_1 : (⟨S128x1, .f32⟩ : BufTy).Contents (Elt F) → (⟨S128x100000, .f32⟩ : BufTy).Contents (Elt F))
  , StableHlo.binary main_v9 main_v12 main_v13 (Host.divf : (⟨S128x100000, .f32⟩ : BufTy).Contents (Elt F) → (⟨S128x100000, .f32⟩ : BufTy).Contents (Elt F) → (⟨S128x100000, .f32⟩ : BufTy).Contents (Elt F))
  , StableHlo.nullary main_c (constantI S_ 32 42#32)
  , StableHlo.nullary main_c_2 (constantI S_ 32 32#32)
  , StableHlo.binary main_c main_c_2 main_v14 (Host.shrui : (⟨S_, .i32⟩ : BufTy).Contents (Elt F) → (⟨S_, .i32⟩ : BufTy).Contents (Elt F) → (⟨S_, .i32⟩ : BufTy).Contents (Elt F))
  , StableHlo.unary main_v14 main_v15 (id : (⟨S_, .i32⟩ : BufTy).Contents (Elt F) → (⟨S_, .i32⟩ : BufTy).Contents (Elt F))
  , StableHlo.unary main_v15 main_v16 (broadcastInDim S1 ![] bcast_S_S1 : (⟨S_, .i32⟩ : BufTy).Contents (Elt F) → (⟨S1, .i32⟩ : BufTy).Contents (Elt F))
  , StableHlo.nullary main_c_3 (constantI S_ 32 4294967295#32)
  , StableHlo.binary main_c main_c_3 main_v17 (andi : (⟨S_, .i32⟩ : BufTy).Contents (Elt F) → (⟨S_, .i32⟩ : BufTy).Contents (Elt F) → (⟨S_, .i32⟩ : BufTy).Contents (Elt F))
  , StableHlo.unary main_v17 main_v18 (id : (⟨S_, .i32⟩ : BufTy).Contents (Elt F) → (⟨S_, .i32⟩ : BufTy).Contents (Elt F))
  , StableHlo.unary main_v18 main_v19 (broadcastInDim S1 ![] bcast_S_S1 : (⟨S_, .i32⟩ : BufTy).Contents (Elt F) → (⟨S1, .i32⟩ : BufTy).Contents (Elt F))
  , StableHlo.binary main_v16 main_v19 main_v20 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ]

/-- The clip's bound. -/
def mainOps1 : List (HloOp τ sig (Elt F)) :=
  [ StableHlo.nullary main_cst_4 (constant S_ .f32 0x2EDBE6FF#32) ]

/-- The quotient of probabilities and noise. -/
def mainOps2 : List (HloOp τ sig (Elt F)) :=
  [ StableHlo.binary main_v13 main_v22 main_v23 (Host.divf : (⟨S128x100000, .f32⟩ : BufTy).Contents (Elt F) → (⟨S128x100000, .f32⟩ : BufTy).Contents (Elt F) → (⟨S128x100000, .f32⟩ : BufTy).Contents (Elt F)) ]

/-- The cipher, as a line. -/
def cipherOps (arg0 arg1 : StableHlo.TRef sig ⟨S_, .i32⟩) (arg2 arg3 : StableHlo.TRef sig ⟨S128x100000, .i32⟩) (φ : fn_threefry2x32.Bufs) : List (HloOp τ sig (Elt F)) :=
  cipherOps0 arg0 arg1 arg2 arg3 φ ++ (cipherOps1 arg0 arg1 arg2 arg3 φ ++ (cipherOps2 arg0 arg1 arg2 arg3 φ ++ cipherOps3 arg0 arg1 arg2 arg3 φ))

/-- The whole reference, as a line. -/
def ops : List (HloOp τ sig (Elt F)) :=
  mainOps0 ++ (exponentialOps0 (.of main_v20) main_call0
    ++ (uniformOps0 (.of main_v20) main_call0.cst main_call0.cst_0 main_call0_call0
    ++ (cipherOps main_call0_call0.v5 main_call0_call0.v7 main_call0_call0.v18 main_call0_call0.v17 main_call0_call0_call0
    ++ (uniformOps1 (.of main_v20) main_call0.cst main_call0.cst_0 main_call0_call0
    ++ (exponentialOps1 (.of main_v20) main_call0
    ++ (mainOps1 ++ (clipOps (.of main_v21) (.of main_cst_4) main_call1
    ++ (mainOps2 ++ argmaxOps (.of main_v23) main_call2))))))))

/-- The buffers the line writes, in order: each once. -/
def written : List (Ref sig .tc) :=
  [ main_v0, main_v1, main_v2, main_cst, main_v3,
    main_cst_0, main_v4, main_v5, main_v6, main_v7,
    main_v8, main_v9, main_cst_1, main_v10, main_v11,
    main_v12, main_v13, main_c, main_c_2, main_v14,
    main_v15, main_v16, main_c_3, main_v17, main_v18,
    main_v19, main_v20, main_call0_cst, main_call0_cst_0, main_call0_call0_v0,
    main_call0_call0_v1, main_call0_call0_v2, main_call0_call0_v3, main_call0_call0_v4, main_call0_call0_v5,
    main_call0_call0_v6, main_call0_call0_v7, main_call0_call0_v8, main_call0_call0_v9, main_call0_call0_c,
    main_call0_call0_v10, main_call0_call0_v11, main_call0_call0_c_0, main_call0_call0_v12, main_call0_call0_v13,
    main_call0_call0_v14, main_call0_call0_c_1, main_call0_call0_v15, main_call0_call0_v16, main_call0_call0_v17,
    main_call0_call0_v18, main_call0_call0_call0_v0, main_call0_call0_call0_c, main_call0_call0_call0_v1, main_call0_call0_call0_v2,
    main_call0_call0_call0_v3, main_call0_call0_call0_v4, main_call0_call0_call0_v5, main_call0_call0_call0_v6, main_call0_call0_call0_c_0,
    main_call0_call0_call0_v7, main_call0_call0_call0_v8, main_call0_call0_call0_c_1, main_call0_call0_call0_v9, main_call0_call0_call0_v10,
    main_call0_call0_call0_v11, main_call0_call0_call0_v12, main_call0_call0_call0_v13, main_call0_call0_call0_c_2, main_call0_call0_call0_v14,
    main_call0_call0_call0_v15, main_call0_call0_call0_c_3, main_call0_call0_call0_v16, main_call0_call0_call0_v17, main_call0_call0_call0_v18,
    main_call0_call0_call0_v19, main_call0_call0_call0_v20, main_call0_call0_call0_c_4, main_call0_call0_call0_v21, main_call0_call0_call0_v22,
    main_call0_call0_call0_c_5, main_call0_call0_call0_v23, main_call0_call0_call0_v24, main_call0_call0_call0_v25, main_call0_call0_call0_v26,
    main_call0_call0_call0_v27, main_call0_call0_call0_c_6, main_call0_call0_call0_v28, main_call0_call0_call0_v29, main_call0_call0_call0_c_7,
    main_call0_call0_call0_v30, main_call0_call0_call0_v31, main_call0_call0_call0_v32, main_call0_call0_call0_v33, main_call0_call0_call0_v34,
    main_call0_call0_call0_v35, main_call0_call0_call0_v36, main_call0_call0_call0_v37, main_call0_call0_call0_c_8, main_call0_call0_call0_v38,
    main_call0_call0_call0_v39, main_call0_call0_call0_v40, main_call0_call0_call0_c_9, main_call0_call0_call0_v41, main_call0_call0_call0_v42,
    main_call0_call0_call0_c_10, main_call0_call0_call0_v43, main_call0_call0_call0_v44, main_call0_call0_call0_v45, main_call0_call0_call0_v46,
    main_call0_call0_call0_v47, main_call0_call0_call0_c_11, main_call0_call0_call0_v48, main_call0_call0_call0_v49, main_call0_call0_call0_c_12,
    main_call0_call0_call0_v50, main_call0_call0_call0_v51, main_call0_call0_call0_v52, main_call0_call0_call0_v53, main_call0_call0_call0_v54,
    main_call0_call0_call0_c_13, main_call0_call0_call0_v55, main_call0_call0_call0_v56, main_call0_call0_call0_c_14, main_call0_call0_call0_v57,
    main_call0_call0_call0_v58, main_call0_call0_call0_v59, main_call0_call0_call0_v60, main_call0_call0_call0_v61, main_call0_call0_call0_c_15,
    main_call0_call0_call0_v62, main_call0_call0_call0_v63, main_call0_call0_call0_c_16, main_call0_call0_call0_v64, main_call0_call0_call0_v65,
    main_call0_call0_call0_v66, main_call0_call0_call0_v67, main_call0_call0_call0_v68, main_call0_call0_call0_v69, main_call0_call0_call0_v70,
    main_call0_call0_call0_v71, main_call0_call0_call0_c_17, main_call0_call0_call0_v72, main_call0_call0_call0_v73, main_call0_call0_call0_v74,
    main_call0_call0_call0_c_18, main_call0_call0_call0_v75, main_call0_call0_call0_v76, main_call0_call0_call0_c_19, main_call0_call0_call0_v77,
    main_call0_call0_call0_v78, main_call0_call0_call0_v79, main_call0_call0_call0_v80, main_call0_call0_call0_v81, main_call0_call0_call0_c_20,
    main_call0_call0_call0_v82, main_call0_call0_call0_v83, main_call0_call0_call0_c_21, main_call0_call0_call0_v84, main_call0_call0_call0_v85,
    main_call0_call0_call0_v86, main_call0_call0_call0_v87, main_call0_call0_call0_v88, main_call0_call0_call0_c_22, main_call0_call0_call0_v89,
    main_call0_call0_call0_v90, main_call0_call0_call0_c_23, main_call0_call0_call0_v91, main_call0_call0_call0_v92, main_call0_call0_call0_v93,
    main_call0_call0_call0_v94, main_call0_call0_call0_v95, main_call0_call0_call0_c_24, main_call0_call0_call0_v96, main_call0_call0_call0_v97,
    main_call0_call0_call0_c_25, main_call0_call0_call0_v98, main_call0_call0_call0_v99, main_call0_call0_call0_v100, main_call0_call0_call0_v101,
    main_call0_call0_call0_v102, main_call0_call0_call0_v103, main_call0_call0_call0_v104, main_call0_call0_call0_v105, main_call0_call0_call0_c_26,
    main_call0_call0_call0_v106, main_call0_call0_call0_v107, main_call0_call0_call0_v108, main_call0_call0_call0_c_27, main_call0_call0_call0_v109,
    main_call0_call0_call0_v110, main_call0_call0_call0_c_28, main_call0_call0_call0_v111, main_call0_call0_call0_v112, main_call0_call0_call0_v113,
    main_call0_call0_call0_v114, main_call0_call0_call0_v115, main_call0_call0_call0_c_29, main_call0_call0_call0_v116, main_call0_call0_call0_v117,
    main_call0_call0_call0_c_30, main_call0_call0_call0_v118, main_call0_call0_call0_v119, main_call0_call0_call0_v120, main_call0_call0_call0_v121,
    main_call0_call0_call0_v122, main_call0_call0_call0_c_31, main_call0_call0_call0_v123, main_call0_call0_call0_v124, main_call0_call0_call0_c_32,
    main_call0_call0_call0_v125, main_call0_call0_call0_v126, main_call0_call0_call0_v127, main_call0_call0_call0_v128, main_call0_call0_call0_v129,
    main_call0_call0_call0_c_33, main_call0_call0_call0_v130, main_call0_call0_call0_v131, main_call0_call0_call0_c_34, main_call0_call0_call0_v132,
    main_call0_call0_call0_v133, main_call0_call0_call0_v134, main_call0_call0_call0_v135, main_call0_call0_call0_v136, main_call0_call0_call0_v137,
    main_call0_call0_call0_v138, main_call0_call0_call0_v139, main_call0_call0_call0_c_35, main_call0_call0_call0_v140, main_call0_call0_call0_v141,
    main_call0_call0_call0_v142, main_call0_call0_call0_c_36, main_call0_call0_call0_v143, main_call0_call0_call0_v144, main_call0_call0_call0_c_37,
    main_call0_call0_call0_v145, main_call0_call0_call0_v146, main_call0_call0_call0_v147, main_call0_call0_call0_v148, main_call0_call0_call0_v149,
    main_call0_call0_call0_c_38, main_call0_call0_call0_v150, main_call0_call0_call0_v151, main_call0_call0_call0_c_39, main_call0_call0_call0_v152,
    main_call0_call0_call0_v153, main_call0_call0_call0_v154, main_call0_call0_call0_v155, main_call0_call0_call0_v156, main_call0_call0_call0_c_40,
    main_call0_call0_call0_v157, main_call0_call0_call0_v158, main_call0_call0_call0_c_41, main_call0_call0_call0_v159, main_call0_call0_call0_v160,
    main_call0_call0_call0_v161, main_call0_call0_call0_v162, main_call0_call0_call0_v163, main_call0_call0_call0_c_42, main_call0_call0_call0_v164,
    main_call0_call0_call0_v165, main_call0_call0_call0_c_43, main_call0_call0_call0_v166, main_call0_call0_call0_v167, main_call0_call0_call0_v168,
    main_call0_call0_call0_v169, main_call0_call0_call0_v170, main_call0_call0_v19_0, main_call0_call0_call0_v172, main_call0_call0_call0_v173,
    main_call0_call0_call0_c_44, main_call0_call0_call0_v174, main_call0_call0_v19_1, main_call0_call0_v20, main_call0_call0_c_2,
    main_call0_call0_v21, main_call0_call0_v22, main_call0_call0_c_3, main_call0_call0_v23, main_call0_call0_v24,
    main_call0_call0_v25, main_call0_call0_cst, main_call0_call0_v26, main_call0_call0_v27, main_call0_call0_v28,
    main_call0_call0_v29, main_call0_call0_v30, main_call0_call0_v31, main_call0_call0_v32, main_call0_call0_v33,
    main_call0_v0, main_call0_v1, main_call0_v2, main_v21, main_cst_4,
    main_call1_v0, main_call1_v1, main_v22, main_v23, main_call2_v0,
    main_call2_cst, main_call2_c, main_call2_v1_0, main_v24 ]

end Cert.ReferenceIdeal.Hand

end
-- ==== Proof.ReferenceFrame.lean ====
/-
  The reference's run: the straight line is the program, it ends with every buffer at what the line computes, and the two
  arguments, which no operation writes, are as they were.
-/
module

public import proofs.«01_k».proof.Proof.ReferenceLine
public import Idealize.ShloMosaic.Lib.Quiescent

@[expose] public section

set_option maxRecDepth 65536

noncomputable section

namespace Cert.ReferenceIdeal.Hand

open Cert.ReferenceIdeal
open Idealize.ShloMosaic Idealize.ShloMosaic.TcCoe Idealize.SL.Sem
open Idealize.ShloMosaic.StableHlo (seq after launchContents)

variable {F : FTy → Type} [FloatOps F] [Facts]

/-- Four stretches of the cipher's body, each its line. -/
theorem cipher0_eq (arg0 arg1 : StableHlo.TRef sig ⟨S_, .i32⟩) (arg2 arg3 : StableHlo.TRef sig ⟨S128x100000, .i32⟩)
    (φ : fn_threefry2x32.Bufs) :
    fn_threefry2x32.body_part0 (F := F) arg0 arg1 arg2 arg3 φ = seq (cipherOps0 arg0 arg1 arg2 arg3 φ) := rfl

/-- The cipher's stretch 2. -/
theorem cipher1_eq (arg0 arg1 : StableHlo.TRef sig ⟨S_, .i32⟩) (arg2 arg3 : StableHlo.TRef sig ⟨S128x100000, .i32⟩)
    (φ : fn_threefry2x32.Bufs) :
    fn_threefry2x32.body_part1 (F := F) arg0 arg1 arg2 arg3 φ = seq (cipherOps1 arg0 arg1 arg2 arg3 φ) := rfl

/-- The cipher's stretch 3. -/
theorem cipher2_eq (arg0 arg1 : StableHlo.TRef sig ⟨S_, .i32⟩) (arg2 arg3 : StableHlo.TRef sig ⟨S128x100000, .i32⟩)
    (φ : fn_threefry2x32.Bufs) :
    fn_threefry2x32.body_part2 (F := F) arg0 arg1 arg2 arg3 φ = seq (cipherOps2 arg0 arg1 arg2 arg3 φ) := rfl

/-- The cipher's stretch 4. -/
theorem cipher3_eq (arg0 arg1 : StableHlo.TRef sig ⟨S_, .i32⟩) (arg2 arg3 : StableHlo.TRef sig ⟨S128x100000, .i32⟩)
    (φ : fn_threefry2x32.Bufs) :
    fn_threefry2x32.body_part3 (F := F) arg0 arg1 arg2 arg3 φ = seq (cipherOps3 arg0 arg1 arg2 arg3 φ) := rfl

/-- The program is the line. -/
theorem main_eq (c : Dev nD) : main (F := F) c = seq ops := rfl

/-- The line writes the listed buffers, one each. -/
theorem writes_eq : (ops (F := F)).map HloOp.writes = written.map fun r => {Proc.devRef (τ := τ) .tc r} := rfl

/-- No operation leaves a buffer to chance. -/
theorem fresh_eq : (ops (F := F)).map HloOp.fresh = (ops (F := F)).map fun _ => ∅ := rfl

/-- Every operation works on the core's own buffers. -/
theorem bufs_sub : (ops (F := F)).Forall fun op => op.bufs ⊆ StableHlo.tcRefs τ sig := by
  simp only [ops, cipherOps, mainOps0, mainOps1, mainOps2, exponentialOps0, exponentialOps1, uniformOps0, uniformOps1,
    cipherOps0, cipherOps1, cipherOps2, cipherOps3, clipOps, argmaxOps, List.forall_append, List.Forall,
    StableHlo.TRef.nullary, StableHlo.TRef.unary, StableHlo.TRef.binary, StableHlo.TRef.quaternary,
    StableHlo.nullary_bufs_sub, StableHlo.unary_bufs_sub, StableHlo.binary_bufs_sub, StableHlo.ternary_bufs_sub,
    StableHlo.quaternary_bufs_sub, StableHlo.reshape_bufs_sub, and_self]

/-- The contents every run ends with. -/
def final (m : (ℓ : Loc nD τ sig) → Buf (Elt F) ℓ) (d : Dev nD) : Valuation τ sig (Elt F) :=
  after ops (launchContents m d)

/-- Every run ends, each buffer at what the line computes. -/
theorem run (m : (ℓ : Loc nD τ sig) → Buf (Elt F) ℓ) (ρ : Dev nD → PrngReg) :
    θ_run (defs (F := F)) (onTc (τ := τ) main) ⟨m, fun _ => 0, ρ⟩ fun r =>
      ∀ (d : Dev nD) (b : Ref sig .tc), r.2.mem ((d.tc : Thread nD τ).loc b) = final m d (Proc.devRef .tc b) :=
  StableHlo.run_seq (by decide) (by decide) defs main (fun _ => ops) main_eq (fun _ => bufs_sub) m ρ
    (fun _ => List.forall_iff_forall_mem.mp (StableHlo.forall_fresh_of_map fresh_eq))

/-- A buffer outside the list keeps its contents along any stretch of the line. -/
theorem after_keep {b : Ref sig .tc} (hb : b ∉ written) (V : Valuation τ sig (Elt F)) :
    after (ops (F := F)) V (Proc.devRef .tc b) = V (Proc.devRef .tc b) := by
  refine StableHlo.after_of_forall_not_mem _ _ fun op hop hm => ?_
  have h : op.writes ∈ (ops (F := F)).map HloOp.writes := List.mem_map_of_mem hop
  rw [writes_eq] at h
  obtain ⟨r, hr, he⟩ := List.mem_map.mp h
  rw [← he, Finset.mem_singleton] at hm
  exact hb (Proc.devRef_injective _ hm ▸ hr)

/-- The arguments are not among the buffers written. -/
theorem arg0_keep : main_arg0 ∉ written := by decide +kernel

/-- Nor is the second argument. -/
theorem arg1_keep : main_arg1 ∉ written := by decide +kernel

/-- The reference runs to its end, with its arguments unchanged and no counter left. -/
theorem frame : Cert.quiescent_ReferenceIdeal := fun m ρ _ =>
  (θ_run defs _ _).mono
    (fun r h => ⟨fun c => ⟨(h c main_arg0).trans (after_keep arg0_keep _), (h c main_arg1).trans (after_keep arg1_keep _)⟩,
      sem_eq_zero_of_no_sems (by decide) r.2⟩)
    (run (F := Ideal) m ρ)

end Cert.ReferenceIdeal.Hand

end
-- ==== Proof.Cipher.lean ====
/-
  The counter cipher on one word: twenty rounds of add, rotate and exclusive or on a pair of words, a key injection after
  every four, with the key (0, 42). The states are named one by one, so that a round is one step between two names.
-/
module

public import Idealize.ShloMosaic.PureOps.Ideal

@[expose] public section

namespace Cert.Cipher

open Idealize.ShloMosaic

/-- A word. -/
abbrev Word : Type := BitVec 32

/-- A word turned left by `r` places, `s` being the rest of the width. -/
def turn (r s x : Word) : Word := Scalar.ori (Scalar.shli x r) (Scalar.shrui x s)

/-- One round: the sum, and the turned second word against it. -/
def round (r s : Word) (p : Word × Word) : Word × Word :=
  (Scalar.addi p.1 p.2, Scalar.xori (turn r s p.2) (Scalar.addi p.1 p.2))

/-- One key injection. -/
def inject (k l n : Word) (p : Word × Word) : Word × Word :=
  (Scalar.addi p.1 k, Scalar.addi (Scalar.addi p.2 l) n)

/-- The state after the first round, the first word being zero before it. -/
def s1 (w : Word) : Word × Word := (w, Scalar.xori (turn 13#32 19#32 w) w)
def s2 (w : Word) : Word × Word := round 15#32 17#32 (s1 w)
def s3 (w : Word) : Word × Word := round 26#32 6#32 (s2 w)
def s4 (w : Word) : Word × Word := round 6#32 26#32 (s3 w)
def s5 (w : Word) : Word × Word := inject 42#32 466689008#32 1#32 (s4 w)
def s6 (w : Word) : Word × Word := round 17#32 15#32 (s5 w)
def s7 (w : Word) : Word × Word := round 29#32 3#32 (s6 w)
def s8 (w : Word) : Word × Word := round 16#32 16#32 (s7 w)
def s9 (w : Word) : Word × Word := round 24#32 8#32 (s8 w)
def s10 (w : Word) : Word × Word := inject 466689008#32 0#32 2#32 (s9 w)
def s11 (w : Word) : Word × Word := round 13#32 19#32 (s10 w)
def s12 (w : Word) : Word × Word := round 15#32 17#32 (s11 w)
def s13 (w : Word) : Word × Word := round 26#32 6#32 (s12 w)
def s14 (w : Word) : Word × Word := round 6#32 26#32 (s13 w)
def s15 (w : Word) : Word × Word := inject 0#32 42#32 3#32 (s14 w)
def s16 (w : Word) : Word × Word := round 17#32 15#32 (s15 w)
def s17 (w : Word) : Word × Word := round 29#32 3#32 (s16 w)
def s18 (w : Word) : Word × Word := round 16#32 16#32 (s17 w)
def s19 (w : Word) : Word × Word := round 24#32 8#32 (s18 w)
def s20 (w : Word) : Word × Word := inject 42#32 466689008#32 4#32 (s19 w)
def s21 (w : Word) : Word × Word := round 13#32 19#32 (s20 w)
def s22 (w : Word) : Word × Word := round 15#32 17#32 (s21 w)
def s23 (w : Word) : Word × Word := round 26#32 6#32 (s22 w)
def s24 (w : Word) : Word × Word := round 6#32 26#32 (s23 w)
def s25 (w : Word) : Word × Word := inject 466689008#32 0#32 5#32 (s24 w)

/-- The word drawn: the two halves of the last state against each other. -/
def bits (w : Word) : Word := Scalar.xori (s25 w).1 (s25 w).2

end Cert.Cipher

end
-- ==== Proof.KernelCipher.lean ====
/-
  What the kernel's cipher parts hand on: each part takes a run of rounds on two tiles of words, and returns the states the
  cipher names, at every cell of the tile.
-/
module

public import proofs.«01_k».proof.Defs
public import proofs.«01_k».proof.Proof.Cipher
public import proofs.«01_k».proof.Proof.Gen.KernelIdeal.Skeleton

@[expose] public section

set_option maxRecDepth 65536

noncomputable section

namespace Cert.KernelIdeal.Hand

open Cert.KernelIdeal Cert.KernelIdeal.Gen Cert.Cipher
open Idealize.ShloMosaic Idealize.ShloMosaic.TcCoe Idealize.SL.Sem

variable {F : FTy → Type} [FloatOps F] [Named F]

/-- The first words of a state over a tile. -/
def lo (s : Word → Word × Word) (w : IVec S16x512 32) : IVec S16x512 32 := fun j => (s (w j)).1

/-- The second words of a state over a tile. -/
def hi (s : Word → Word × Word) (w : IVec S16x512 32) : IVec S16x512 32 := fun j => (s (w j)).2

/-- The second words, shifted left. -/
def hiShl (s : Word → Word × Word) (r : Word) (w : IVec S16x512 32) : IVec S16x512 32 := fun j => Scalar.shli (s (w j)).2 r

/-- The second words, turned. -/
def hiTurn (s : Word → Word × Word) (r t : Word) (w : IVec S16x512 32) : IVec S16x512 32 := fun j => turn r t (s (w j)).2

/-- The words drawn over a tile. -/
def drawn (w : IVec S16x512 32) : IVec S16x512 32 := fun j => bits (w j)

section Parts

variable (i : grid0.Coords)
  (arg1 : Memref sig .tc .vmem S128x4096 .f32) (harg1 : arg1.IsWhole)
  (arg2 : Memref sig .tc .vmem S128x1 .f32) (harg2 : arg2.IsWhole)
  (arg3 : Memref sig .tc .vmem S128x1 .f32) (harg3 : arg3.IsWhole)
  (arg4 : Memref sig .tc .vmem S128x1 .i32) (harg4 : arg4.IsWhole)
  (arg5 : Memref sig .tc .vmem S128x4096 .f32) (harg5 : arg5.IsWhole)
  (arg6 : Memref sig .tc .vmem S128x4096 .i32) (harg6 : arg6.IsWhole)
  (arg7 : Memref sig .tc .vmem S128x1 .f32) (harg7 : arg7.IsWhole)

/-- The first part: the words of both tiles, two rounds and a half. -/
theorem part1_eq (v7 : IVec S16x512 32) (v8 c0 c1 : BitVec 32) (t : Fin k0_t1_loop.trips) :
    k0_part1 (F := F) i arg1 harg1 arg2 harg2 arg3 harg3 arg4 harg4 arg5 harg5 arg6 harg6 arg7 harg7 v7 v8 c0 c1 t
      = pure ⟨Scalar.muli (Scalar.shrsi (Scf.iv c0 c1 t) 2#32) 16#32, Scalar.muli (Scalar.andi (Scf.iv c0 c1 t) 3#32) 1024#32,
          hi s2 (k0_pay11 v7 v8 c0 c1 t), hi s2 (k0_pay12 v7 v8 c0 c1 t), lo s3 (k0_pay11 v7 v8 c0 c1 t),
          lo s3 (k0_pay12 v7 v8 c0 c1 t), hiShl s2 26#32 (k0_pay11 v7 v8 c0 c1 t), 6#32⟩ := rfl

/-- Part 2 of the cipher, on both tiles. -/
theorem part2_eq (a b : IVec S16x512 32) :
    k0_part2 (F := F) i arg1 harg1 arg2 harg2 arg3 harg3 arg4 harg4 arg5 harg5 arg6 harg6 arg7 harg7
        (hi s2 a) (hi s2 b) (lo s3 a) (lo s3 b) (hiShl s2 26#32 a) 6#32
      = pure ⟨hi s5 b, lo s6 a, lo s6 b, hiTurn s5 17#32 15#32 a, hiShl s5 17#32 b⟩ := rfl

/-- Part 3 of the cipher, on both tiles. -/
theorem part3_eq (a b : IVec S16x512 32) :
    k0_part3 (F := F) i arg1 harg1 arg2 harg2 arg3 harg3 arg4 harg4 arg5 harg5 arg6 harg6 arg7 harg7
        (hi s5 b) (lo s6 a) (lo s6 b) (hiTurn s5 17#32 15#32 a) (hiShl s5 17#32 b)
      = pure ⟨lo s9 a, lo s9 b, hi s9 a, hi s9 b⟩ := rfl

/-- Part 4 of the cipher, on both tiles. -/
theorem part4_eq (a b : IVec S16x512 32) :
    k0_part4 (F := F) i arg1 harg1 arg2 harg2 arg3 harg3 arg4 harg4 arg5 harg5 arg6 harg6 arg7 harg7
        (lo s9 a) (lo s9 b) (hi s9 a) (hi s9 b)
      = pure ⟨hi s12 a, hi s12 b, lo s13 a, lo s13 b, hiShl s12 26#32 a, 6#32⟩ := rfl

/-- Part 5 of the cipher, on both tiles. -/
theorem part5_eq (a b : IVec S16x512 32) :
    k0_part5 (F := F) i arg1 harg1 arg2 harg2 arg3 harg3 arg4 harg4 arg5 harg5 arg6 harg6 arg7 harg7
        (hi s12 a) (hi s12 b) (lo s13 a) (lo s13 b) (hiShl s12 26#32 a) 6#32
      = pure ⟨hi s15 b, lo s16 a, lo s16 b, hiTurn s15 17#32 15#32 a, hiShl s15 17#32 b⟩ := rfl

/-- Part 6 of the cipher, on both tiles. -/
theorem part6_eq (a b : IVec S16x512 32) :
    k0_part6 (F := F) i arg1 harg1 arg2 harg2 arg3 harg3 arg4 harg4 arg5 harg5 arg6 harg6 arg7 harg7
        (hi s15 b) (lo s16 a) (lo s16 b) (hiTurn s15 17#32 15#32 a) (hiShl s15 17#32 b)
      = pure ⟨lo s19 a, lo s19 b, hi s19 a, hi s19 b⟩ := rfl

/-- Part 7 of the cipher, on both tiles. -/
theorem part7_eq (a b : IVec S16x512 32) :
    k0_part7 (F := F) i arg1 harg1 arg2 harg2 arg3 harg3 arg4 harg4 arg5 harg5 arg6 harg6 arg7 harg7
        (lo s19 a) (lo s19 b) (hi s19 a) (hi s19 b)
      = pure ⟨hi s22 a, hi s22 b, lo s23 a, lo s23 b, hiShl s22 26#32 a, 6#32⟩ := rfl

/-- The last rounds, second tile: the words drawn. -/
theorem pay96_eq (b : IVec S16x512 32) : k0_pay96 (hi s22 b) (lo s23 b) = drawn b := rfl

/-- The last rounds, first tile: the words drawn, shifted right by nine. -/
theorem pay97_eq (a : IVec S16x512 32) :
    k0_pay97 (hi s22 a) (lo s23 a) (hiShl s22 26#32 a) 6#32 = fun j => Scalar.shrui (drawn a j) 9#32 := rfl

/-- The score of the first tile is the second tile's function of its own words. -/
theorem pay98_eq (a : IVec S16x512 32) (s : Vec F S16x1 .f32) (x : Vec F S16x512 .f32) :
    k0_pay98 s x (fun j => Scalar.shrui (drawn a j) 9#32) 1065353216#32 = k0_pay99 (drawn a) s x := rfl

end Parts

end Cert.KernelIdeal.Hand

end
-- ==== Proof.KernelTrip.lean ====
/-
  One trip of either loop, with the cipher's rounds run: it loads the inverse temperatures of sixteen rows and two tiles of
  the logits, and moves the two running arrays on, tile by tile.
-/
module

public import proofs.«01_k».proof.Proof.KernelCipher

@[expose] public section

set_option maxRecDepth 65536

noncomputable section

namespace Cert.KernelIdeal.Hand

open Cert.KernelIdeal Cert.KernelIdeal.Gen Cert.Cipher
open Idealize.ShloMosaic Idealize.ShloMosaic.TcCoe Idealize.SL.Sem

variable {F : FTy → Type} [FloatOps F] [Named F]

/-- The new chunk numbers of a tile: `n` where the score beats the running maximum. -/
def tookTile (n : BitVec 32) (y v : FVec F S16x512 .f32) (old : IVec S16x512 32) : IVec S16x512 32 :=
  shapeCast S16x512 (select (cmpf .ogt y v) (broadcast S16x512 n) old) shapeCasts_S16x512_S16x512

/-- The new running maximum of a tile. -/
def maxTile (y v : FVec F S16x512 .f32) : FVec F S16x512 .f32 :=
  shapeCast S16x512 (maximumf v y) shapeCasts_S16x512_S16x512

/-- A trip, given where its tiles lie and how a tile's scores follow from its logits. -/
def trip (arg1 : Memref sig .tc .vmem S128x4096 .f32) (arg5 : Memref sig .tc .vmem S128x4096 .f32)
    (arg6 : Memref sig .tc .vmem S128x4096 .i32) (arg7 : Memref sig .tc .vmem S128x1 .f32) (n : BitVec 32)
    (o7 oA oB : Fin 2 → ℕ) (h7 : ∀ a, o7 a + S16x1.size a ≤ S128x1.size a) (hA : ∀ a, oA a + S16x512.size a ≤ S128x4096.size a)
    (hB : ∀ a, oB a + S16x512.size a ≤ S128x4096.size a)
    (yA yB : Vec F S16x1 .f32 → Vec F S16x512 .f32 → FVec F S16x512 .f32) :
    Prog (TpuEff nD τ sig (Elt F) Λ₀ .tc) Unit := do
  let s : Vec F S16x1 .f32 ← Prog.lift (.load arg7 (Rect.unit (s := S128x1) o7 S16x1.size h7).toLoadRect (View.loadsAt_vmem h_S16x1))
  let xA : Vec F S16x512 .f32 ← Prog.lift (.load arg1 (Rect.unit (s := S128x4096) oA S16x512.size hA).toLoadRect (View.loadsAt_vmem h_S16x512))
  let xB : Vec F S16x512 .f32 ← Prog.lift (.load arg1 (Rect.unit (s := S128x4096) oB S16x512.size hB).toLoadRect (View.loadsAt_vmem h_S16x512))
  let vA : Vec F S16x512 .f32 ← Prog.lift (.load arg5 (Rect.unit (s := S128x4096) oA S16x512.size hA).toLoadRect (View.loadsAt_vmem h_S16x512))
  let cA : Vec F S16x512 .i32 ← Prog.lift (.load arg6 (Rect.unit (s := S128x4096) oA S16x512.size hA).toLoadRect (View.loadsAt_vmem h_S16x512))
  let _ : Vec F S16x512 .i32 ← Prog.lift (.load arg6 (Rect.unit (s := S128x4096) oA S16x512.size hA).toLoadRect (View.loadsAt_vmem h_S16x512))
  Prog.lift (.store arg6 (Rect.unit (s := S128x4096) oA S16x512.size hA) (tookTile n (yA s xA) vA cA) Finset.univ (View.stores_vmem_bits_univ h_S16x512 rfl) (.inl rfl))
  let _ : Vec F S16x512 .f32 ← Prog.lift (.load arg5 (Rect.unit (s := S128x4096) oA S16x512.size hA).toLoadRect (View.loadsAt_vmem h_S16x512))
  Prog.lift (.store arg5 (Rect.unit (s := S128x4096) oA S16x512.size hA) (maxTile (yA s xA) vA) Finset.univ (View.stores_vmem_bits_univ h_S16x512 rfl) (.inl rfl))
  let vB : Vec F S16x512 .f32 ← Prog.lift (.load arg5 (Rect.unit (s := S128x4096) oB S16x512.size hB).toLoadRect (View.loadsAt_vmem h_S16x512))
  let cB : Vec F S16x512 .i32 ← Prog.lift (.load arg6 (Rect.unit (s := S128x4096) oB S16x512.size hB).toLoadRect (View.loadsAt_vmem h_S16x512))
  let _ : Vec F S16x512 .i32 ← Prog.lift (.load arg6 (Rect.unit (s := S128x4096) oB S16x512.size hB).toLoadRect (View.loadsAt_vmem h_S16x512))
  Prog.lift (.store arg6 (Rect.unit (s := S128x4096) oB S16x512.size hB) (tookTile n (yB s xB) vB cB) Finset.univ (View.stores_vmem_bits_univ h_S16x512 rfl) (.inl rfl))
  let _ : Vec F S16x512 .f32 ← Prog.lift (.load arg5 (Rect.unit (s := S128x4096) oB S16x512.size hB).toLoadRect (View.loadsAt_vmem h_S16x512))
  Prog.lift (.store arg5 (Rect.unit (s := S128x4096) oB S16x512.size hB) (maxTile (yB s xB) vB) Finset.univ (View.stores_vmem_bits_univ h_S16x512 rfl) (.inl rfl))
  pure ⟨⟩

/-- The column numbers of a tile, and the mask of those inside the logits' width. -/
def inside (base : BitVec 32) (v4 : IVec S16x512 32) : IVec S16x512 1 :=
  cmpi .slt (addi (broadcast S16x512 base) v4) (broadcast S16x512 100000#32)

/-- Scores outside the logits' width count as minus infinity. -/
def maskTile (m : IVec S16x512 1) (y : FVec F S16x512 .f32) : FVec F S16x512 .f32 :=
  select m y (broadcast S16x512 (Scalar.ofBits .f32 0xFF800000#32))

/-- The column a trip's tiles begin at, within the chunk. -/
def tripCol (t : ℕ) : BitVec 32 := Scalar.muli (Scalar.andi (Scf.iv 0#32 1#32 t) 3#32) 1024#32

section Bodies

variable (i : grid0.Coords)
  (arg1 : Memref sig .tc .vmem S128x4096 .f32) (harg1 : arg1.IsWhole)
  (arg2 : Memref sig .tc .vmem S128x1 .f32) (harg2 : arg2.IsWhole)
  (arg3 : Memref sig .tc .vmem S128x1 .f32) (harg3 : arg3.IsWhole)
  (arg4 : Memref sig .tc .vmem S128x1 .i32) (harg4 : arg4.IsWhole)
  (arg5 : Memref sig .tc .vmem S128x4096 .f32) (harg5 : arg5.IsWhole)
  (arg6 : Memref sig .tc .vmem S128x4096 .i32) (harg6 : arg6.IsWhole)
  (arg7 : Memref sig .tc .vmem S128x1 .f32) (harg7 : arg7.IsWhole)

/-- A trip of the loop over whole chunks. -/
theorem body1_eq (v8 : BitVec 32) (h2 : k0_cond2 i = 1#1) (t : Fin k0_t1_loop.trips) (u : Unit) :
    k0_t1_body (F := F) i arg1 harg1 arg2 harg2 arg3 harg3 arg4 harg4 arg5 harg5 arg6 harg6 arg7 harg7 v8 h2 t u
      = trip arg1 arg5 arg6 arg7 (BitVec.ofNat 32 (i 0).val) (k0_off1 t) (k0_off2 t) (k0_off3 t)
          (k0_off1_inb i t h2) (k0_off2_inb i t h2) (k0_off3_inb i t h2)
          (k0_pay99 (drawn (k0_pay11 k0_pay4 v8 0#32 1#32 t))) (k0_pay99 (drawn (k0_pay12 k0_pay4 v8 0#32 1#32 t))) := by
  unfold k0_t1_body
  simp only [part1_eq, part2_eq, part3_eq, part4_eq, part5_eq, part6_eq, part7_eq, pure_bind, k0_part8_eq_skeleton,
    k0_part8_skel, k0_part9_eq_skeleton, k0_part9_skel, bind_assoc, pay96_eq, pay97_eq, pay98_eq, k0_pay100]
  rfl

/-- A trip of the loop over the last chunk: the same, with the scores masked. -/
theorem body2_eq (v4 : IVec S16x512 32) (v8 : BitVec 32) (h3 : k0_cond3 i = 1#1) (t : Fin k0_t2_loop.trips) (u : Unit) :
    k0_t2_body (F := F) i arg1 harg1 arg2 harg2 arg3 harg3 arg4 harg4 arg5 harg5 arg6 harg6 arg7 harg7 (BitVec.ofNat 32 (i 0).val) v4 v8 h3 t u
      = trip arg1 arg5 arg6 arg7 (BitVec.ofNat 32 (i 0).val) (k0_off4 t) (k0_off5 t) (k0_off6 t)
          (k0_off4_inb i t h3) (k0_off5_inb i t h3) (k0_off6_inb i t h3)
          (fun s x => maskTile (inside (Scalar.addi v8 (tripCol t)) v4) (k0_pay99 (drawn (k0_pay11 k0_pay4 v8 0#32 1#32 t)) s x))
          (fun s x => maskTile (inside (Scalar.addi (Scalar.addi v8 (tripCol t)) 512#32) v4)
            (k0_pay99 (drawn (k0_pay12 k0_pay4 v8 0#32 1#32 t)) s x)) := by
  have e10 : @k0_part10 F = @k0_part1 F := rfl
  have e11 : @k0_part11 F = @k0_part2 F := rfl
  have e12 : @k0_part12 F = @k0_part3 F := rfl
  have e13 : @k0_part13 F = @k0_part4 F := rfl
  have e14 : @k0_part14 F = @k0_part5 F := rfl
  have e15 : @k0_part15 F = @k0_part6 F := rfl
  have e16 : @k0_part16 F = @k0_part7 F := rfl
  have e186 : k0_pay186 = k0_pay96 := rfl
  have e187 : k0_pay187 = k0_pay97 := rfl
  have e188 : @k0_pay188 F = @k0_pay98 F := rfl
  have e189 : @k0_pay189 F = @k0_pay99 F := rfl
  unfold k0_t2_body
  simp only [e10, e11, e12, e13, e14, e15, e16, part1_eq, part2_eq, part3_eq, part4_eq, part5_eq, part6_eq, part7_eq, pure_bind,
    k0_part17_eq_skeleton, k0_part17_skel, k0_part18_eq_skeleton, k0_part18_skel, k0_part19_eq_skeleton, k0_part19_skel,
    bind_assoc, e186, e187, e188, e189, pay96_eq, pay97_eq, pay98_eq]
  rfl

end Bodies

end Cert.KernelIdeal.Hand

end
-- ==== Proof.KernelStep.lean ====
/-
  What one trip does to the two running arrays: on its two tiles the running maximum takes the score in, and the chunk
  number is replaced where the score beats the maximum; elsewhere nothing moves.
-/
module

public import proofs.«01_k».proof.Proof.KernelTrip
public import proofs.«01_k».proof.Proof.KernelIdealOffsets
public import Idealize.ShloMosaic.Lib.WritesUnit
public import Idealize.ShloMosaic.Lib.Pointwise

@[expose] public section

set_option maxRecDepth 65536

noncomputable section

namespace Cert.KernelIdeal.Hand

open Cert.KernelIdeal Cert.KernelIdeal.Gen Cert.Cipher
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The trip whose tiles hold a cell. -/
def tripOf (y : S128x4096.Idx) : ℕ := 4 * ((y 0).val / 16) + (y 1).val / 1024

/-- A cell's place within its tile. -/
def local_ (y : S128x4096.Idx) : S16x512.Idx := ix2 ⟨(y 0).val % 16, Nat.mod_lt _ (by decide)⟩ ⟨(y 1).val % 512, Nat.mod_lt _ (by decide)⟩

/-- Two stores of one trip, read at a cell. -/
theorem read_two {e : EltTy} (v : View sig .tc .vmem S128x4096 e) (f : v.ty.Contents (Elt Ideal)) (t : Fin 32)
    (hA : ∀ a, (![16 * (t.val / 4), 1024 * (t.val % 4)] : Fin 2 → ℕ) a + S16x512.size a ≤ S128x4096.size a)
    (hB : ∀ a, (![16 * (t.val / 4), 1024 * (t.val % 4) + 512] : Fin 2 → ℕ) a + S16x512.size a ≤ S128x4096.size a)
    (wA wB : S16x512.Idx → Elt Ideal e) (y : S128x4096.Idx) :
    v.read (Elt Ideal) (v.writes (Elt Ideal) f
        [⟨Rect.unit (s := S128x4096) ![16 * (t.val / 4), 1024 * (t.val % 4) + 512] S16x512.size hB, wB⟩,
          ⟨Rect.unit (s := S128x4096) ![16 * (t.val / 4), 1024 * (t.val % 4)] S16x512.size hA, wA⟩]) y
      = if tripOf y = t.val then (if (y 1).val % 1024 < 512 then wA (local_ y) else wB (local_ y))
        else v.read (Elt Ideal) f y := by
  have hy0 : (y 0).val < 128 := (y 0).isLt
  have hy1 : (y 1).val < 4096 := (y 1).isLt
  have ht := t.isLt
  by_cases h : tripOf y = t.val
  · rw [if_pos h]
    unfold tripOf at h
    by_cases h' : (y 1).val % 1024 < 512
    · rw [if_pos h', View.read_writes_cons_unit_of_not_mem v f hB wB _ y rfl 1 (Or.inl (by show (y 1).val < 1024 * (t.val % 4) + 512; omega)),
        View.read_writes_cons_unit_of_mem v f hA wA [] y (local_ y) rfl]
      intro a
      fin_cases a
      · show (y 0).val = 16 * (t.val / 4) + (y 0).val % 16; omega
      · show (y 1).val = 1024 * (t.val % 4) + (y 1).val % 512; omega
    · rw [if_neg h', View.read_writes_cons_unit_of_mem v f hB wB _ y (local_ y) rfl]
      intro a
      fin_cases a
      · show (y 0).val = 16 * (t.val / 4) + (y 0).val % 16; omega
      · show (y 1).val = 1024 * (t.val % 4) + 512 + (y 1).val % 512; omega
  · rw [if_neg h]
    unfold tripOf at h
    by_cases h0 : (y 0).val / 16 = t.val / 4
    · rw [View.read_writes_cons_unit_of_not_mem v f hB wB _ y rfl 1
          (by show (y 1).val < 1024 * (t.val % 4) + 512 ∨ 1024 * (t.val % 4) + 512 + 512 ≤ (y 1).val; omega),
        View.read_writes_cons_unit_of_not_mem v f hA wA _ y rfl 1
          (by show (y 1).val < 1024 * (t.val % 4) ∨ 1024 * (t.val % 4) + 512 ≤ (y 1).val; omega)]
      rfl
    · rw [View.read_writes_cons_unit_of_not_mem v f hB wB _ y rfl 0
          (by show (y 0).val < 16 * (t.val / 4) ∨ 16 * (t.val / 4) + 16 ≤ (y 0).val; omega),
        View.read_writes_cons_unit_of_not_mem v f hA wA _ y rfl 0
          (by show (y 0).val < 16 * (t.val / 4) ∨ 16 * (t.val / 4) + 16 ≤ (y 0).val; omega)]
      rfl

/-- The running maxima of a tile, cell by cell. -/
theorem maxTile_apply (y v : FVec Ideal S16x512 .f32) (j : S16x512.Idx) : maxTile y v j = max (v j) (y j) := by
  idx_vars j
  pointwise [maxTile]

/-- The chunk numbers of a tile, cell by cell. -/
theorem tookTile_apply (n : BitVec 32) (y v : FVec Ideal S16x512 .f32) (old : IVec S16x512 32) (j : S16x512.Idx) :
    tookTile n y v old j = if v j < y j then n else old j := by
  idx_vars j
  pointwise [tookTile]

/-- The running maximum after the trips before `k`. -/
def maxUpto (k : ℕ) (Y V : S128x4096.Idx → EReal) : S128x4096.Idx → EReal :=
  fun y => if tripOf y < k then max (V y) (Y y) else V y

/-- The chunk numbers after the trips before `k`. -/
def tookUpto (k : ℕ) (n : BitVec 32) (Y V : S128x4096.Idx → EReal) (C : S128x4096.Idx → BitVec 32) : S128x4096.Idx → BitVec 32 :=
  fun y => if tripOf y < k then (if V y < Y y then n else C y) else C y

/-- A tile's scores are `Y`'s, if its inputs are the arrays' cells there. -/
def Scores (t : ℕ) (b : ℕ) (yT : Vec Ideal S16x1 .f32 → Vec Ideal S16x512 .f32 → FVec Ideal S16x512 .f32)
    (X Y : S128x4096.Idx → EReal) (S : S128x1.Idx → EReal) : Prop :=
  ∀ (s : Vec Ideal S16x1 .f32) (x : Vec Ideal S16x512 .f32) (y : S128x4096.Idx), tripOf y = t → (y 1).val % 1024 / 512 = b →
    s (ix2 (local_ y 0) 0) = S (ix2 (y 0) 0) → x (local_ y) = X y → yT s x (local_ y) = Y y

/-- The inverse temperatures a trip loads, at a cell's row. -/
theorem rows_at (M : Memref sig .tc .vmem S128x1 .f32) (g : M.view.ty.Contents (Elt Ideal)) (t : Fin 32)
    (h7 : ∀ a, (![16 * (t.val / 4), 0] : Fin 2 → ℕ) a + S16x1.size a ≤ S128x1.size a) (y : S128x4096.Idx) (hy : tripOf y = t.val) :
    View.readAt (Elt Ideal) M.view (Rect.unit (s := S128x1) ![16 * (t.val / 4), 0] S16x1.size h7).toLoadRect g (ix2 (local_ y 0) 0)
      = View.read (Elt Ideal) M.view g (ix2 (y 0) 0) := by
  have hy0 : (y 0).val < 128 := (y 0).isLt
  have hy1 : (y 1).val < 4096 := (y 1).isLt
  unfold tripOf at hy
  refine congrArg (View.read (Elt Ideal) M.view g) ?_
  funext a
  fin_cases a
  · refine Fin.ext ?_
    show 16 * (t.val / 4) + 1 * ((y 0).val % 16) = (y 0).val; omega
  · rfl

/-- A trip's first tile of an array, at a cell of it. -/
theorem first_at {e : EltTy} (M : Memref sig .tc .vmem S128x4096 e) (g : M.view.ty.Contents (Elt Ideal)) (t : Fin 32)
    (hA : ∀ a, (![16 * (t.val / 4), 1024 * (t.val % 4)] : Fin 2 → ℕ) a + S16x512.size a ≤ S128x4096.size a)
    (y : S128x4096.Idx) (hy : tripOf y = t.val) (hlt : (y 1).val % 1024 < 512) :
    View.readAt (Elt Ideal) M.view (Rect.unit (s := S128x4096) ![16 * (t.val / 4), 1024 * (t.val % 4)] S16x512.size hA).toLoadRect g (local_ y)
      = View.read (Elt Ideal) M.view g y := by
  have hy0 : (y 0).val < 128 := (y 0).isLt
  have hy1 : (y 1).val < 4096 := (y 1).isLt
  unfold tripOf at hy
  refine congrArg (View.read (Elt Ideal) M.view g) ?_
  funext a
  fin_cases a
  · refine Fin.ext ?_
    show 16 * (t.val / 4) + 1 * ((y 0).val % 16) = (y 0).val; omega
  · refine Fin.ext ?_
    show 1024 * (t.val % 4) + 1 * ((y 1).val % 512) = (y 1).val; omega

/-- A trip's second tile of an array, at a cell of it. -/
theorem second_at {e : EltTy} (M : Memref sig .tc .vmem S128x4096 e) (g : M.view.ty.Contents (Elt Ideal)) (t : Fin 32)
    (hB : ∀ a, (![16 * (t.val / 4), 1024 * (t.val % 4) + 512] : Fin 2 → ℕ) a + S16x512.size a ≤ S128x4096.size a)
    (y : S128x4096.Idx) (hy : tripOf y = t.val) (hlt : ¬ (y 1).val % 1024 < 512) :
    View.readAt (Elt Ideal) M.view (Rect.unit (s := S128x4096) ![16 * (t.val / 4), 1024 * (t.val % 4) + 512] S16x512.size hB).toLoadRect g (local_ y)
      = View.read (Elt Ideal) M.view g y := by
  have hy0 : (y 0).val < 128 := (y 0).isLt
  have hy1 : (y 1).val < 4096 := (y 1).isLt
  unfold tripOf at hy
  refine congrArg (View.read (Elt Ideal) M.view g) ?_
  funext a
  fin_cases a
  · refine Fin.ext ?_
    show 16 * (t.val / 4) + 1 * ((y 0).val % 16) = (y 0).val; omega
  · refine Fin.ext ?_
    show 1024 * (t.val % 4) + 512 + 1 * ((y 1).val % 512) = (y 1).val; omega

/-- The running maximum, one trip on. -/
theorem maxUpto_succ (k : ℕ) (Y V : S128x4096.Idx → EReal) (y : S128x4096.Idx) :
    maxUpto (k + 1) Y V y = if tripOf y = k then max (maxUpto k Y V y) (Y y) else maxUpto k Y V y := by
  unfold maxUpto
  split_ifs <;> first | rfl | omega

/-- The chunk numbers, one trip on. -/
theorem tookUpto_succ (k : ℕ) (n : BitVec 32) (Y V : S128x4096.Idx → EReal) (C : S128x4096.Idx → BitVec 32) (y : S128x4096.Idx) :
    tookUpto (k + 1) n Y V C y
      = if tripOf y = k then (if maxUpto k Y V y < Y y then n else tookUpto k n Y V C y) else tookUpto k n Y V C y := by
  unfold tookUpto maxUpto
  split_ifs <;> first | rfl | omega

/-- One trip moves both running arrays on by its two tiles. -/
theorem trip_step (c : Dev nD) (arg1 : Memref sig .tc .vmem S128x4096 .f32) (arg5 : Memref sig .tc .vmem S128x4096 .f32)
    (arg6 : Memref sig .tc .vmem S128x4096 .i32) (arg7 : Memref sig .tc .vmem S128x1 .f32) (n : BitVec 32)
    (h1 : arg1.IsWhole) (h5 : arg5.IsWhole) (h6 : arg6.IsWhole) (h7w : arg7.IsWhole)
    (t : Fin 32) (h7 : ∀ a, (![16 * (t.val / 4), 0] : Fin 2 → ℕ) a + S16x1.size a ≤ S128x1.size a)
    (hA : ∀ a, (![16 * (t.val / 4), 1024 * (t.val % 4)] : Fin 2 → ℕ) a + S16x512.size a ≤ S128x4096.size a)
    (hB : ∀ a, (![16 * (t.val / 4), 1024 * (t.val % 4) + 512] : Fin 2 → ℕ) a + S16x512.size a ≤ S128x4096.size a)
    (yA yB : Vec Ideal S16x1 .f32 → Vec Ideal S16x512 .f32 → FVec Ideal S16x512 .f32)
    (X V Y : Vec Ideal S128x4096 .f32) (C : Vec Ideal S128x4096 .i32) (S : Vec Ideal S128x1 .f32)
    (hYA : Scores t.val 0 yA X Y S) (hYB : Scores t.val 1 yB X Y S) :
    iprop(owns c arg1 fullShare X ∗ owns c arg5 fullShare (maxUpto t.val Y V) ∗ owns c arg6 fullShare (tookUpto t.val n Y V C)
      ∗ owns c arg7 fullShare S)
    ⊢ wp (M := 𝕄) frame (wpE defs₀ Variants.none (c : Thread nD τ) none) Set.univ
        (trip arg1 arg5 arg6 arg7 n ![16 * (t.val / 4), 0] ![16 * (t.val / 4), 1024 * (t.val % 4)] ![16 * (t.val / 4), 1024 * (t.val % 4) + 512] h7 hA hB yA yB)
        (fun _ => iprop(owns c arg1 fullShare X ∗ owns c arg5 fullShare (maxUpto (t.val + 1) Y V)
          ∗ owns c arg6 fullShare (tookUpto (t.val + 1) n Y V C) ∗ owns c arg7 fullShare S)) := by
  unfold trip owns
  iintro ⟨⟨%f1, %e1, H1⟩, ⟨%f5, %e5, H5⟩, ⟨%f6, %e6, H6⟩, ⟨%f7, %e7, H7⟩⟩
  sl_exec
  sl_step
  isplitl [H1]
  · iexists f1
    isplitr
    · ipureintro; exact e1
    · iexact H1
  isplitl [H5]
  · iexists _
    isplitr
    rotate_left
    · iexact H5
    ipureintro
    funext y
    refine (read_two arg5.view f5 t hA hB _ _ y).trans ?_
    rw [maxUpto_succ]
    have hr := rows_at arg7 f7 t h7 y
    by_cases hy : tripOf y = t.val
    · rw [if_pos hy, if_pos hy]
      by_cases hl : (y 1).val % 1024 < 512
      · rw [if_pos hl, maxTile_apply]
        refine congrArg₂ max ?_ (hYA _ _ y hy (by omega) ((hr hy).trans (congrFun e7 _)) ((first_at arg1 f1 t hA y hy hl).trans (congrFun e1 y)))
        exact (first_at arg5 f5 t hA y hy hl).trans (congrFun e5 y)
      · rw [if_neg hl, maxTile_apply]
        refine congrArg₂ max ?_ (hYB _ _ y hy (by omega) ((hr hy).trans (congrFun e7 _)) ((second_at arg1 f1 t hB y hy hl).trans (congrFun e1 y)))
        exact (second_at arg5 f5 t hB y hy hl).trans (congrFun e5 y)
    · rw [if_neg hy, if_neg hy]
      exact congrFun e5 y
  isplitl [H6]
  · iexists _
    isplitr
    rotate_left
    · iexact H6
    ipureintro
    funext y
    refine (read_two arg6.view f6 t hA hB _ _ y).trans ?_
    rw [tookUpto_succ]
    have hr := rows_at arg7 f7 t h7 y
    by_cases hy : tripOf y = t.val
    · rw [if_pos hy, if_pos hy]
      by_cases hl : (y 1).val % 1024 < 512
      · rw [if_pos hl, tookTile_apply]
        rw [hYA _ _ y hy (by omega) ((hr hy).trans (congrFun e7 _)) ((first_at arg1 f1 t hA y hy hl).trans (congrFun e1 y)),
          (first_at arg5 f5 t hA y hy hl).trans (congrFun e5 y), (first_at arg6 f6 t hA y hy hl).trans (congrFun e6 y)]
      · rw [if_neg hl, tookTile_apply]
        have q1 := hYB _ _ y hy (by omega) ((hr hy).trans (congrFun e7 _)) ((second_at arg1 f1 t hB y hy hl).trans (congrFun e1 y))
        have q2 := (second_at arg5 f5 t hB y hy hl).trans (congrFun e5 y)
        have q3 := (second_at arg6 f6 t hB y hy hl).trans (congrFun e6 y)
        refine (if_congr (iff_of_eq (congrArg₂ (fun a b : EReal => a < b) q2 q1)) rfl q3)
    · rw [if_neg hy, if_neg hy]
      exact congrFun e6 y
  iexists f7
  isplitr
  · ipureintro; exact e7
  · iexact H7

end Cert.KernelIdeal.Hand

end
-- ==== Proof.KernelScore.lean ====
/-
  The score of one cell: the logit over the temperature, less the logarithm of its noise, both to the base two; and the
  tiles of a trip as tiles of such scores.
-/
module

public import proofs.«01_k».proof.Proof.KernelStep
public import Idealize.ShloMosaic.Lib.WordCmp
public import Mathlib.Data.BitVec

@[expose] public section

set_option maxRecDepth 65536

noncomputable section

namespace Cert.KernelIdeal.Hand

open Cert.KernelIdeal Cert.KernelIdeal.Gen Cert.Cipher
open Idealize.ShloMosaic Idealize.ShloMosaic.TcCoe Idealize.ShloMosaic.Tactic Idealize.SL.Sem

/-- The inverse of the logarithm of two. -/
def log2e : EReal := (((Real.log 2)⁻¹ : ℝ) : EReal)

/-- The float in [1, 2) made of a word's upper bits. -/
def frac (b : Word) : EReal := Ideal.ofBits .f32 (IntOp.ori (IntOp.shrui .vector b 9#32) 1065353216#32)

/-- The exponential noise of a word, to the base two, clipped from below. -/
def noise2 (b : Word) : EReal :=
  max (0 - Ideal.log (Ideal.ofBits .f32 1073741824#32 - frac b) * log2e) (Ideal.ofBits .f32 786163455#32)

/-- The score of a logit under a word's noise, given the scaled inverse temperature. -/
def score (s x : EReal) (b : Word) : EReal := x * s - Ideal.log (noise2 b) * log2e

/-- The counter word of a cell. -/
def cellWord (r col : ℕ) : Word := BitVec.ofNat 32 (100000 * r + col + 42)

/-- The scores of chunk `n`, minus infinity past the logits' width. -/
def chunkScore (n : ℕ) (X : S128x4096.Idx → EReal) (S : S128x1.Idx → EReal) : S128x4096.Idx → EReal := fun y =>
  if 4096 * n + (y 1).val < 100000 then score (S (ix2 (y 0) 0)) (X y) (bits (cellWord (y 0).val (4096 * n + (y 1).val))) else ⊥

/-- The scores of a tile, cell by cell. -/
theorem pay99_apply (b : IVec S16x512 32) (s : Vec Ideal S16x1 .f32) (x : Vec Ideal S16x512 .f32) (j : S16x512.Idx) :
    k0_pay99 (F := Ideal) b s x j = score (s (ix2 (j 0) 0)) (x j) (b j) := by
  idx_vars j
  pointwise [k0_pay99]
  rfl

/-- The first row of a trip. -/
theorem trip_row : ∀ t : Fin k0_t1_loop.trips,
    Scalar.muli (Scalar.shrsi (Scf.iv 0#32 1#32 t.val) 2#32) 16#32 = BitVec.ofNat 32 (16 * (t.val / 4)) := by decide +kernel

/-- The first column of a trip. -/
theorem trip_col : ∀ t : Fin k0_t1_loop.trips, tripCol t.val = BitVec.ofNat 32 (1024 * (t.val % 4)) := by decide +kernel

/-- The counter words of a trip's first tile. -/
theorem wordA_apply (t : Fin k0_t1_loop.trips) (n : ℕ) (j : S16x512.Idx) :
    k0_pay11 k0_pay4 (Scalar.muli (BitVec.ofNat 32 n) 4096#32) 0#32 1#32 t j
      = cellWord (16 * (t.val / 4) + (j 0).val) (4096 * n + (1024 * (t.val % 4) + (j 1).val)) := by
  have h2 := trip_col t
  unfold tripCol at h2
  idx_vars j
  pointwise [k0_pay11, k0_pay4]
  rw [trip_row, h2]
  show (BitVec.ofNat 32 j0.val * 100000#32 + BitVec.ofNat 32 j1.val)
    + (((BitVec.ofNat 32 (16 * (t.val / 4)) * 100000#32) + BitVec.ofNat 32 n * 4096#32) + BitVec.ofNat 32 (1024 * (t.val % 4)) + 42#32) = _
  simp only [cellWord, BitVec.ofNat_add, BitVec.ofNat_mul]
  ring

/-- The counter words of a trip's second tile. -/
theorem wordB_apply (t : Fin k0_t1_loop.trips) (n : ℕ) (j : S16x512.Idx) :
    k0_pay12 k0_pay4 (Scalar.muli (BitVec.ofNat 32 n) 4096#32) 0#32 1#32 t j
      = cellWord (16 * (t.val / 4) + (j 0).val) (4096 * n + (1024 * (t.val % 4) + 512 + (j 1).val)) := by
  show k0_pay11 k0_pay4 (Scalar.muli (BitVec.ofNat 32 n) 4096#32) 0#32 1#32 t j + 512#32 = _
  rw [wordA_apply]
  simp only [cellWord, BitVec.ofNat_add, BitVec.ofNat_mul]
  ring

/-- A trip's first tile scores its cells, in a chunk inside the logits' width. -/
theorem scoresA (t : Fin k0_t1_loop.trips) (n : ℕ) (hn : n < 24) (X : Vec Ideal S128x4096 .f32) (S : Vec Ideal S128x1 .f32) :
    Scores t.val 0 (k0_pay99 (F := Ideal) (drawn (k0_pay11 k0_pay4 (Scalar.muli (BitVec.ofNat 32 n) 4096#32) 0#32 1#32 t))) X
      (chunkScore n X S) S := by
  intro s x y hy hb hs hx
  have hy0 : (y 0).val < 128 := (y 0).isLt
  have hy1 : (y 1).val < 4096 := (y 1).isLt
  unfold tripOf at hy
  unfold chunkScore
  rw [pay99_apply, hs, hx, drawn, wordA_apply, if_pos (by omega)]
  have e0 : 16 * (t.val / 4) + (local_ y 0).val = (y 0).val := by show 16 * (t.val / 4) + (y 0).val % 16 = (y 0).val; omega
  have e1 : 1024 * (t.val % 4) + (local_ y 1).val = (y 1).val := by show 1024 * (t.val % 4) + (y 1).val % 512 = (y 1).val; omega
  rw [e0, e1]

/-- A trip's second tile scores its cells, in a chunk inside the logits' width. -/
theorem scoresB (t : Fin k0_t1_loop.trips) (n : ℕ) (hn : n < 24) (X : Vec Ideal S128x4096 .f32) (S : Vec Ideal S128x1 .f32) :
    Scores t.val 1 (k0_pay99 (F := Ideal) (drawn (k0_pay12 k0_pay4 (Scalar.muli (BitVec.ofNat 32 n) 4096#32) 0#32 1#32 t))) X
      (chunkScore n X S) S := by
  intro s x y hy hb hs hx
  have hy0 : (y 0).val < 128 := (y 0).isLt
  have hy1 : (y 1).val < 4096 := (y 1).isLt
  unfold tripOf at hy
  unfold chunkScore
  rw [pay99_apply, hs, hx, drawn, wordB_apply, if_pos (by omega)]
  have e0 : 16 * (t.val / 4) + (local_ y 0).val = (y 0).val := by show 16 * (t.val / 4) + (y 0).val % 16 = (y 0).val; omega
  have e1 : 1024 * (t.val % 4) + 512 + (local_ y 1).val = (y 1).val := by show 1024 * (t.val % 4) + 512 + (y 1).val % 512 = (y 1).val; omega
  rw [e0, e1]

/-- The mask of a tile keeps the columns inside the logits' width. -/
theorem masked (base : Word) (k : ℕ) (hb : base = BitVec.ofNat 32 k) (hk : k < 200000) (y : FVec Ideal S16x512 .f32) (j : S16x512.Idx) :
    maskTile (inside base (iota .tc S16x512 32 [1] iota_S16x512_d1_w32)) y j = if k + (j 1).val < 100000 then y j else ⊥ := by
  subst hb
  have hj : (j 1).val < 512 := (j 1).isLt
  idx_vars j
  pointwise [maskTile, inside]
  have e : IntOp.addi (BitVec.ofNat 32 k) (BitVec.ofNat 32 j1.val) = BitVec.ofNat 32 (k + j1.val) := (BitVec.ofNat_add ..).symm
  have hj' : j1.val < 512 := j1.isLt
  rw [e, show (100000#32 : BitVec 32) = BitVec.ofNat 32 100000 from rfl, WordCmp.cmpi_slt_ofNat (by omega) (by omega)]
  have eb : Ideal.ofBits .f32 4286578688#32 = ⊥ := by simp [Ideal.ofBits, Ideal.ieee]
  rw [eb]
  by_cases h : k + j1.val < 100000
  · rw [show decide (k + j1.val < 100000) = true from decide_eq_true h]
    exact (if_pos h).symm
  · rw [show decide (k + j1.val < 100000) = false from decide_eq_false h]
    exact (if_neg h).symm

/-- The first column of a trip in its chunk. -/
theorem base_word (t : Fin k0_t1_loop.trips) (n : ℕ) :
    Scalar.addi (Scalar.muli (BitVec.ofNat 32 n) 4096#32) (tripCol t.val) = BitVec.ofNat 32 (4096 * n + 1024 * (t.val % 4)) := by
  rw [trip_col]
  show BitVec.ofNat 32 n * 4096#32 + BitVec.ofNat 32 (1024 * (t.val % 4)) = _
  simp only [BitVec.ofNat_add, BitVec.ofNat_mul]
  ring

/-- A trip's first tile scores its cells under the mask, in any chunk. -/
theorem maskedA (t : Fin k0_t1_loop.trips) (n : ℕ) (hn : n < 25) (X : Vec Ideal S128x4096 .f32) (S : Vec Ideal S128x1 .f32) :
    Scores t.val 0 (fun s x => maskTile (inside (Scalar.addi (Scalar.muli (BitVec.ofNat 32 n) 4096#32) (tripCol t.val)) (iota .tc S16x512 32 [1] iota_S16x512_d1_w32))
        (k0_pay99 (F := Ideal) (drawn (k0_pay11 k0_pay4 (Scalar.muli (BitVec.ofNat 32 n) 4096#32) 0#32 1#32 t)) s x)) X
      (chunkScore n X S) S := by
  intro s x y hy hb hs hx
  have hy0 : (y 0).val < 128 := (y 0).isLt
  have hy1 : (y 1).val < 4096 := (y 1).isLt
  unfold tripOf at hy
  unfold chunkScore
  show maskTile _ _ _ = _
  have e0 : 16 * (t.val / 4) + (local_ y 0).val = (y 0).val := by show 16 * (t.val / 4) + (y 0).val % 16 = (y 0).val; omega
  have e1 : 1024 * (t.val % 4) + (local_ y 1).val = (y 1).val := by show 1024 * (t.val % 4) + (y 1).val % 512 = (y 1).val; omega
  rw [masked _ _ (base_word t n) (by omega), pay99_apply, hs, hx, drawn, wordA_apply, e0, e1,
    show 4096 * n + 1024 * (t.val % 4) + (local_ y 1).val = 4096 * n + (y 1).val by omega]

/-- A trip's second tile scores its cells under the mask, in any chunk. -/
theorem maskedB (t : Fin k0_t1_loop.trips) (n : ℕ) (hn : n < 25) (X : Vec Ideal S128x4096 .f32) (S : Vec Ideal S128x1 .f32) :
    Scores t.val 1 (fun s x => maskTile (inside (Scalar.addi (Scalar.addi (Scalar.muli (BitVec.ofNat 32 n) 4096#32) (tripCol t.val)) 512#32) (iota .tc S16x512 32 [1] iota_S16x512_d1_w32))
        (k0_pay99 (F := Ideal) (drawn (k0_pay12 k0_pay4 (Scalar.muli (BitVec.ofNat 32 n) 4096#32) 0#32 1#32 t)) s x)) X
      (chunkScore n X S) S := by
  intro s x y hy hb hs hx
  have hy0 : (y 0).val < 128 := (y 0).isLt
  have hy1 : (y 1).val < 4096 := (y 1).isLt
  unfold tripOf at hy
  unfold chunkScore
  show maskTile _ _ _ = _
  have e0 : 16 * (t.val / 4) + (local_ y 0).val = (y 0).val := by show 16 * (t.val / 4) + (y 0).val % 16 = (y 0).val; omega
  have e1 : 1024 * (t.val % 4) + 512 + (local_ y 1).val = (y 1).val := by show 1024 * (t.val % 4) + 512 + (y 1).val % 512 = (y 1).val; omega
  have ew : Scalar.addi (BitVec.ofNat 32 (4096 * n + 1024 * (t.val % 4))) 512#32 = BitVec.ofNat 32 (4096 * n + 1024 * (t.val % 4) + 512) :=
    (BitVec.ofNat_add ..).symm
  rw [base_word, masked _ _ ew (by omega), pay99_apply, hs, hx, drawn, wordB_apply, e0, e1,
    show 4096 * n + 1024 * (t.val % 4) + 512 + (local_ y 1).val = 4096 * n + (y 1).val by omega]

end Cert.KernelIdeal.Hand

end
-- ==== Proof.KernelBody.lean ====
/-
  One grid point of the sampling kernel, with the contents of its buffers: the loop over a chunk, the first point's
  set-up and the last point's result.
-/
module

public import proofs.«01_k».proof.Proof.KernelScore

@[expose] public section

set_option maxRecDepth 65536

noncomputable section

namespace Cert.KernelIdeal.Hand

open Cert.KernelIdeal Cert.KernelIdeal.Gen Cert.Cipher
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A chunk's scores taken into the running maxima. -/
def maxAll (Y V : S128x4096.Idx → EReal) : S128x4096.Idx → EReal := fun y => max (V y) (Y y)

/-- The chunk numbers after a chunk's scores are taken in. -/
def tookAll (n : Word) (Y V : S128x4096.Idx → EReal) (C : S128x4096.Idx → Word) : S128x4096.Idx → Word := fun y =>
  if V y < Y y then n else C y

/-- A cell's trip is one of the 32. -/
theorem tripOf_lt (y : S128x4096.Idx) : tripOf y < 32 := by
  have h0 : (y 0).val < 128 := (y 0).isLt
  have h1 : (y 1).val < 4096 := (y 1).isLt
  unfold tripOf; omega

/-- Before the first trip nothing is taken in. -/
theorem maxUpto_zero (Y V : S128x4096.Idx → EReal) : maxUpto 0 Y V = V := by
  funext y; simp [maxUpto]

/-- After the last trip all of the chunk is taken in. -/
theorem maxUpto_all (Y V : S128x4096.Idx → EReal) : maxUpto 32 Y V = maxAll Y V := by
  funext y; simp [maxUpto, maxAll, tripOf_lt y]

/-- Before the first trip no cell is taken. -/
theorem tookUpto_zero (n : Word) (Y V : S128x4096.Idx → EReal) (C : S128x4096.Idx → Word) : tookUpto 0 n Y V C = C := by
  funext y; simp [tookUpto]

/-- After the last trip the whole chunk is compared. -/
theorem tookUpto_all (n : Word) (Y V : S128x4096.Idx → EReal) (C : S128x4096.Idx → Word) : tookUpto 32 n Y V C = tookAll n Y V C := by
  funext y; simp [tookUpto, tookAll, tripOf_lt y]

section Point

variable (c : Dev nD) (i : grid0.Coords)
  (arg1 : Memref sig .tc .vmem S128x4096 .f32) (harg1 : arg1.IsWhole)
  (arg2 : Memref sig .tc .vmem S128x1 .f32) (harg2 : arg2.IsWhole)
  (arg3 : Memref sig .tc .vmem S128x1 .f32) (harg3 : arg3.IsWhole)
  (arg4 : Memref sig .tc .vmem S128x1 .i32) (harg4 : arg4.IsWhole)
  (arg5 : Memref sig .tc .vmem S128x4096 .f32) (harg5 : arg5.IsWhole)
  (arg6 : Memref sig .tc .vmem S128x4096 .i32) (harg6 : arg6.IsWhole)
  (arg7 : Memref sig .tc .vmem S128x1 .f32) (harg7 : arg7.IsWhole)
  (X V : Vec Ideal S128x4096 .f32) (C : Vec Ideal S128x4096 .i32) (S : Vec Ideal S128x1 .f32)

/-- The loop over a whole chunk takes the chunk's scores in. -/
theorem loop1 (n : ℕ) (e0 : (i 0).val = n) (h2 : k0_cond2 i = 1#1) (hn : n < 24) (Q : Unit → sProp 𝕄) :
    iprop((owns c arg1 fullShare X ∗ owns c arg5 fullShare V ∗ owns c arg6 fullShare C ∗ owns c arg7 fullShare S)
      ∗ ((owns c arg1 fullShare X ∗ owns c arg5 fullShare (maxAll (chunkScore n X S) V)
          ∗ owns c arg6 fullShare (tookAll (BitVec.ofNat 32 n) (chunkScore n X S) V C) ∗ owns c arg7 fullShare S) -∗ Q ⟨⟩))
    ⊢ wp (M := 𝕄) frame (wpE defs₀ Variants.none (c : Thread nD τ) none) Set.univ
        (Scf.Loop.for k0_t1_loop (k0_t1_ok i h2) ⟨⟩ (k0_t1_body (F := Ideal) i arg1 harg1 arg2 harg2 arg3 harg3 arg4 harg4 arg5 harg5 arg6 harg6 arg7 harg7
          (Scalar.muli (BitVec.ofNat 32 (i 0).val) 4096#32) h2)) Q := by
  subst e0
  refine Laws.entails_trans ?_ (Scf.wp_for _ _ _ k0_t1_loop.lb k0_t1_loop.ub k0_t1_loop.st (k0_t1_ok i h2) (PUnit.unit : PUnit) _
    (fun k _ => iprop(owns c arg1 fullShare X ∗ owns c arg5 fullShare (maxUpto k (chunkScore (i 0).val X S) V)
      ∗ owns c arg6 fullShare (tookUpto k (BitVec.ofNat 32 (i 0).val) (chunkScore (i 0).val X S) V C) ∗ owns c arg7 fullShare S)) ?_)
  · have e : Scf.trips k0_t1_loop.lb k0_t1_loop.ub k0_t1_loop.st = 32 := by decide +kernel
    rw [e, maxUpto_zero, tookUpto_zero, maxUpto_all, tookUpto_all]
    iintro ⟨H, HQ⟩
    isplitl [H]
    · iexact H
    iintro %u H
    iapply HQ; iexact H
  · intro t u
    rw [body1_eq]
    have hA := scoresA t (i 0).val hn X S
    have hB := scoresB t (i 0).val hn X S
    generalize k0_pay99 (F := Ideal) (drawn (k0_pay11 k0_pay4 (Scalar.muli (BitVec.ofNat 32 (i 0).val) 4096#32) 0#32 1#32 t)) = yA at *
    generalize k0_pay99 (F := Ideal) (drawn (k0_pay12 k0_pay4 (Scalar.muli (BitVec.ofNat 32 (i 0).val) 4096#32) 0#32 1#32 t)) = yB at *
    have i1 := k0_off1_inb i t h2
    have i2 := k0_off2_inb i t h2
    have i3 := k0_off3_inb i t h2
    simp only [off1_eq, off2_eq, off3_eq] at i1 i2 i3
    have := trip_step c arg1 arg5 arg6 arg7 (BitVec.ofNat 32 (i 0).val) harg1 harg5 harg6 harg7 t i1 i2 i3 yA yB X V
      (chunkScore (i 0).val X S) C S hA hB
    simpa only [off1_eq, off2_eq, off3_eq] using this

/-- The loop over the last chunk takes the chunk's scores in. -/
theorem loop2 (n : ℕ) (e0 : (i 0).val = n) (h3 : k0_cond3 i = 1#1) (hn : n < 25) (Q : Unit → sProp 𝕄) :
    iprop((owns c arg1 fullShare X ∗ owns c arg5 fullShare V ∗ owns c arg6 fullShare C ∗ owns c arg7 fullShare S)
      ∗ ((owns c arg1 fullShare X ∗ owns c arg5 fullShare (maxAll (chunkScore n X S) V)
          ∗ owns c arg6 fullShare (tookAll (BitVec.ofNat 32 n) (chunkScore n X S) V C) ∗ owns c arg7 fullShare S) -∗ Q ⟨⟩))
    ⊢ wp (M := 𝕄) frame (wpE defs₀ Variants.none (c : Thread nD τ) none) Set.univ
        (Scf.Loop.for k0_t2_loop (k0_t2_ok i h3) ⟨⟩ (k0_t2_body (F := Ideal) i arg1 harg1 arg2 harg2 arg3 harg3 arg4 harg4 arg5 harg5 arg6 harg6 arg7 harg7
          (BitVec.ofNat 32 (i 0).val) (iota .tc S16x512 32 [1] iota_S16x512_d1_w32) (Scalar.muli (BitVec.ofNat 32 (i 0).val) 4096#32) h3)) Q := by
  subst e0
  refine Laws.entails_trans ?_ (Scf.wp_for _ _ _ k0_t2_loop.lb k0_t2_loop.ub k0_t2_loop.st (k0_t2_ok i h3) (PUnit.unit : PUnit) _
    (fun k _ => iprop(owns c arg1 fullShare X ∗ owns c arg5 fullShare (maxUpto k (chunkScore (i 0).val X S) V)
      ∗ owns c arg6 fullShare (tookUpto k (BitVec.ofNat 32 (i 0).val) (chunkScore (i 0).val X S) V C) ∗ owns c arg7 fullShare S)) ?_)
  · have e : Scf.trips k0_t2_loop.lb k0_t2_loop.ub k0_t2_loop.st = 32 := by decide +kernel
    rw [e, maxUpto_zero, tookUpto_zero, maxUpto_all, tookUpto_all]
    iintro ⟨H, HQ⟩
    isplitl [H]
    · iexact H
    iintro %u H
    iapply HQ; iexact H
  · intro t u
    rw [body2_eq]
    have hA := maskedA t (i 0).val hn X S
    have hB := maskedB t (i 0).val hn X S
    have i1 := k0_off4_inb i t h3
    have i2 := k0_off5_inb i t h3
    have i3 := k0_off6_inb i t h3
    simp only [off4_eq, off5_eq, off6_eq] at i1 i2 i3
    have := trip_step c arg1 arg5 arg6 arg7 (BitVec.ofNat 32 (i 0).val) harg1 harg5 harg6 harg7 t i1 i2 i3 _ _ X V
      (chunkScore (i 0).val X S) C S hA hB
    simpa only [off4_eq, off5_eq, off6_eq] using this

end Point

end Cert.KernelIdeal.Hand

end
-- ==== Proof.KernelPoint.lean ====
/-
  One grid point of the sampling kernel as a whole: what it leaves in its buffers, at the first point, at a point between
  and at the last.
-/
module

public import proofs.«01_k».proof.Proof.KernelBody

@[expose] public section

set_option maxRecDepth 65536

noncomputable section

namespace Cert.KernelIdeal.Hand

open Cert.KernelIdeal Cert.KernelIdeal.Gen Cert.Cipher
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The first branch is taken at the first chunk. -/
theorem cond1_iff (i : grid0.Coords) :
    Scalar.cmpi .ne (Scalar.extui (Scalar.cmpi .eq (BitVec.ofNat 32 (i 0).val) 0#32) : BitVec 32) 0#32 = 1#1 ↔ (i 0).val = 0 := by
  have h : ∀ n : Fin 25, (Scalar.cmpi .ne (Scalar.extui (Scalar.cmpi .eq (BitVec.ofNat 32 n.val) 0#32) : BitVec 32) 0#32 = 1#1) ↔ (n.val = 0) := by decide
  exact h (i 0)

/-- The second branch is taken before the last chunk. -/
theorem cond2_iff (i : grid0.Coords) : k0_cond2 i = 1#1 ↔ (i 0).val < 24 := by
  have h : ∀ n : Fin 25, (Scalar.cmpi .ne (Scalar.extui (Scalar.cmpi .slt (BitVec.ofNat 32 n.val) 24#32) : BitVec 32) 0#32 = 1#1) ↔ (n.val < 24) := by decide
  exact h (i 0)

/-- The third branch is taken at the last chunk. -/
theorem cond3_iff (i : grid0.Coords) : k0_cond3 i = 1#1 ↔ (i 0).val = 24 := by
  have h : ∀ n : Fin 25, (Scalar.cmpi .ne (Scalar.extui (Scalar.cmpi .eq (BitVec.ofNat 32 n.val) 24#32) : BitVec 32) 0#32 = 1#1) ↔ (n.val = 24) := by decide
  exact h (i 0)

/-- The fourth branch is taken at the last chunk. -/
theorem cond4_iff (i : grid0.Coords) : k0_cond4 i = 1#1 ↔ (i 0).val = 24 := by
  have h : ∀ n : Fin 25, (Scalar.cmpi .ne (Scalar.extui (Scalar.cmpi .eq (BitVec.ofNat 32 n.val) 24#32) : BitVec 32) 0#32 = 1#1) ↔ (n.val = 24) := by decide
  exact h (i 0)

/-- A buffer held whole, at contents nothing names. -/
abbrev some_ (c : Dev nD) {sp : Space} {S : Shape} {e : EltTy} (M : Memref sig .tc sp S e) : sProp 𝕄 :=
  iprop(∃ f, M.view.loc (c : Thread nD τ) ↦[M.view.set]{fullShare} f)

/-- A store over a whole buffer leaves the vector stored. -/
theorem read_store {d0 d1 : ℕ} {e : EltTy} (v : View sig .tc .vmem ⟨2, ![d0, d1]⟩ e) (f : v.ty.Contents (Elt Ideal))
    (h : ∀ a, (![0, 0] : Fin 2 → ℕ) a + (⟨2, ![d0, d1]⟩ : Shape).size a ≤ (⟨2, ![d0, d1]⟩ : Shape).size a)
    (w : (⟨2, ![d0, d1]⟩ : Shape).Idx → Elt Ideal e) :
    v.read (Elt Ideal) (v.writes (Elt Ideal) f [⟨Rect.unit (s := ⟨2, ![d0, d1]⟩) ![0, 0] (⟨2, ![d0, d1]⟩ : Shape).size h, w⟩]) = w := by
  funext y
  refine View.read_writes_cons_unit_of_mem v f h w [] y y rfl ?_
  intro a
  fin_cases a
  · show (y 0).val = 0 + (y 0).val; omega
  · show (y 1).val = 0 + (y 1).val; omega

/-- A load of a whole buffer reads all of it. -/
theorem read_load {d0 d1 : ℕ} {e : EltTy} (v : View sig .tc .vmem ⟨2, ![d0, d1]⟩ e) (f : v.ty.Contents (Elt Ideal))
    (h : ∀ a, (![0, 0] : Fin 2 → ℕ) a + (⟨2, ![d0, d1]⟩ : Shape).size a ≤ (⟨2, ![d0, d1]⟩ : Shape).size a) :
    v.readAt (Elt Ideal) (Rect.unit (s := ⟨2, ![d0, d1]⟩) ![0, 0] (⟨2, ![d0, d1]⟩ : Shape).size h).toLoadRect f = v.read (Elt Ideal) f := by
  funext y
  refine congrArg (View.read (Elt Ideal) v f) ?_
  funext a
  fin_cases a
  · refine Fin.ext ?_; show 0 + 1 * (y 0).val = (y 0).val; omega
  · refine Fin.ext ?_; show 0 + 1 * (y 1).val = (y 1).val; omega

section Point

variable (c : Dev nD) (i : grid0.Coords)
  (arg1 : Memref sig .tc .vmem S128x4096 .f32) (harg1 : arg1.IsWhole)
  (arg2 : Memref sig .tc .vmem S128x1 .f32) (harg2 : arg2.IsWhole)
  (arg3 : Memref sig .tc .vmem S128x1 .f32) (harg3 : arg3.IsWhole)
  (arg4 : Memref sig .tc .vmem S128x1 .i32) (harg4 : arg4.IsWhole)
  (arg5 : Memref sig .tc .vmem S128x4096 .f32) (harg5 : arg5.IsWhole)
  (arg6 : Memref sig .tc .vmem S128x4096 .i32) (harg6 : arg6.IsWhole)
  (arg7 : Memref sig .tc .vmem S128x1 .f32) (harg7 : arg7.IsWhole)
  (X V : Vec Ideal S128x4096 .f32) (C : Vec Ideal S128x4096 .i32) (S T : Vec Ideal S128x1 .f32)

/-- A point between the first and the last. -/
theorem point_mid (n : ℕ) (e0 : (i 0).val = n) (h0 : n ≠ 0) (h1 : n < 24) (Q : PUnit → sProp 𝕄) :
    iprop((owns c arg1 fullShare X ∗ owns c arg5 fullShare V ∗ owns c arg6 fullShare C ∗ owns c arg7 fullShare S)
      ∗ ((owns c arg1 fullShare X ∗ owns c arg5 fullShare (maxAll (chunkScore n X S) V)
          ∗ owns c arg6 fullShare (tookAll (BitVec.ofNat 32 n) (chunkScore n X S) V C) ∗ owns c arg7 fullShare S) -∗ Q ⟨⟩))
    ⊢ wp (M := 𝕄) frame (wpE defs₀ Variants.none (c : Thread nD τ) none) Set.univ
        (cc0__sample_kernel (F := Ideal) i arg1 harg1 arg2 harg2 arg3 harg3 arg4 harg4 arg5 harg5 arg6 harg6 arg7 harg7) Q := by
  have c1 := (not_congr (cond1_iff i)).mpr (by rw [e0]; exact h0)
  have c2 := (cond2_iff i).mpr (by rw [e0]; exact h1)
  have c3 := (not_congr (cond3_iff i)).mpr (by rw [e0]; omega)
  have c4 := (not_congr (cond4_iff i)).mpr (by rw [e0]; omega)
  rw [cc0__sample_kernel_eq_skeleton]; unfold cc0__sample_kernel_skel
  simp only [c1, c2, c3, c4, ↓reduceDIte, pure_bind, bind_assoc]
  rw [wp_bind]
  iintro ⟨H, HQ⟩
  iapply (loop1 c i arg1 harg1 arg2 harg2 arg3 harg3 arg4 harg4 arg5 harg5 arg6 harg6 arg7 harg7 X V C S n e0 c2 h1 _)
  isplitl [H]
  · iexact H
  iintro H
  sl_step
  iapply HQ; iexact H

/-- The first point. -/
theorem point_first (h0 : (i 0).val = 0) (Q : PUnit → sProp 𝕄) :
    iprop((owns c arg1 fullShare X ∗ owns c arg2 fullShare T ∗ some_ c arg5 ∗ some_ c arg6 ∗ some_ c arg7)
      ∗ ((owns c arg1 fullShare X ∗ owns c arg2 fullShare T ∗ owns c arg5 fullShare (maxAll (chunkScore 0 X (k0_pay3 T)) (k0_pay1 (F := Ideal)))
          ∗ owns c arg6 fullShare (tookAll 0#32 (chunkScore 0 X (k0_pay3 T)) (k0_pay1 (F := Ideal)) k0_pay2) ∗ owns c arg7 fullShare (k0_pay3 T)) -∗ Q ⟨⟩))
    ⊢ wp (M := 𝕄) frame (wpE defs₀ Variants.none (c : Thread nD τ) none) Set.univ
        (cc0__sample_kernel (F := Ideal) i arg1 harg1 arg2 harg2 arg3 harg3 arg4 harg4 arg5 harg5 arg6 harg6 arg7 harg7) Q := by
  have c1 := (cond1_iff i).mpr h0
  have c2 := (cond2_iff i).mpr (by omega)
  have c3 := (not_congr (cond3_iff i)).mpr (by omega)
  have c4 := (not_congr (cond4_iff i)).mpr (by omega)
  rw [cc0__sample_kernel_eq_skeleton]; unfold cc0__sample_kernel_skel
  simp only [c1, c2, c3, c4, ↓reduceDIte, pure_bind, bind_assoc]
  unfold owns
  iintro ⟨⟨⟨%f1, %e1, H1⟩, ⟨%f2, %e2, H2⟩, ⟨%f5, H5⟩, ⟨%f6, H6⟩, ⟨%f7, H7⟩⟩, HQ⟩
  sl_exec
  rw [wp_bind]
  have l1 := loop1 c i arg1 harg1 arg2 harg2 arg3 harg3 arg4 harg4 arg5 harg5 arg6 harg6 arg7 harg7 X (k0_pay1 (F := Ideal)) k0_pay2 (k0_pay3 T) 0 h0 c2 (by decide)
  unfold owns at l1
  iapply (l1 _)
  isplitl [H1 H5 H6 H7]
  · isplitl [H1]
    · iexists f1; isplitr
      · ipureintro; exact e1
      · iexact H1
    isplitl [H5]
    · iexists _; isplitr
      rotate_left
      · iexact H5
      ipureintro; exact read_store arg5.view _ _ _
    isplitl [H6]
    · iexists _; isplitr
      rotate_left
      · iexact H6
      ipureintro; exact read_store arg6.view _ _ _
    iexists _; isplitr
    rotate_left
    · iexact H7
    ipureintro
    refine (read_store arg7.view _ _ _).trans (congrArg (k0_pay3 (F := Ideal)) ?_)
    exact (read_load arg2.view f2 _).trans e2
  iintro ⟨H1, H5, H6, H7⟩
  sl_step
  iapply HQ
  isplitl [H1]; · iexact H1
  isplitl [H2]
  · iexists f2; isplitr
    · ipureintro; exact e2
    · iexact H2
  isplitl [H5]; · iexact H5
  isplitl [H6]; · iexact H6
  iexact H7

/-- The last point. -/
theorem point_last (h0 : (i 0).val = 24) (Q : PUnit → sProp 𝕄) :
    iprop((owns c arg1 fullShare X ∗ some_ c arg3 ∗ some_ c arg4 ∗ owns c arg5 fullShare V ∗ owns c arg6 fullShare C ∗ owns c arg7 fullShare S)
      ∗ ((owns c arg1 fullShare X
          ∗ owns c arg3 fullShare (k0_pay9 (F := Ideal) (maxAll (chunkScore 24 X S) V))
          ∗ owns c arg4 fullShare (k0_pay10 (F := Ideal) (maxAll (chunkScore 24 X S) V) (tookAll 24#32 (chunkScore 24 X S) V C))
          ∗ owns c arg5 fullShare (maxAll (chunkScore 24 X S) V)
          ∗ owns c arg6 fullShare (tookAll 24#32 (chunkScore 24 X S) V C) ∗ owns c arg7 fullShare S) -∗ Q ⟨⟩))
    ⊢ wp (M := 𝕄) frame (wpE defs₀ Variants.none (c : Thread nD τ) none) Set.univ
        (cc0__sample_kernel (F := Ideal) i arg1 harg1 arg2 harg2 arg3 harg3 arg4 harg4 arg5 harg5 arg6 harg6 arg7 harg7) Q := by
  have c1 := (not_congr (cond1_iff i)).mpr (by rw [h0]; decide)
  have c2 := (not_congr (cond2_iff i)).mpr (by rw [h0]; decide)
  have c3 := (cond3_iff i).mpr h0
  have c4 := (cond4_iff i).mpr h0
  rw [cc0__sample_kernel_eq_skeleton]; unfold cc0__sample_kernel_skel
  simp only [c1, c2, c3, c4, ↓reduceDIte, pure_bind, bind_assoc]
  rw [wp_bind]
  have l2 := loop2 c i arg1 harg1 arg2 harg2 arg3 harg3 arg4 harg4 arg5 harg5 arg6 harg6 arg7 harg7 X V C S 24 h0 c3 (by decide)
  generalize maxAll (chunkScore 24 X S) V = V' at l2 ⊢
  generalize tookAll (BitVec.ofNat 32 24) (chunkScore 24 X S) V C = C' at l2 ⊢
  iintro ⟨⟨H1, ⟨%f3, H3⟩, ⟨%f4, H4⟩, H5, H6, H7⟩, HQ⟩
  iapply (l2 _)
  isplitl [H1 H5 H6 H7]
  · isplitl [H1]; · iexact H1
    isplitl [H5]; · iexact H5
    isplitl [H6]; · iexact H6
    iexact H7
  unfold owns
  iintro ⟨H1, ⟨%f5, %e5, H5⟩, ⟨%f6, %e6, H6⟩, H7⟩
  sl_exec
  sl_step
  iapply HQ
  isplitl [H1]; · iexact H1
  isplitl [H3]
  · iexists _; isplitr
    rotate_left
    · iexact H3
    ipureintro
    exact (read_store arg3.view _ _ _).trans (congrArg (k0_pay9 (F := Ideal)) ((read_load arg5.view f5 _).trans e5))
  isplitl [H4]
  · iexists _; isplitr
    rotate_left
    · iexact H4
    ipureintro
    refine (read_store arg4.view _ _ _).trans (congrArg₂ (k0_pay10 (F := Ideal)) ?_ ?_)
    · exact (read_load arg5.view f5 _).trans e5
    · exact (read_load arg6.view f6 _).trans e6
  isplitl [H5]
  · iexists f5; isplitr
    · ipureintro; exact e5
    · iexact H5
  isplitl [H6]
  · iexists f6; isplitr
    · ipureintro; exact e6
    · iexact H6
  iexact H7

end Point

end Cert.KernelIdeal.Hand

end
-- ==== Proof.KernelRun.lean ====
/-
  The whole kernel: what the scratch buffers hold after each grid point, and so what the result array holds at the end.
-/
module

public import proofs.«01_k».proof.Proof.KernelPoint
public import proofs.«01_k».proof.Proof.Gen.KernelIdeal.Points

@[expose] public section

set_option maxRecDepth 65536

noncomputable section

namespace Cert.KernelIdeal.Hand

open Cert.KernelIdeal Cert.KernelIdeal.Gen Cert.Cipher
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- A grid point's coordinate is its number. -/
theorem coord_eq : ∀ t : Fin grid0.N, (grid0.coords t 0).val = t.val := by decide +kernel

/-! ## The running arrays -/

/-- The logits of chunk `n`; past their width, nothing that is read. -/
def chunkOf (L : S128x100000.Idx → EReal) (n : ℕ) : S128x4096.Idx → EReal := fun y =>
  if h : 4096 * n + (y 1).val < 100000 then L (ix2 (y 0) ⟨4096 * n + (y 1).val, h⟩) else 0

/-- The scores of chunk `n` depend only on the logits inside the width. -/
theorem chunkScore_congr (L : S128x100000.Idx → EReal) (n : ℕ) (X : S128x4096.Idx → EReal) (S : S128x1.Idx → EReal)
    (h : ∀ y : S128x4096.Idx, ∀ hy : 4096 * n + (y 1).val < 100000, X y = L (ix2 (y 0) ⟨4096 * n + (y 1).val, hy⟩)) :
    chunkScore n X S = chunkScore n (chunkOf L n) S := by
  funext y
  unfold chunkScore
  by_cases hy : 4096 * n + (y 1).val < 100000
  · rw [if_pos hy, if_pos hy, h y hy, chunkOf, dif_pos hy]
  · rw [if_neg hy, if_neg hy]

/-- The running maxima after `n` chunks. -/
def accV (L : S128x100000.Idx → EReal) (S : S128x1.Idx → EReal) : ℕ → S128x4096.Idx → EReal
  | 0 => k0_pay1 (F := Ideal)
  | n + 1 => maxAll (chunkScore n (chunkOf L n) S) (accV L S n)

/-- The chunks the running maxima come from, after `n` chunks. -/
def accC (L : S128x100000.Idx → EReal) (S : S128x1.Idx → EReal) : ℕ → S128x4096.Idx → Word
  | 0 => k0_pay2
  | n + 1 => tookAll (BitVec.ofNat 32 n) (chunkScore n (chunkOf L n) S) (accV L S n) (accC L S n)

variable (m : (ℓ : Loc nD τ sig) → Buf (Elt Ideal) ℓ) (ρ : Dev nD → PrngReg)

/-- The logits as the region finds them. -/
def logits (c : Dev nD) : S128x100000.Idx → EReal := V m c main_arg0

/-- The scaled inverse temperatures. -/
def scale (c : Dev nD) : S128x1.Idx → EReal := k0_pay3 (F := Ideal) (V m c main_v0)

/-- The logits' block moves one chunk a point. -/
theorem index_col : ∀ t : Fin grid0.N, cc0_transform_0 (grid0.coords t) 1 = t.val := by decide +kernel

/-- A block of the logits has every row. -/
theorem rows_moved : ∀ t : Fin grid0.N, win0_0.xsize (grid0.coords t) 0 = 128 := by decide +kernel

/-- A block of the logits has the columns that are left, a chunk at most. -/
theorem cols_moved : ∀ t : Fin grid0.N, win0_0.xsize (grid0.coords t) 1 = min 4096 (100000 - 4096 * t.val) := by decide +kernel

/-- A block of the logits as its buffer holds it. -/
theorem block_apply (c : Dev nD) (t : Fin cfg0.N) (d : S128x4096.Idx → EReal) (y : S128x4096.Idx)
    (hy : 4096 * t.val + (y 1).val < 100000) :
    win0_0.fill (grid0.coords t) d (iblk m c 0 t) y = logits m c (ix2 (y 0) ⟨4096 * t.val + (y 1).val, hy⟩) := by
  have hm : win0_0.moved (grid0.coords t) y = true := by
    rw [win0_0.moved_iff]
    intro a
    fin_cases a
    · exact lt_of_lt_of_eq (y 0).isLt (rows_moved t).symm
    · exact lt_of_lt_of_eq (lt_min (y 1).isLt (show (y 1).val < 100000 - 4096 * t.val by omega)) (cols_moved t).symm
  unfold Pipeline.Window.fill
  rw [dif_pos hm]
  refine congrArg (V m c main_arg0) ?_
  funext a
  fin_cases a
  · refine Fin.ext ?_
    show 0 * 128 + 1 * (y 0).val = (y 0).val
    omega
  · refine Fin.ext ?_
    refine (congrArg (fun k => k * 4096 + 1 * (y 1).val) (index_col t)).trans ?_
    show t.val * 4096 + 1 * (y 1).val = 4096 * t.val + (y 1).val
    omega

/-- The second argument's block is the temperatures. -/
theorem temps_eq (c : Dev nD) (t : Fin cfg0.N) : (iblk m c 1 t : S128x1.Idx → EReal) = V m c main_v0 := by
  funext y
  refine congrArg (V m c main_v0) ?_
  funext a
  fin_cases a
  · refine Fin.ext ?_
    show 0 * 128 + 1 * (y 0).val = (y 0).val
    omega
  · refine Fin.ext ?_
    show 0 * 1 + 1 * (y 1).val = (y 1).val
    omega

/-- What holds of the scratch buffers before point `t`. -/
def inv (c : Dev nD) (t : ℕ) : sProp 𝕄 :=
  if t = 0 then Pipeline.ΦA spec0 c
  else iprop((owns c (Memref.whole cc0_scratch0) fullShare (accV (logits m c) (scale m c) t)
    ∗ owns c (Memref.whole cc0_scratch1) fullShare (accC (logits m c) (scale m c) t)
    ∗ owns c (Memref.whole cc0_scratch2) fullShare (scale m c)) ∗ ∃ r, prngReg c r)

/-- The row maxima at the end. -/
def rowMax (c : Dev nD) : S128x1.Idx → EReal := k0_pay9 (F := Ideal) (accV (logits m c) (scale m c) (24 + 1))

/-- The sampled indices at the end. -/
def sampled (c : Dev nD) : S128x1.Idx → Word :=
  k0_pay10 (F := Ideal) (accV (logits m c) (scale m c) (24 + 1)) (accC (logits m c) (scale m c) (24 + 1))

/-- The proof data. -/
def datsV (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => rowMax m c
    | ⟨3, _⟩ => sampled m c
  Φ t := inv m c t.val
  q _ := fullShare
  owed _ := 0

/-- The logits' buffer before a point. -/
theorem before_0 (c : Dev nD) (t : Fin cfg0.N) (d) :
    (datsV m 0 c).before (0 : Fin 4) t d = win0_0.fill (grid0.coords t) d (iblk m c 0 t) := by
  unfold Dat.before; rw [if_pos (fetch0_0 t)]; rfl

/-- The temperatures' buffer before a point. -/
theorem before_1 (c : Dev nD) (t : Fin cfg0.N) (d) : (datsV m 0 c).before (1 : Fin 4) t d = iblk m c 1 t :=
  before0_1_of m (datsV m 0 c) rfl (fun _ => rfl) t d

/-- The row maxima's buffer after a point. -/
theorem after_2 (c : Dev nD) (t : Fin cfg0.N) : (datsV m 0 c).after (2 : Fin 4) t = rowMax m c := by
  dsimp only [datsV]

/-- The indices' buffer after a point. -/
theorem after_3 (c : Dev nD) (t : Fin cfg0.N) : (datsV m 0 c).after (3 : Fin 4) t = sampled m c := by
  dsimp only [datsV]

/-- The scores of a point are those of its chunk. -/
theorem scores_at (c : Dev nD) (t : Fin cfg0.N) (d : S128x4096.Idx → EReal) (S : S128x1.Idx → EReal) :
    chunkScore t.val (win0_0.fill (grid0.coords t) d (iblk m c 0 t)) S = chunkScore t.val (chunkOf (logits m c) t.val) S :=
  chunkScore_congr _ _ _ _ fun y hy => block_apply m c t d y hy

/-- Owned contents are some contents. -/
theorem some_of_owns (c : Dev nD) {sp : Space} {S : Shape} {e : EltTy} (M : Memref sig .tc sp S e) (X : S.Idx → Elt Ideal e) :
    (owns c M fullShare X : sProp 𝕄) ⊢ some_ c M := by
  unfold owns
  iintro ⟨%f, -, H⟩
  iexists f; iexact H

/-- A whole buffer with some contents. -/
theorem some_whole (c : Dev nD) (b : Ref sig .tc) :
    (some_ c (Memref.whole b) : sProp 𝕄) = iprop(∃ f, (c : Thread nD τ).loc b ↦{fullShare} f) := by
  simp only [some_, Memref.view_whole, View.set_whole]

/-- The part of a buffer that its block fills is the block. -/
theorem cut_after (c : Dev nD) (t : Fin cfg0.N) :
    win0_0.cut (grid0.coords t) (win0_0.fill (grid0.coords t) (fun _ => (0 : EReal)) (iblk m c 0 t)) = iblk m c 0 t :=
  win0_0.cut_fill _ _ _

/-- Every grid point leaves what the proof data say. -/
theorem body_value (c : Dev nD) : BodyObligationLoose (datsV m 0 c) (defs₀ (F := Ideal)) Variants.none () Set.univ := fun t => by
  rw [bigSep_W0, bigSep_W0]
  have hN : t.val < 25 := t.isLt
  have hc : (grid0.coords t 0).val = t.val := coord_eq t
  rw [show (datsV m 0 c).Φ t.succ = inv m c (t.val + 1) from rfl, show (datsV m 0 c).Φ t.castSucc = inv m c t.val from rfl,
    show (datsV m 0 c).owesAt () t.succ = (datsV m 0 c).owesAt () t.castSucc from rfl,
    show (datsV m 0 c).after 0 t = win0_0.fill (grid0.coords t) (fun _ => (0 : EReal)) (iblk m c 0 t) from rfl,
    show (datsV m 0 c).after 1 t = iblk m c 1 t from rfl, after_2, after_3]
  simp only [before_0, before_1]
  rw [show (win0 0).cut (grid0.coords t) (win0_0.fill (grid0.coords t) (fun _ => (0 : EReal)) (iblk m c 0 t)) = iblk m c 0 t from cut_after m c t]
  by_cases hl : t.val = 24
  · have c4 : k0_cond4 (grid0.coords t) = 1#1 := (cond4_iff _).mpr (hc.trans hl)
    simp only [idle0, c4, beq_self_eq_true, Bool.not_true]
    unfold rowMax sampled
    rw [inv, if_neg (by omega), inv, if_neg (by omega), hl]
    iintro ⟨⟨⟨H5, H6, H7⟩, Hr⟩, Ho, ⟨%d, H1⟩, ⟨%d1, H2⟩, ⟨%d2, H3⟩, ⟨%d3, H4⟩⟩
    have hs := scores_at m c t d (scale m c)
    rw [hl] at hs
    iapply (point_last c (grid0.coords t) (win0_0.stage (cfg0.slots t 0)) (hstage0_0 ((cfg0.slots t 0).cast nbuf0_0))
      (win0_1.stage (cfg0.slots t 1)) (hstage0_1 ((cfg0.slots t 1).cast nbuf0_1)) (win0_2.stage (cfg0.slots t 2)) (hstage0_2 ((cfg0.slots t 2).cast nbuf0_2))
      (win0_3.stage (cfg0.slots t 3)) (hstage0_3 ((cfg0.slots t 3).cast nbuf0_3)) (Memref.whole cc0_scratch0) (Memref.isWhole_whole _)
      (Memref.whole cc0_scratch1) (Memref.isWhole_whole _) (Memref.whole cc0_scratch2) (Memref.isWhole_whole _)
      (win0_0.fill (grid0.coords t) d (iblk m c 0 t)) (accV (logits m c) (scale m c) 24) (accC (logits m c) (scale m c) 24) (scale m c) (hc.trans hl) _)
    rw [hs]
    isplitl [H1 H3 H4 H5 H6 H7]
    · isplitl [H1]; · iexact H1
      isplitl [H3]; · iapply (some_of_owns c _ _); iexact H3
      isplitl [H4]; · iapply (some_of_owns c _ _); iexact H4
      isplitl [H5]; · iexact H5
      isplitl [H6]; · iexact H6
      iexact H7
    iintro ⟨H1, H3, H4, H5, H6, H7⟩
    isplitl [H5 H6 H7 Hr]
    · isplitl [H5 H6 H7]
      · isplitl [H5]; · iexact H5
        isplitl [H6]; · iexact H6
        iexact H7
      · iexact Hr
    isplitl [Ho]; · iexact Ho
    isplitl [H1]; · iexists d; iexact H1
    isplitl [H2]; · iexact H2
    isplitl [H3]; · iexact H3
    iexact H4
  · have c4 : (k0_cond4 (grid0.coords t) == 1#1) = false := beq_eq_false_iff_ne.mpr ((not_congr (cond4_iff _)).mpr (fun h => hl (hc.symm.trans h)))
    have f2 : win0_2.flush t = false := Bool.eq_false_iff.mpr (fun h => by have := (flush0_2 t).mp h; omega)
    have f3 : win0_3.flush t = false := Bool.eq_false_iff.mpr (fun h => by have := (flush0_3 t).mp h; omega)
    simp only [idle0, c4, Bool.not_false, f2, f3]
    by_cases h0 : t.val = 0
    · rw [inv, if_pos h0, inv, if_neg (by omega), h0]
      unfold Pipeline.ΦA
      rw [scopedRest0_eq]
      rw [← some_whole, ← some_whole, ← some_whole]
      iintro ⟨⟨⟨H5, H6, H7⟩, Hr⟩, Ho, ⟨%d, H1⟩, ⟨%d1, H2⟩, H3, H4⟩
      have hs := scores_at m c t d (scale m c)
      rw [h0] at hs
      rw [temps_eq m c t]
      iapply (point_first c (grid0.coords t) (win0_0.stage (cfg0.slots t 0)) (hstage0_0 ((cfg0.slots t 0).cast nbuf0_0))
        (win0_1.stage (cfg0.slots t 1)) (hstage0_1 ((cfg0.slots t 1).cast nbuf0_1)) (win0_2.stage (cfg0.slots t 2)) (hstage0_2 ((cfg0.slots t 2).cast nbuf0_2))
        (win0_3.stage (cfg0.slots t 3)) (hstage0_3 ((cfg0.slots t 3).cast nbuf0_3)) (Memref.whole cc0_scratch0) (Memref.isWhole_whole _)
        (Memref.whole cc0_scratch1) (Memref.isWhole_whole _) (Memref.whole cc0_scratch2) (Memref.isWhole_whole _)
        (win0_0.fill (grid0.coords t) d (iblk m c 0 t)) (V m c main_v0) (hc.trans h0) _)
      rw [show k0_pay3 (F := Ideal) (V m c main_v0) = scale m c from rfl, hs]
      isplitl [H1 H2 H5 H6 H7]
      · isplitl [H1]; · iexact H1
        isplitl [H2]; · iexact H2
        isplitl [H5]; · iexact H5
        isplitl [H6]; · iexact H6
        iexact H7
      iintro ⟨H1, H2, H5, H6, H7⟩
      isplitl [H5 H6 H7 Hr]
      · isplitl [H5 H6 H7]
        · isplitl [H5]; · iexact H5
          isplitl [H6]; · iexact H6
          iexact H7
        · iexact Hr
      isplitl [Ho]; · iexact Ho
      isplitl [H1]; · iexists d; iexact H1
      isplitl [H2]; · iexact H2
      isplitl [H3]; · iexact H3
      iexact H4
    · rw [inv, if_neg h0, inv, if_neg (by omega)]
      iintro ⟨⟨⟨H5, H6, H7⟩, Hr⟩, Ho, ⟨%d, H1⟩, ⟨%d1, H2⟩, H3, H4⟩
      have hs := scores_at m c t d (scale m c)
      have hp := point_mid c (grid0.coords t) (win0_0.stage (cfg0.slots t 0)) (hstage0_0 ((cfg0.slots t 0).cast nbuf0_0))
        (win0_1.stage (cfg0.slots t 1)) (hstage0_1 ((cfg0.slots t 1).cast nbuf0_1)) (win0_2.stage (cfg0.slots t 2)) (hstage0_2 ((cfg0.slots t 2).cast nbuf0_2))
        (win0_3.stage (cfg0.slots t 3)) (hstage0_3 ((cfg0.slots t 3).cast nbuf0_3)) (Memref.whole cc0_scratch0) (Memref.isWhole_whole _)
        (Memref.whole cc0_scratch1) (Memref.isWhole_whole _) (Memref.whole cc0_scratch2) (Memref.isWhole_whole _)
        (win0_0.fill (grid0.coords t) d (iblk m c 0 t)) (accV (logits m c) (scale m c) t.val) (accC (logits m c) (scale m c) t.val) (scale m c)
        t.val hc h0 (by omega)
      rw [hs] at hp
      iapply (hp _)
      isplitl [H1 H5 H6 H7]
      · isplitl [H1]; · iexact H1
        isplitl [H5]; · iexact H5
        isplitl [H6]; · iexact H6
        iexact H7
      iintro ⟨H1, H5, H6, H7⟩
      isplitl [H5 H6 H7 Hr]
      · isplitl [H5 H6 H7]
        · isplitl [H5]; · iexact H5
          isplitl [H6]; · iexact H6
          iexact H7
        · iexact Hr
      isplitl [Ho]; · iexact Ho
      isplitl [H1]; · iexists d; iexact H1
      isplitl [H2]; · iexact H2
      isplitl [H3]; · iexact H3
      iexact H4

end Cert.KernelIdeal.Hand

end
-- ==== Proof.Noise.lean ====
/-
  The exponential noise of a random word, read exactly: its value as a real, in both units, and how two noises compare.
-/
module

public import Idealize.ShloMosaic.PureOps.Ideal
public import Mathlib.Analysis.SpecialFunctions.Log.Basic

@[expose] public section

noncomputable section

namespace Cert.Noise

open Idealize.ShloMosaic

/-- The upper 23 bits of a word. -/
def draw (b : BitVec 32) : ℕ := b.toNat / 512

/-- A draw has 23 bits. -/
theorem draw_lt (b : BitVec 32) : draw b < 2 ^ 23 := by
  have := b.isLt
  unfold draw
  omega

/-- Putting the exponent of one in front of 23 bits. -/
theorem word_toNat (b : BitVec 32) : (b >>> 9 ||| 1065353216#32).toNat = 2 ^ 23 * 127 + draw b := by
  rw [BitVec.toNat_or, BitVec.toNat_ushiftRight, Nat.shiftRight_eq_div_pow, Nat.or_comm]
  exact (Nat.two_pow_add_eq_or_of_lt (draw_lt b) 127).symm

/-- A positive normal float's value. -/
theorem normal_value (c : BitVec 32) {x f : ℕ} (h1 : c.extractLsb' 31 1 = 0#1) (h2 : (c.extractLsb' 23 8).toNat = x)
    (h3 : (c.extractLsb' 0 23).toNat = f) (h4 : x ≠ 255) (h5 : x ≠ 0) :
    Ideal.ofBits .f32 c = ((((2 ^ 23 + f : ℕ) : ℝ) * (2 : ℝ) ^ ((x : ℤ) - 127 - 23) : ℝ) : EReal) := by
  show Ideal.ieee 8 23 c = _
  unfold Ideal.ieee
  simp only [h1, h2, h3, show (8 + 23 : ℕ) = 31 from rfl]
  rw [if_neg (by norm_num; exact h4), if_neg h5]
  norm_num

/-- The float in [1, 2) made of a word's upper bits. -/
theorem frac_value (b : BitVec 32) :
    Ideal.ofBits .f32 (b >>> 9 ||| 1065353216#32) = ((1 + (draw b : ℝ) / 2 ^ 23 : ℝ) : EReal) := by
  have hd := draw_lt b
  have e := word_toNat b
  generalize b >>> 9 ||| 1065353216#32 = c at e
  have h1 : c.extractLsb' 31 1 = 0#1 := by
    apply BitVec.eq_of_toNat_eq
    rw [BitVec.extractLsb'_toNat, e, Nat.shiftRight_eq_div_pow]
    simp only [BitVec.toNat_ofNat]
    omega
  have h2 : (c.extractLsb' 23 8).toNat = 127 := by
    rw [BitVec.extractLsb'_toNat, e, Nat.shiftRight_eq_div_pow]
    omega
  have h3 : (c.extractLsb' 0 23).toNat = draw b := by
    rw [BitVec.extractLsb'_toNat, e, Nat.shiftRight_eq_div_pow]
    omega
  rw [normal_value c h1 h2 h3 (by norm_num) (by norm_num)]
  refine congrArg ((↑) : ℝ → EReal) ?_
  rw [show ((127 : ℕ) : ℤ) - 127 - 23 = -((23 : ℕ) : ℤ) by norm_num, zpow_neg, zpow_natCast]
  push_cast
  field_simp
  norm_num

/-- The bound the noise is clipped from below by, the nearest float to 1e-10. -/
def tiny : ℝ := 14411519 / 2 ^ 57

/-- The word of the clip's bound. -/
theorem tiny_value : Ideal.ofBits .f32 786163455#32 = ((tiny : ℝ) : EReal) := by
  rw [normal_value 786163455#32 (by decide) (show _ = 93 by decide) (show _ = 6022911 by decide) (by norm_num) (by norm_num)]
  refine congrArg ((↑) : ℝ → EReal) ?_
  rw [show ((93 : ℕ) : ℤ) - 127 - 23 = -((57 : ℕ) : ℤ) by norm_num, zpow_neg, zpow_natCast, tiny]
  push_cast
  field_simp

/-- The clip's bound is positive. -/
theorem tiny_pos : 0 < tiny := by unfold tiny; norm_num

/-- The noise of 23 random bits before clipping: minus the logarithm of one minus the uniform draw. -/
def raw (w : ℕ) : ℝ := -Real.log (1 - (w : ℝ) / 2 ^ 23)

/-- The clipped noise. -/
def noiseE (w : ℕ) : ℝ := max (raw w) tiny

/-- The clipped noise to the base two. -/
def noiseT (w : ℕ) : ℝ := max (raw w / Real.log 2) tiny

/-- The clipped noise is positive. -/
theorem noiseE_pos (w : ℕ) : 0 < noiseE w := lt_max_of_lt_right tiny_pos

/-- The clipped noise to the base two is positive. -/
theorem noiseT_pos (w : ℕ) : 0 < noiseT w := lt_max_of_lt_right tiny_pos

/-- The logarithm of two is positive. -/
theorem log_two_pos : 0 < Real.log 2 := Real.log_pos (by norm_num)

/-- The logarithm of two is under one. -/
theorem log_two_lt_one : Real.log 2 < 1 := by
  rw [Real.log_lt_iff_lt_exp (by norm_num)]
  have := Real.add_one_lt_exp (x := 1) (by norm_num)
  linarith

/-- A bound of e. -/
theorem exp_one_lt : Real.exp 1 < (2.75 : ℝ) := by
  have h := Real.exp_bound' (x := 1) (by norm_num) (by norm_num) (n := 5) (by norm_num)
  refine h.trans_lt ?_
  simp only [Finset.sum_range_succ, Finset.sum_range_zero, Nat.factorial]
  norm_num

/-- One minus a uniform draw is positive. -/
theorem below_one {w : ℕ} (h : w < 2 ^ 23) : 0 < 1 - (w : ℝ) / 2 ^ 23 := by
  have h' : (w : ℝ) < 2 ^ 23 := by exact_mod_cast h
  rw [sub_pos, div_lt_one (by positivity)]
  exact h'

/-- A nonzero draw's noise is at least its least step. -/
theorem raw_ge {w : ℕ} (h : w < 2 ^ 23) (h0 : w ≠ 0) : 1 / 2 ^ 23 ≤ raw w := by
  have h1 := Real.log_le_sub_one_of_pos (below_one h)
  have h2 : (1 : ℝ) ≤ w := by exact_mod_cast Nat.one_le_iff_ne_zero.mpr h0
  have h3 : (1 : ℝ) / 2 ^ 23 ≤ (w : ℝ) / 2 ^ 23 := div_le_div_of_nonneg_right h2 (by positivity)
  unfold raw
  linarith

/-- The clip's bound is under the least step. -/
theorem tiny_lt_step : tiny < 1 / 2 ^ 23 := by unfold tiny; norm_num

/-- A zero draw's noise is the clip's bound. -/
theorem noiseE_zero : noiseE 0 = tiny := by
  simp [noiseE, raw, tiny_pos.le]

/-- So it is to the base two. -/
theorem noiseT_zero : noiseT 0 = tiny := by
  simp [noiseT, raw, tiny_pos.le]

/-- A nonzero draw's noise is not clipped. -/
theorem noiseE_eq {w : ℕ} (h : w < 2 ^ 23) (h0 : w ≠ 0) : noiseE w = raw w :=
  max_eq_left (tiny_lt_step.le.trans (raw_ge h h0))

/-- The noise to the base two is the greater one. -/
theorem raw_le_div {w : ℕ} (h : w < 2 ^ 23) (h0 : w ≠ 0) : raw w ≤ raw w / Real.log 2 := by
  have h1 : 0 < raw w := lt_of_lt_of_le (by norm_num) (raw_ge h h0)
  rw [le_div_iff₀ log_two_pos]
  nlinarith [log_two_lt_one]

/-- A nonzero draw's noise to the base two is its noise over the logarithm of two. -/
theorem noiseT_eq {w : ℕ} (h : w < 2 ^ 23) (h0 : w ≠ 0) : noiseT w = noiseE w / Real.log 2 := by
  rw [noiseE_eq h h0]
  exact max_eq_left ((tiny_lt_step.le.trans (raw_ge h h0)).trans (raw_le_div h h0))

/-- Seven in the exponent outweighs no step of a nonzero draw. -/
theorem seven_lt {w : ℕ} (h : w < 2 ^ 23) (h0 : w ≠ 0) : 7 + Real.log tiny < Real.log (noiseE w) := by
  have h1 : Real.exp 7 * tiny < 1 / 2 ^ 23 := by
    have h2 : Real.exp 7 < (2.75 : ℝ) ^ 7 := by
      have := exp_one_lt
      rw [show (7 : ℝ) = (7 : ℕ) * 1 by norm_num, Real.exp_nat_mul]
      exact pow_lt_pow_left₀ this (Real.exp_pos 1).le (by norm_num)
    calc Real.exp 7 * tiny < (2.75 : ℝ) ^ 7 * tiny := mul_lt_mul_of_pos_right h2 tiny_pos
      _ < 1 / 2 ^ 23 := by unfold tiny; norm_num
  have h3 : Real.log (Real.exp 7 * tiny) = 7 + Real.log tiny := by
    rw [Real.log_mul (Real.exp_pos 7).ne' tiny_pos.ne', Real.log_exp]
  rw [← h3, noiseE_eq h h0]
  exact Real.log_lt_log (mul_pos (Real.exp_pos 7) tiny_pos) (h1.trans_le (raw_ge h h0))

/-- Their logarithms differ by a constant. -/
theorem logT {w : ℕ} (h : w < 2 ^ 23) (h0 : w ≠ 0) : Real.log (noiseT w) = Real.log (noiseE w) - Real.log (Real.log 2) := by
  rw [noiseT_eq h h0, Real.log_div (noiseE_pos w).ne' log_two_pos.ne']

/-- The logarithm of the noise to the base two is the greater one. -/
theorem logE_lt_logT {w : ℕ} (h : w < 2 ^ 23) (h0 : w ≠ 0) : Real.log (noiseE w) ≤ Real.log (noiseT w) := by
  have := Real.log_nonpos log_two_pos.le log_two_lt_one.le
  rw [logT h h0]
  linarith

/-- The noise to the base two is at most the number of random bits. -/
theorem noiseT_le {w : ℕ} (h : w < 2 ^ 23) (h0 : w ≠ 0) : noiseT w ≤ 23 := by
  have h1 : (w : ℝ) + 1 ≤ 2 ^ 23 := by exact_mod_cast h
  have h2 : ((2 : ℝ) ^ 23)⁻¹ ≤ 1 - (w : ℝ) / 2 ^ 23 := by
    rw [le_sub_iff_add_le, inv_eq_one_div, ← add_div, div_le_one (by positivity)]
    linarith
  have h3 := Real.log_le_log (by positivity) h2
  rw [Real.log_inv, Real.log_pow] at h3
  rw [noiseT_eq h h0, noiseE_eq h h0, div_le_iff₀ log_two_pos]
  unfold raw
  push_cast at h3
  linarith

/-- Twenty-seven in the exponent outweighs the difference of any two draws' noise. -/
theorem lt_far {w : ℕ} (h : w < 2 ^ 23) (h0 : w ≠ 0) : Real.log (noiseT w) < 27 + Real.log tiny := by
  have h1 : (2.7 : ℝ) < Real.exp 1 := by
    have h := Real.sum_le_exp_of_nonneg (x := 1) (by norm_num) 5
    simp only [Finset.sum_range_succ, Finset.sum_range_zero, Nat.factorial] at h
    norm_num at h
    linarith
  have h2 : 23 < Real.exp 27 * tiny := by
    have h3 : (2.7 : ℝ) ^ 27 < Real.exp 27 := by
      rw [show (27 : ℝ) = (27 : ℕ) * 1 by norm_num, Real.exp_nat_mul]
      exact pow_lt_pow_left₀ h1 (by norm_num) (by norm_num)
    calc (23 : ℝ) < (2.7 : ℝ) ^ 27 * tiny := by unfold tiny; norm_num
      _ < Real.exp 27 * tiny := mul_lt_mul_of_pos_right h3 tiny_pos
  have h4 : Real.log (Real.exp 27 * tiny) = 27 + Real.log tiny := by
    rw [Real.log_mul (Real.exp_pos 27).ne' tiny_pos.ne', Real.log_exp]
  rw [← h4]
  exact Real.log_lt_log (noiseT_pos w) ((noiseT_le h h0).trans_lt h2)

/-- Two scores compare alike under the two units of the noise, if a cell whose draw is zero lies within seven of the
    other or twenty-seven below it. -/
theorem compare {a b : ℝ} {v w : ℕ} (hv : v < 2 ^ 23) (hw : w < 2 ^ 23) (h1 : v = 0 → w ≠ 0 → b ≤ a + 7 ∨ a + 27 ≤ b)
    (h2 : w = 0 → v ≠ 0 → a ≤ b + 7 ∨ b + 27 ≤ a) :
    a - Real.log (noiseT v) < b - Real.log (noiseT w) ↔ a - Real.log (noiseE v) < b - Real.log (noiseE w) := by
  by_cases v0 : v = 0 <;> by_cases w0 : w = 0
  · subst v0; subst w0
    rw [noiseT_zero, noiseE_zero]
  · subst v0
    have e2 := seven_lt hw w0
    have e3 := logE_lt_logT hw w0
    have e4 := lt_far hw w0
    rw [noiseT_zero, noiseE_zero]
    rcases h1 rfl w0 with e1 | e1 <;> constructor <;> intro <;> linarith
  · subst w0
    have e2 := seven_lt hv v0
    have e3 := logE_lt_logT hv v0
    have e4 := lt_far hv v0
    rw [noiseT_zero, noiseE_zero]
    rcases h2 rfl v0 with e1 | e1 <;> constructor <;> intro <;> linarith
  · rw [logT hv v0, logT hw w0]
    constructor <;> intro <;> linarith

end Cert.Noise

end
-- ==== Proof.Race.lean ====
/-
  The two scores of a cell as extended reals. The first is the scaled logit less the logarithm of the noise, to the base
  two; the second the cell's probability over its noise. Cells of one row compare alike under both.
-/
module

public import proofs.«01_k».proof.Proof.Noise

@[expose] public section

noncomputable section

namespace Cert.Noise

open Idealize.ShloMosaic

/-- The inverse of the logarithm of two. -/
def invLog : EReal := (((Real.log 2)⁻¹ : ℝ) : EReal)

/-- The score that compares logarithms. -/
def wide (z : EReal) (w : ℕ) : EReal := z * invLog - ((Real.log (noiseT w) : ℝ) : EReal) * invLog

/-- The score that compares probabilities over noise, of a row with greatest scaled logit `M` and sum `S`. -/
def quot (M S z : EReal) (w : ℕ) : EReal := Ideal.div (Ideal.div (Ideal.exp (z - M)) S) ((noiseE w : ℝ) : EReal)

/-- The inverse of the logarithm of two is positive. -/
theorem inv_pos : 0 < (Real.log 2)⁻¹ := _root_.inv_pos.mpr log_two_pos

/-- A logit of minus infinity has the least score. -/
theorem wide_bot (w : ℕ) : wide ⊥ w = ⊥ := by
  rw [wide, invLog, EReal.bot_mul_coe_of_pos inv_pos, sub_eq_add_neg, EReal.bot_add]

/-- The first score of a real logit. -/
theorem wide_coe (z : ℝ) (w : ℕ) : wide z w = (((z - Real.log (noiseT w)) * (Real.log 2)⁻¹ : ℝ) : EReal) := by
  rw [wide, invLog, sub_mul]
  push_cast
  rfl

/-- The quotient of reals. -/
theorem div_coe (x : ℝ) {y : ℝ} (h : 0 < y) : Ideal.div (x : EReal) (y : EReal) = ((x / y : ℝ) : EReal) := by
  rw [Ideal.div, if_neg (by exact_mod_cast h.ne'), div_eq_mul_inv, EReal.coe_mul, EReal.coe_inv]

/-- The second score of a logit of minus infinity, in a row with a real maximum. -/
theorem quot_bot (M : ℝ) {S : ℝ} (hS : 0 < S) (w : ℕ) : quot M S ⊥ w = 0 := by
  rw [quot, sub_eq_add_neg, EReal.bot_add, show Ideal.exp ⊥ = ((0 : ℝ) : EReal) from rfl, div_coe _ hS, div_coe _ (noiseE_pos w)]
  simp

/-- The second score of a real logit. -/
theorem quot_coe (M z : ℝ) {S : ℝ} (hS : 0 < S) (w : ℕ) :
    quot M S z w = ((Real.exp (z - M) / S / noiseE w : ℝ) : EReal) := by
  rw [quot, ← EReal.coe_sub, show Ideal.exp ((z - M : ℝ) : EReal) = ((Real.exp (z - M) : ℝ) : EReal) from rfl, div_coe _ hS,
    div_coe _ (noiseE_pos w)]

/-- The second score compares as the logit less the logarithm of the noise. -/
theorem quot_lt {M a b S : ℝ} (hS : 0 < S) (v w : ℕ) :
    Real.exp (a - M) / S / noiseE v < Real.exp (b - M) / S / noiseE w ↔ a - Real.log (noiseE v) < b - Real.log (noiseE w) := by
  have e : ∀ (x : ℝ) (u : ℕ), Real.exp (x - M) / S / noiseE u = Real.exp (x - Real.log (noiseE u)) * (Real.exp (-M) / S) := by
    intro x u
    rw [Real.exp_sub x (Real.log _), Real.exp_log (noiseE_pos u), sub_eq_add_neg, Real.exp_add]
    field_simp
  rw [e, e, mul_lt_mul_iff_left₀ (div_pos (Real.exp_pos _) hS), Real.exp_lt_exp]

/-- A scaled logit within seven of another, or twenty-seven or more below it. -/
def Settled (y z : EReal) : Prop := z ≤ y + ((7 : ℝ) : EReal) ∨ y + ((27 : ℝ) : EReal) ≤ z

/-- Cells of one row compare alike under both scores, if a cell whose draw is zero is settled against the other. -/
theorem alike {M S : ℝ} (hS : 0 < S) {y z : EReal} (hy : y ≠ ⊤) (hz : z ≠ ⊤) {v w : ℕ} (hv : v < 2 ^ 23) (hw : w < 2 ^ 23)
    (h1 : v = 0 → w ≠ 0 → Settled y z) (h2 : w = 0 → v ≠ 0 → Settled z y) : wide y v < wide z w ↔ quot M S y v < quot M S z w := by
  induction y with
  | top => exact absurd rfl hy
  | bot =>
    induction z with
    | top => exact absurd rfl hz
    | bot => rw [wide_bot, wide_bot, quot_bot M hS, quot_bot M hS]; simp
    | coe z =>
      rw [wide_bot, wide_coe, quot_bot M hS, quot_coe M z hS]
      refine iff_of_true (EReal.bot_lt_coe _) ?_
      exact_mod_cast div_pos (div_pos (Real.exp_pos _) hS) (noiseE_pos w)
  | coe y =>
    induction z with
    | top => exact absurd rfl hz
    | bot =>
      rw [wide_bot, wide_coe, quot_bot M hS, quot_coe M y hS]
      refine iff_of_false not_lt_bot (not_lt.mpr ?_)
      exact_mod_cast (div_pos (div_pos (Real.exp_pos _) hS) (noiseE_pos v)).le
    | coe z =>
      rw [wide_coe, wide_coe, quot_coe M y hS, quot_coe M z hS, EReal.coe_lt_coe_iff, EReal.coe_lt_coe_iff, quot_lt hS,
        mul_lt_mul_iff_left₀ inv_pos]
      have real : ∀ {p q : ℝ}, Settled (p : EReal) (q : EReal) → q ≤ p + 7 ∨ p + 27 ≤ q := fun h =>
        h.imp (fun h => by exact_mod_cast h) fun h => by exact_mod_cast h
      exact compare hv hw (fun a b => real (h1 a b)) fun a b => real (h2 a b)

/-- A cell whose draw is zero, twenty-seven or more below another whose draw is not, has the lesser score. -/
theorem wide_far {y z : EReal} (hz : z ≠ ⊤) (hb : z ≠ ⊥) (h : y + ((27 : ℝ) : EReal) ≤ z) {w : ℕ} (hw : w < 2 ^ 23) (h0 : w ≠ 0) :
    wide y 0 < wide z w := by
  lift z to ℝ using ⟨hz, hb⟩
  induction y with
  | top => exact absurd (top_le_iff.mp h) (EReal.coe_ne_top z)
  | bot => rw [wide_bot, wide_coe]; exact EReal.bot_lt_coe _
  | coe y =>
    have h' : y + 27 ≤ z := by exact_mod_cast h
    have e := lt_far hw h0
    rw [wide_coe, wide_coe, EReal.coe_lt_coe_iff, mul_lt_mul_iff_left₀ inv_pos, noiseT_zero]
    linarith

/-- In a row of logits that are all minus infinity every cell has the least score of either kind. -/
theorem quot_empty (w : ℕ) : quot ⊥ 0 ⊥ w = ⊥ := by
  have e : Ideal.div 0 0 = ⊥ := by simp [Ideal.div]
  rw [quot, sub_eq_add_neg, EReal.bot_add, show Ideal.exp ⊥ = 0 from rfl, e, Ideal.div, if_neg (by exact_mod_cast (noiseE_pos w).ne'),
    ← EReal.coe_inv, EReal.bot_mul_coe_of_pos (_root_.inv_pos.mpr (noiseE_pos w))]

/-- The first place where a row attains its maximum. -/
def First {n : ℕ} (f : Fin n → EReal) (i : Fin n) : Prop := (∀ c, f c ≤ f i) ∧ ∀ c, c < i → f c < f i

/-- The first place of the maximum is one. -/
theorem First.unique {n : ℕ} {f : Fin n → EReal} {i j : Fin n} (hi : First f i) (hj : First f j) : i = j := by
  rcases lt_trichotomy i j with h | h | h
  · exact absurd (hj.2 i h) (not_lt.mpr (hi.1 j))
  · exact h
  · exact absurd (hi.2 j h) (not_lt.mpr (hj.1 i))

/-- Two rows that order their places alike have the same first place of the maximum. -/
theorem First.congr {n : ℕ} {f g : Fin n → EReal} (h : ∀ c d, f c < f d ↔ g c < g d) {i : Fin n} (hi : First f i) : First g i :=
  ⟨fun c => not_lt.mp fun hc => not_lt.mpr (hi.1 c) ((h i c).mpr hc), fun c hc => (h c i).mp (hi.2 c hc)⟩

/-- So have two rows that order alike all places but one, which in both is under another. -/
theorem First.except {n : ℕ} {f g : Fin n → EReal} (k e : Fin n) (h : ∀ c d, c ≠ k → d ≠ k → (f c < f d ↔ g c < g d)) (hek : e ≠ k)
    (hf : f k < f e) (hg : g k < g e) {i : Fin n} (hi : First f i) : First g i := by
  have hik : i ≠ k := by
    rintro rfl
    exact absurd hf (not_lt.mpr (hi.1 e))
  have hle : ∀ c, c ≠ k → g c ≤ g i := fun c hc => not_lt.mp fun h' => not_lt.mpr (hi.1 c) ((h i c hik hc).mpr h')
  have hk : g k < g i := hg.trans_le (hle e hek)
  refine ⟨fun c => ?_, fun c hc => ?_⟩
  · by_cases hck : c = k
    · rw [hck]; exact hk.le
    · exact hle c hck
  · by_cases hck : c = k
    · rw [hck]; exact hk
    · exact (h c i hck hik).mp (hi.2 c hc)

end Cert.Noise

end
-- ==== Proof.Row.lean ====
/-
  A row's maximum, its sum of exponentials, and the place of its maximum, each as a fold over a list of the row's cells.
-/
module

public import proofs.«01_k».proof.Proof.Race

@[expose] public section

noncomputable section

namespace Cert.Noise

open Idealize.ShloMosaic

variable {ι : Type}

/-- A fold of maxima bounds its elements and is attained, by the first value or by an element. -/
theorem foldl_max (L : List ι) (g : ι → EReal) (a : EReal) :
    (∀ n ∈ L, g n ≤ L.foldl (fun r n => max r (g n)) a)
      ∧ (L.foldl (fun r n => max r (g n)) a = a ∨ ∃ n ∈ L, L.foldl (fun r n => max r (g n)) a = g n) := by
  induction L using List.reverseRecOn with
  | nil => simp
  | append_singleton L x ih =>
    rw [List.foldl_append, List.foldl_cons, List.foldl_nil]
    refine ⟨fun n hn => ?_, ?_⟩
    · rcases List.mem_append.mp hn with h | h
      · exact (ih.1 n h).trans (le_max_left _ _)
      · rw [List.mem_singleton.mp h]; exact le_max_right _ _
    · rcases max_choice (L.foldl (fun r n => max r (g n)) a) (g x) with h | h
      · rw [h]
        rcases ih.2 with h' | ⟨n, hn, h'⟩
        · exact Or.inl h'
        · exact Or.inr ⟨n, List.mem_append_left _ hn, h'⟩
      · exact Or.inr ⟨x, by simp, h⟩

/-- A sum of nonnegative reals one of which is positive is a positive real. -/
theorem sum_real (A : Finset ι) (g : ι → EReal) (h : ∀ i ∈ A, ∃ p : ℝ, 0 ≤ p ∧ g i = (p : EReal)) :
    ∃ s : ℝ, 0 ≤ s ∧ ∑ i ∈ A, g i = (s : EReal) ∧ ((∃ i ∈ A, 0 < g i) → 0 < s) := by
  classical
  induction A using Finset.induction_on with
  | empty => exact ⟨0, le_refl _, by simp, by simp⟩
  | insert x A hx ih =>
    obtain ⟨s, hs, e, hp⟩ := ih fun i hi => h i (Finset.mem_insert_of_mem hi)
    obtain ⟨p, p0, ep⟩ := h x (Finset.mem_insert_self _ _)
    refine ⟨p + s, add_nonneg p0 hs, ?_, ?_⟩
    · rw [Finset.sum_insert hx, e, ep, EReal.coe_add]
    · rintro ⟨i, hi, h0⟩
      rcases Finset.mem_insert.mp hi with rfl | hi
      · rw [ep] at h0
        have : 0 < p := by exact_mod_cast h0
        linarith
      · have := hp ⟨i, hi, h0⟩
        linarith

/-- Cells of one row compare alike under both scores, the row's maximum and sum being what they are. -/
theorem row_alike (A : Finset ι) (Z : ι → EReal) (M : EReal) (hle : ∀ i ∈ A, Z i ≤ M) (hM : M = ⊥ ∨ ∃ i ∈ A, M = Z i)
    (htop : ∀ i ∈ A, Z i ≠ ⊤) {c d : ι} (hc : c ∈ A) (hd : d ∈ A) {v w : ℕ} (hv : v < 2 ^ 23) (hw : w < 2 ^ 23)
    (h1 : v = 0 → w ≠ 0 → Settled (Z c) (Z d)) (h2 : w = 0 → v ≠ 0 → Settled (Z d) (Z c)) :
    wide (Z c) v < wide (Z d) w
      ↔ quot M (0 + ∑ i ∈ A, Ideal.exp (Z i - M)) (Z c) v < quot M (0 + ∑ i ∈ A, Ideal.exp (Z i - M)) (Z d) w := by
  by_cases hb : M = ⊥
  · subst hb
    have hz : ∀ i ∈ A, Z i = ⊥ := fun i hi => le_bot_iff.mp (hle i hi)
    have hs : (0 : EReal) + ∑ i ∈ A, Ideal.exp (Z i - ⊥) = 0 := by
      rw [Finset.sum_eq_zero, add_zero]
      intro i hi
      rw [hz i hi, sub_eq_add_neg, EReal.bot_add]
      rfl
    rw [hs, hz c hc, hz d hd, wide_bot, wide_bot, quot_empty, quot_empty]
  · obtain ⟨k, hk, e⟩ := hM.resolve_left hb
    have ht : M ≠ ⊤ := by rw [e]; exact htop k hk
    lift M to ℝ using ⟨ht, hb⟩
    obtain ⟨s, -, es, hs⟩ := sum_real A (fun i => Ideal.exp (Z i - M)) fun i hi => by
      have := htop i hi
      show ∃ p : ℝ, 0 ≤ p ∧ Ideal.exp (Z i - M) = p
      generalize Z i = z at this ⊢
      induction z with
      | bot => exact ⟨0, le_refl _, by rw [sub_eq_add_neg, EReal.bot_add]; rfl⟩
      | top => exact absurd rfl this
      | coe x => exact ⟨Real.exp (x - M), (Real.exp_pos _).le, rfl⟩
    have h0 : 0 < s := hs ⟨k, hk, by
      show 0 < Ideal.exp (Z k - M)
      rw [← e, ← EReal.coe_sub]
      exact EReal.coe_pos.mpr (Real.exp_pos _)⟩
    rw [es, zero_add]
    exact alike h0 (htop c hc) (htop d hd) hv hw h1 h2

/-- Small words compare as their numbers. -/
theorem slt_small {a b : ℕ} (ha : a < 2 ^ 31) (hb : b < 2 ^ 31) : (BitVec.ofNat 32 a).slt (BitVec.ofNat 32 b) = true ↔ a < b := by
  rw [BitVec.slt_iff_toInt_lt, BitVec.toInt_eq_toNat_of_lt (by rw [BitVec.toNat_ofNat]; omega),
    BitVec.toInt_eq_toNat_of_lt (by rw [BitVec.toNat_ofNat]; omega), BitVec.toNat_ofNat, BitVec.toNat_ofNat]
  omega

/-- A fold that keeps the greater value, and of equal values the one of the lesser index, ends with the greatest value and
    the least index that has it. -/
theorem foldl_best (red : EReal × BitVec 32 → EReal × BitVec 32 → EReal × BitVec 32)
    (hred : ∀ a b, red a b = if b.1 < a.1 ∨ (a.1 = b.1 ∧ a.2.slt b.2 = true) then a else b) (g : ι → EReal) (k : ι → ℕ)
    (hk : ∀ n, k n < 2 ^ 31) (L : List ι) :
    ∃ i, i < 2 ^ 31 ∧ (L.foldl (fun r n => red r (g n, BitVec.ofNat 32 (k n))) (⊥, 0#32)).2 = BitVec.ofNat 32 i
      ∧ (∀ n ∈ L, g n < (L.foldl (fun r n => red r (g n, BitVec.ofNat 32 (k n))) (⊥, 0#32)).1
          ∨ (g n = (L.foldl (fun r n => red r (g n, BitVec.ofNat 32 (k n))) (⊥, 0#32)).1 ∧ i ≤ k n))
      ∧ ((∃ n ∈ L, g n = (L.foldl (fun r n => red r (g n, BitVec.ofNat 32 (k n))) (⊥, 0#32)).1 ∧ k n = i)
          ∨ ((L.foldl (fun r n => red r (g n, BitVec.ofNat 32 (k n))) (⊥, 0#32)).1 = ⊥ ∧ i = 0)) := by
  induction L using List.reverseRecOn with
  | nil => exact ⟨0, by norm_num, rfl, by simp, Or.inr ⟨rfl, rfl⟩⟩
  | append_singleton L x ih =>
    rw [List.foldl_append, List.foldl_cons, List.foldl_nil]
    generalize L.foldl (fun r n => red r (g n, BitVec.ofNat 32 (k n))) (⊥, 0#32) = r at ih ⊢
    obtain ⟨i, hi, e, hall, hsome⟩ := ih
    rw [hred]
    split_ifs with h
    · refine ⟨i, hi, e, fun n hn => ?_, ?_⟩
      · rcases List.mem_append.mp hn with h' | h'
        · exact hall n h'
        · rw [List.mem_singleton.mp h']
          refine h.imp id fun h'' => ⟨h''.1.symm, ?_⟩
          rw [e] at h''
          exact ((slt_small hi (hk x)).mp h''.2).le
      · exact hsome.imp (fun ⟨n, hn, h'⟩ => ⟨n, List.mem_append_left _ hn, h'⟩) id
    · refine ⟨k x, hk x, rfl, fun n hn => ?_, Or.inl ⟨x, by simp, rfl, rfl⟩⟩
      have h1 : r.1 ≤ g x := not_lt.mp fun h' => h (Or.inl h')
      rcases List.mem_append.mp hn with h' | h'
      · rcases hall n h' with h2 | ⟨h2, h3⟩
        · exact Or.inl (h2.trans_le h1)
        · rcases h1.lt_or_eq with h4 | h4
          · exact Or.inl (h2 ▸ h4)
          · refine Or.inr ⟨h2.trans h4, le_trans (not_lt.mp fun h5 => h (Or.inr ⟨h4, ?_⟩)) h3⟩
            rw [e]
            exact (slt_small hi (hk x)).mpr h5
      · rw [List.mem_singleton.mp h']
        exact Or.inr ⟨rfl, le_refl _⟩

/-- Over all cells of a row, the fold ends with the first place of the row's maximum. -/
theorem best_first {N : ℕ} (h0 : 0 < N) (hN : N ≤ 2 ^ 31) (f : Fin N → EReal)
    (red : EReal × BitVec 32 → EReal × BitVec 32 → EReal × BitVec 32)
    (hred : ∀ a b, red a b = if b.1 < a.1 ∨ (a.1 = b.1 ∧ a.2.slt b.2 = true) then a else b) (g : ι → EReal) (col : ι → Fin N)
    (L : List ι) (hg : ∀ n ∈ L, g n = f (col n)) (hs : ∀ c, ∃ n ∈ L, col n = c) :
    ∃ i : Fin N, First f i ∧ (L.foldl (fun r n => red r (g n, BitVec.ofNat 32 (col n).val)) (⊥, 0#32)).2 = BitVec.ofNat 32 i.val := by
  obtain ⟨i, hi, e, hall, hsome⟩ := foldl_best red hred g (fun n => (col n).val) (fun n => (col n).isLt.trans_le hN) L
  generalize L.foldl (fun r n => red r (g n, BitVec.ofNat 32 (col n).val)) (⊥, 0#32) = r at *
  have key : ∀ c : Fin N, f c < r.1 ∨ (f c = r.1 ∧ i ≤ c.val) := by
    intro c
    obtain ⟨n, hn, rfl⟩ := hs c
    rw [← hg n hn]
    exact hall n hn
  have at_ : ∃ c : Fin N, f c = r.1 ∧ c.val = i := by
    rcases hsome with ⟨n, hn, h1, h2⟩ | ⟨h1, h2⟩
    · exact ⟨col n, (hg n hn).symm.trans h1, h2⟩
    · refine ⟨⟨0, h0⟩, ?_, h2.symm⟩
      rcases key ⟨0, h0⟩ with h | h
      · rw [h1] at h; exact absurd h not_lt_bot
      · exact h.1
  obtain ⟨c, hc, rfl⟩ := at_
  refine ⟨c, ⟨fun d => ?_, fun d hd => ?_⟩, e⟩
  · rw [hc]; exact (key d).elim le_of_lt fun h => h.1.le
  · rw [hc]; exact (key d).resolve_right fun h => absurd hd (not_lt.mpr h.2)

end Cert.Noise

end
-- ==== Proof.Chunks.lean ====
/-
  A row searched in chunks: each lane keeps its greatest score and the first chunk that has it, and of the lanes with the
  greatest score of all the least place wins. That is the first place of the row's maximum.
-/
module

public import proofs.«01_k».proof.Proof.Row

@[expose] public section

noncomputable section

namespace Cert.Noise

open Idealize.ShloMosaic

variable {ι : Type}

/-- The least of the places that have the greatest score of all lanes is the first place of the row's maximum. -/
theorem pick_first (f : Fin 100000 → EReal) (F : ℕ → Fin 4096 → EReal)
    (hF : ∀ p l, F p l = if h : 4096 * p + l.val < 100000 then f ⟨4096 * p + l.val, h⟩ else ⊥)
    (V : Fin 4096 → EReal) (q : Fin 4096 → ℕ) (hq : ∀ l, q l < 25) (hV : ∀ l, V l = F (q l) l)
    (hall : ∀ l p, p < 25 → F p l < V l ∨ (F p l = V l ∧ q l ≤ p)) (M : EReal) (hM : ∀ l, V l ≤ M) (r : ℕ)
    (hle : ∀ l, V l = M → r ≤ 4096 * q l + l.val) (hr : ∃ l, V l = M ∧ r = 4096 * q l + l.val) :
    ∃ i : Fin 100000, First f i ∧ r = i.val := by
  obtain ⟨l, hl, rfl⟩ := hr
  have hsmall : 4096 * q l + l.val < 100000 := by
    by_contra hbig
    have e : V l = ⊥ := by rw [hV, hF, dif_neg hbig]
    have hM0 : M = ⊥ := hl.symm.trans e
    let z : Fin 4096 := ⟨0, by norm_num⟩
    have hz : V z = ⊥ := le_bot_iff.mp (hM0 ▸ hM z)
    have h0 := hle z (hz.trans hM0.symm)
    have hqz : q z = 0 := by
      rcases hall z 0 (by norm_num) with h | h
      · rw [hz] at h; exact absurd h not_lt_bot
      · omega
    rw [hqz] at h0
    have : z.val = 0 := rfl
    omega
  have hf : f ⟨4096 * q l + l.val, hsmall⟩ = M := by rw [← hl, hV, hF, dif_pos hsmall]
  have key : ∀ c : Fin 100000, ∃ k : Fin 4096, ∃ p, p < 25 ∧ c.val = 4096 * p + k.val ∧ f c = F p k := by
    intro c
    have hc := c.isLt
    refine ⟨⟨c.val % 4096, Nat.mod_lt _ (by norm_num)⟩, c.val / 4096, by omega, ?_, ?_⟩
    · show c.val = 4096 * (c.val / 4096) + c.val % 4096
      omega
    · rw [hF, dif_pos (show 4096 * (c.val / 4096) + c.val % 4096 < 100000 by omega)]
      exact congrArg f (Fin.ext (show c.val = 4096 * (c.val / 4096) + c.val % 4096 by omega))
  refine ⟨⟨4096 * q l + l.val, hsmall⟩, ⟨fun c => ?_, fun c hc => ?_⟩, rfl⟩
  · obtain ⟨k, p, hp, -, e⟩ := key c
    rw [hf, e]
    exact ((hall k p hp).elim le_of_lt fun h => h.1.le).trans (hM k)
  · obtain ⟨k, p, hp, ec, e⟩ := key c
    rw [hf, e]
    have hc' : c.val < 4096 * q l + l.val := hc
    rcases hall k p hp with h | ⟨h1, h2⟩
    · exact h.trans_le (hM k)
    · rcases (hM k).lt_or_eq with h3 | h3
      · rw [h1]; exact h3
      · have := hle k h3
        omega

/-- A fold of signed minima over small words bounds them and is one of them, or the first value. -/
theorem foldl_min (L : List ι) (q : ι → ℕ) (hq : ∀ n, q n < 2 ^ 31) :
    ∃ r, r < 2 ^ 31 ∧ L.foldl (fun s n => IntOp.minsi s (BitVec.ofNat 32 (q n))) 2147483647#32 = BitVec.ofNat 32 r
      ∧ (∀ n ∈ L, r ≤ q n) ∧ (r = 2147483647 ∨ ∃ n ∈ L, r = q n) := by
  induction L using List.reverseRecOn with
  | nil => exact ⟨2147483647, by norm_num, rfl, by simp, Or.inl rfl⟩
  | append_singleton L x ih =>
    rw [List.foldl_append, List.foldl_cons, List.foldl_nil]
    obtain ⟨r, hr, e, h1, h2⟩ := ih
    rw [e]
    have hs := slt_small hr (hq x)
    by_cases h : r < q x
    · refine ⟨r, hr, ?_, fun n hn => ?_, h2.imp id fun ⟨n, hn, h'⟩ => ⟨n, List.mem_append_left _ hn, h'⟩⟩
      · rw [IntOp.minsi, if_pos (hs.mpr h)]
      · rcases List.mem_append.mp hn with h' | h'
        · exact h1 n h'
        · rw [List.mem_singleton.mp h']; exact h.le
    · refine ⟨q x, hq x, ?_, fun n hn => ?_, Or.inr ⟨x, by simp, rfl⟩⟩
      · rw [IntOp.minsi, if_neg (fun h' => h (hs.mp h'))]
      · rcases List.mem_append.mp hn with h' | h'
        · exact (not_lt.mp h).trans (h1 n h')
        · rw [List.mem_singleton.mp h']

end Cert.Noise

end
-- ==== Proof.KernelPick.lean ====
/-
  What the lanes hold after the chunks, and the index made of them: each lane's greatest score with the first chunk that
  has it, and the least column of the lanes that have the row's greatest score.
-/
module

public import proofs.«01_k».proof.Proof.KernelRun
public import proofs.«01_k».proof.Proof.Chunks

@[expose] public section

set_option maxRecDepth 65536

noncomputable section

namespace Cert.KernelIdeal.Hand

open Cert.KernelIdeal Cert.KernelIdeal.Gen Cert.Cipher Cert.Noise
open Idealize.ShloMosaic Idealize.ShloMosaic.TcCoe Idealize.ShloMosaic.Tactic Idealize.ShloMosaic.Pointwise

/-- The word of minus infinity. -/
theorem least_word : Ideal.ofBits .f32 0xFF800000#32 = ⊥ := by simp [Ideal.ofBits, Ideal.ieee]

/-- Before any chunk every lane holds minus infinity. -/
theorem accV_zero (L : S128x100000.Idx → EReal) (S : S128x1.Idx → EReal) : accV L S 0 = fun _ => (⊥ : EReal) := by
  funext y
  rw [← least_word]
  idx_vars y
  unfold accV
  pointwise [k0_pay1]

/-- Before any chunk every lane's chunk is zero. -/
theorem accC_zero (L : S128x100000.Idx → EReal) (S : S128x1.Idx → EReal) : accC L S 0 = fun _ => 0#32 := by
  funext y
  idx_vars y
  unfold accC
  pointwise [k0_pay2]

/-- After some chunks a lane holds its greatest score and the first chunk that has it. -/
theorem lanes (L : S128x100000.Idx → EReal) (S : S128x1.Idx → EReal) (y : S128x4096.Idx) (n : ℕ) :
    ∃ q, q < n + 1 ∧ accC L S (n + 1) y = BitVec.ofNat 32 q ∧ accV L S (n + 1) y = chunkScore q (chunkOf L q) S y
      ∧ ∀ p, p < n + 1 → chunkScore p (chunkOf L p) S y < accV L S (n + 1) y
        ∨ (chunkScore p (chunkOf L p) S y = accV L S (n + 1) y ∧ q ≤ p) := by
  induction n with
  | zero =>
    have hv : accV L S (0 + 1) y = chunkScore 0 (chunkOf L 0) S y := by
      show max (accV L S 0 y) (chunkScore 0 (chunkOf L 0) S y) = _
      rw [accV_zero]
      exact max_eq_right bot_le
    refine ⟨0, by norm_num, ?_, hv, fun p hp => Or.inr ?_⟩
    · show (if accV L S 0 y < chunkScore 0 (chunkOf L 0) S y then BitVec.ofNat 32 0 else accC L S 0 y) = _
      rw [accC_zero]
      split <;> rfl
    · obtain rfl : p = 0 := by omega
      exact ⟨hv.symm, le_refl _⟩
  | succ n ih =>
    obtain ⟨q, hq, hc, hv, hall⟩ := ih
    have ev : accV L S (n + 1 + 1) y = max (accV L S (n + 1) y) (chunkScore (n + 1) (chunkOf L (n + 1)) S y) := rfl
    have ec : accC L S (n + 1 + 1) y
        = if accV L S (n + 1) y < chunkScore (n + 1) (chunkOf L (n + 1)) S y then BitVec.ofNat 32 (n + 1) else accC L S (n + 1) y := rfl
    by_cases h : accV L S (n + 1) y < chunkScore (n + 1) (chunkOf L (n + 1)) S y
    · rw [if_pos h] at ec
      rw [max_eq_right h.le] at ev
      refine ⟨n + 1, by omega, ec, ev, fun p hp => ?_⟩
      rcases Nat.lt_or_ge p (n + 1) with hp' | hp'
      · refine Or.inl ?_
        rw [ev]
        exact ((hall p hp').elim le_of_lt fun h' => h'.1.le).trans_lt h
      · obtain rfl : p = n + 1 := by omega
        exact Or.inr ⟨ev.symm, le_refl _⟩
    · rw [if_neg h] at ec
      rw [max_eq_left (not_lt.mp h)] at ev
      rw [ev, ec]
      refine ⟨q, by omega, hc, hv, fun p hp => ?_⟩
      rcases Nat.lt_or_ge p (n + 1) with hp' | hp'
      · exact hall p hp'
      · obtain rfl : p = n + 1 := by omega
        rcases (not_lt.mp h).lt_or_eq with h' | h'
        · exact Or.inl h'
        · exact Or.inr ⟨h', by omega⟩

/-- The dropped index of a lane is its row. -/
theorem drop_lane (h : S128x4096.Reduces [1] S128) (i : S128x4096.Idx) (j : S128.Idx) : h.drop i = j ↔ (i 0).val = (j 0).val := by
  have e : (h.drop i 0).val = (i 0).val := h.drop_apply_val_of_eq i 0 0
  constructor
  · rintro rfl; exact e.symm
  · intro h'
    funext a
    fin_cases a
    exact Fin.ext (e.trans h')

/-- The lane of an index. -/
def laneOf (i : S128x4096.Idx) : Fin 4096 := i 1

/-- An index of a row is the row with its lane. -/
theorem in_row (i : S128x4096.Idx) (r : Fin 128) (h : (i 0).val = r.val) : ∃ l : Fin 4096, i = ix2 r l :=
  ⟨laneOf i, by
    funext a
    fin_cases a
    · exact Fin.ext h
    · rfl⟩

/-- The row's greatest score, over the lanes. -/
theorem row_greatest (X : Vec Ideal S128x4096 .f32) (r : Fin 128) :
    (∀ l, (X (ix2 r l) : EReal) ≤ k0_pay9 (F := Ideal) X (ix2 r 0))
      ∧ ∃ l, (X (ix2 r l) : EReal) = k0_pay9 (F := Ideal) X (ix2 r 0) := by
  have e : k0_pay9 (F := Ideal) X (ix2 r 0)
      = reduceFold reduces_S128x4096_S128 (FloatOps.maximumf (F := Ideal) (φ := .f32)) (FloatOps.ofBits .f32 0xFF800000#32) X (ix1 r) := by
    unfold k0_pay9
    refine Idealize.ShloMosaic.shapeCast_apply _ shapeCasts_S128_S128x1 _ (ix1 r) ?_
    rw [Shape.rowMajor_val_two, Shape.rowMajor_val_one]
    show r.val = r.val * 1 + 0
    omega
  rw [reduceFold_eq_foldl] at e
  have hm := foldl_max (((List.finRange S128x4096.numel).map S128x4096.rowMajor.symm).filter fun i =>
    reduces_S128x4096_S128.drop i = ix1 r) (fun i => (X i : EReal)) ⊥
  have e' : k0_pay9 (F := Ideal) X (ix2 r 0) = (((List.finRange S128x4096.numel).map S128x4096.rowMajor.symm).filter fun i =>
    reduces_S128x4096_S128.drop i = ix1 r).foldl (fun s i => max s (X i : EReal)) ⊥ := by
    rw [e, ← least_word]
    rfl
  rw [← e'] at hm
  have hall : ∀ l, (X (ix2 r l) : EReal) ≤ k0_pay9 (F := Ideal) X (ix2 r 0) := by
    intro l
    refine hm.1 (ix2 r l) (List.mem_filter.mpr ⟨?_, ?_⟩)
    · exact List.mem_map.mpr ⟨S128x4096.rowMajor (ix2 r l), List.mem_finRange _, by simp⟩
    · exact decide_eq_true ((drop_lane _ _ _).mpr rfl)
  refine ⟨hall, ?_⟩
  rcases hm.2 with h | ⟨i, hi, h⟩
  · exact ⟨0, le_antisymm (hall 0) (h ▸ bot_le)⟩
  · have h0 := (drop_lane _ _ _).mp (of_decide_eq_true (List.mem_filter.mp hi).2)
    obtain ⟨l, rfl⟩ := in_row i r h0
    exact ⟨l, h.symm⟩

/-- The index made of the lanes: of those with the row's greatest score, the least column. -/
theorem row_pick (X : Vec Ideal S128x4096 .f32) (C : Vec Ideal S128x4096 .i32) (r : Fin 128) (q : Fin 4096 → ℕ)
    (hq : ∀ l, q l < 25) (hC : ∀ l, C (ix2 r l) = BitVec.ofNat 32 (q l)) :
    ∃ k, k0_pay10 (F := Ideal) X C (ix2 r 0) = BitVec.ofNat 32 k
      ∧ (∀ l, (X (ix2 r l) : EReal) = k0_pay9 (F := Ideal) X (ix2 r 0) → k ≤ 4096 * q l + l.val)
      ∧ ∃ l, (X (ix2 r l) : EReal) = k0_pay9 (F := Ideal) X (ix2 r 0) ∧ k = 4096 * q l + l.val := by
  classical
  let g : S128x4096.Idx → ℕ := fun i =>
    if (X (ix2 r (laneOf i)) : EReal) = k0_pay9 (F := Ideal) X (ix2 r 0) then 4096 * q (laneOf i) + (laneOf i).val else 2147483647
  have hg : ∀ i, g i < 2 ^ 31 := by
    intro i
    have h1 := hq (laneOf i)
    have h2 := (laneOf i).isLt
    simp only [g]
    split <;> omega
  let W : FVec Ideal S128x1 .f32 → IVec S128x4096 32 := fun R i =>
    if (X i : EReal) = R (ix2 (i 0) 0) then C i * 4096#32 + BitVec.ofNat 32 (i 1).val else 2147483647#32
  have e : k0_pay10 (F := Ideal) X C (ix2 r 0) = reduceFold reduces_S128x4096_S128 IntOp.minsi 2147483647#32 (W (k0_pay9 (F := Ideal) X)) (ix1 r) := by
    unfold k0_pay10
    refine (Idealize.ShloMosaic.shapeCast_apply _ shapeCasts_S128_S128x1 _ (ix1 r) ?_).trans ?_
    · rw [Shape.rowMajor_val_two, Shape.rowMajor_val_one]
      show r.val = r.val * 1 + 0
      omega
    · refine Eq.trans (congrFun (multiReductionI_eq_reduceFold .minsi _ 2147483647#32 reduces_S128x4096_S128 rfl) (ix1 r)) ?_
      refine congrArg (fun w => reduceFold reduces_S128x4096_S128 IntOp.minsi 2147483647#32 w (ix1 r)) ?_
      funext i
      show _ = W (k0_pay9 (F := Ideal) X) i
      generalize k0_pay9 (F := Ideal) X = R
      idx_vars i
      pointwise []
      simp only [W]
      by_cases h : (X (ix2 i0 i1) : EReal) = R (ix2 i0 0)
      · rw [if_pos h]
        exact (if_pos h).symm
      · rw [if_neg h]
        exact (if_neg h).symm
  have hW : ∀ i : S128x4096.Idx, (i 0).val = r.val → W (k0_pay9 (F := Ideal) X) i = BitVec.ofNat 32 (g i) := by
    intro i hi
    obtain ⟨l, rfl⟩ := in_row i r hi
    show (if (X (ix2 r l) : EReal) = k0_pay9 (F := Ideal) X (ix2 r 0) then C (ix2 r l) * 4096#32 + BitVec.ofNat 32 l.val else 2147483647#32)
      = BitVec.ofNat 32 (if (X (ix2 r l) : EReal) = k0_pay9 (F := Ideal) X (ix2 r 0) then 4096 * q l + l.val else 2147483647)
    rw [hC l]
    by_cases h : (X (ix2 r l) : EReal) = k0_pay9 (F := Ideal) X (ix2 r 0)
    · rw [if_pos h, if_pos h, Nat.mul_comm, BitVec.ofNat_add, BitVec.ofNat_mul]
    · rw [if_neg h, if_neg h]
  rw [reduceFold_eq_foldl] at e
  generalize hL : (((List.finRange S128x4096.numel).map S128x4096.rowMajor.symm).filter fun i =>
    reduces_S128x4096_S128.drop i = ix1 r) = A at e
  have hmem : ∀ i, i ∈ A ↔ (i 0).val = r.val := by
    intro i
    rw [← hL, List.mem_filter, decide_eq_true_iff, drop_lane]
    refine ⟨fun h => h.2, fun h => ⟨List.mem_map.mpr ⟨S128x4096.rowMajor i, List.mem_finRange _, by simp⟩, h⟩⟩
  obtain ⟨k, hk, ek, h1, h2⟩ := foldl_min A g hg
  have e2 : A.foldl (fun s i => IntOp.minsi s (W (k0_pay9 (F := Ideal) X) i)) 2147483647#32 = A.foldl (fun s i => IntOp.minsi s (BitVec.ofNat 32 (g i))) 2147483647#32 :=
    List.foldl_ext _ _ _ fun s i hi => by rw [hW i ((hmem i).mp hi)]
  have hle : ∀ l, (X (ix2 r l) : EReal) = k0_pay9 (F := Ideal) X (ix2 r 0) → k ≤ 4096 * q l + l.val := by
    intro l hl
    have := h1 (ix2 r l) ((hmem _).mpr rfl)
    rwa [show g (ix2 r l) = 4096 * q l + l.val from if_pos hl] at this
  refine ⟨k, e.trans (e2.trans ek), hle, ?_⟩
  obtain ⟨l, hl⟩ := (row_greatest X r).2
  have hkl := hle l hl
  have hql := hq l
  have hll := l.isLt
  rcases h2 with h2 | ⟨i, hi, h2⟩
  · omega
  · by_cases h : (X (ix2 r (laneOf i)) : EReal) = k0_pay9 (F := Ideal) X (ix2 r 0)
    · exact ⟨laneOf i, h, h2.trans (if_pos h)⟩
    · have : g i = 2147483647 := if_neg h
      omega

end Cert.KernelIdeal.Hand

end
-- ==== Proof.KernelValue.lean ====
/-
  What the kernel leaves in its result: the launch, with the contents that the grid points leave.
-/
module

public import proofs.«01_k».proof.Proof.KernelRun

@[expose] public section

set_option maxRecDepth 65536

noncomputable section

namespace Cert.KernelIdeal.Hand

open Cert.KernelIdeal Cert.KernelIdeal.Gen Cert.Cipher
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The last point's state is a state the region may end in. -/
theorem inv_last (c : Dev nD) : (inv m c 25 : sProp 𝕄) ⊢ Pipeline.ΦA spec0 c := by
  rw [inv, if_neg (by decide)]
  unfold Pipeline.ΦA
  rw [scopedRest0_eq]
  rw [← some_whole, ← some_whole, ← some_whole]
  iintro ⟨⟨H5, H6, H7⟩, Hr⟩
  isplitl [H5 H6 H7]
  · isplitl [H5]; · iapply (some_of_owns c _ _); iexact H5
    isplitl [H6]; · iapply (some_of_owns c _ _); iexact H6
    iapply (some_of_owns c _ _); iexact H7
  · iexact Hr

/-- The one write-back of the sampled indices: the array ends at them. -/
theorem sampled_array (c : Dev nD) : (datsV m 0 c).arrAt (3 : Fin 4) cfg0.N = sampled m c := by
  have hf : (cfg0.win (3 : Fin 4)).flush (⟨24, by decide⟩ : Fin cfg0.N) = true := (flush0_3 _).mpr (by decide)
  have h := (datsV m 0 c).read_blk_arrAt_eq_flushed (3 : Fin 4) (by
    intro t t' ht ht' hne
    have h1 := (flush0_3 t).mp ht
    have h2 := (flush0_3 t').mp ht'
    have l1 : t.val < 25 := t.isLt
    have l2 : t'.val < 25 := t'.isLt
    exact absurd (Fin.ext (by omega)) hne) cfg0.N ⟨24, by decide⟩ (by decide) hf
  funext y
  have hy := congrFun h y
  have hz : (datsV m 0 c).flushed (3 : Fin 4) ⟨24, by decide⟩ y = sampled m c y := by
    unfold Dat.flushed
    rw [after_3]
    refine congrArg (sampled m c) ?_
    funext a
    fin_cases a <;> exact Fin.ext rfl
  refine Eq.trans ?_ (hy.trans hz)
  refine congrArg ((datsV m 0 c).arrAt (3 : Fin 4) cfg0.N) ?_
  funext a
  fin_cases a
  · refine Fin.ext ?_
    show (y 0).val = 0 * 128 + 1 * (y 0).val
    omega
  · refine Fin.ext ?_
    show (y 1).val = 0 * 1 + 1 * (y 1).val
    omega

/-- The result is the sampled indices, as a vector. -/
theorem result_eq (c : Dev nD) (j : S128.Idx) :
    Pipeline.afterTail₀ cfgs (datsV m) 0 (V0 m) [hostOps1] c main_v2 j = sampled m c (ix2 (j 0) 0) := by
  unfold Pipeline.afterTail₀
  simp only [List.flatten_cons, List.flatten_nil, List.append_nil, hostOps1]
  rw [StableHlo.after_cons, StableHlo.after_nil, StableHlo.reshape_result']
  have h := Pipeline.withArrays_arr (τ := τ) spec0 launch0.win.arr_inj c (V0 m c) (fun w => (datsV m 0 c).arrAt w cfg0.N) (3 : Fin 4)
  rw [sampled_array m c] at h
  refine Eq.trans (congrFun (congrArg (fun A => shapeCast main_v2.ty.shape A shapeCasts_S128x1_S128) h) j) ?_
  refine Idealize.ShloMosaic.shapeCast_apply (sampled m c) shapeCasts_S128x1_S128 j (ix2 (j 0) 0) ?_
  rw [Shape.rowMajor_val_two, Shape.rowMajor_val_one]
  show (j 0).val * 1 + 0 = (j 0).val
  omega

set_option backward.isDefEq.respectTransparency.types false in
/-- The run: the result is the sampled indices, the arguments end unchanged, every counter at zero. -/
theorem value : θ_run defs (onTc (τ := τ) (main (F := Ideal))) ⟨m, fun _ => 0, ρ⟩ (fun r => (∀ c : Dev nD,
      (∀ j : S128.Idx, r.2.mem ((c.tc : Thread nD τ).loc main_v2) j = sampled m c (ix2 (j 0) 0))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_around_track cfgs (datsV m) (0 : Fin 1) launch0 defs₀ Variants.none m ρ main
    (hbody := body_value m) (hshare := fun c => (datsV m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl)
    (hin := fun c => by
      rw [show (datsV m 0 c).Φ 0 = inv m c 0 from rfl, inv, if_pos rfl])
    (hout := fun c => inv_last m c)
    (Q' := _)
    (hQ' := fun r h => ⟨fun c => ⟨fun j => (congrFun ((h.1 c).2 main_v2 (Pipeline.mem_restRefs_of main_v2 (by decide) (by decide))) j).trans (result_eq m c j),
      ((h.1 c).1 0).trans (((datsV m 0 c).arrAt_in 0 rfl _).trans (V_main_arg0 m c)),
      ((h.1 c).2 main_arg1 (Pipeline.mem_restRefs_of main_arg1 (by decide) (by decide))).trans (W_main_arg1 m (datsV m) c)⟩, h.2⟩)

end Cert.KernelIdeal.Hand

end
-- ==== Proof.KernelClosed.lean ====
/-
  The kernel's index of a row, read exactly: the first place where the row's score is greatest, the score being the scaled
  logit less the logarithm of the noise.
-/
module

public import proofs.«01_k».proof.Proof.KernelPick
public import proofs.«01_k».proof.Proof.KernelValue
public import proofs.«01_k».proof.Proof.Race

@[expose] public section

set_option maxRecDepth 65536

noncomputable section

namespace Cert.KernelIdeal.Hand

open Cert.KernelIdeal Cert.KernelIdeal.Gen Cert.Cipher Cert.Noise
open Idealize.ShloMosaic Idealize.ShloMosaic.TcCoe Idealize.ShloMosaic.Tactic Idealize.ShloMosaic.Pointwise

/-- The word of two. -/
theorem two_value : Ideal.ofBits .f32 1073741824#32 = ((2 : ℝ) : EReal) := by
  rw [normal_value 1073741824#32 (x := 128) (f := 0) (by decide) (by decide) (by decide) (by norm_num) (by norm_num)]
  refine congrArg ((↑) : ℝ → EReal) ?_
  norm_num

/-- The float made of a word's upper bits is one and the draw's part. -/
theorem frac_draw (b : Word) : frac b = ((1 + (draw b : ℝ) / 2 ^ 23 : ℝ) : EReal) := by
  rw [← frac_value]
  exact congrArg (fun w => Ideal.ofBits .f32 (w ||| 1065353216#32)) (if_pos (show (9#32 : BitVec 32).toNat < 32 by decide))

/-- The logarithm of a positive real. -/
theorem log_pos_real {x : ℝ} (h : 0 < x) : Ideal.log (x : EReal) = ((Real.log x : ℝ) : EReal) := by
  show (if x ≤ 0 then ⊥ else ((Real.log x : ℝ) : EReal)) = _
  rw [if_neg (not_le.mpr h)]

/-- The noise of a word. -/
theorem noise_draw (b : Word) : noise2 b = ((noiseT (draw b) : ℝ) : EReal) := by
  unfold noise2
  rw [two_value, frac_draw, tiny_value, ← EReal.coe_sub, show (2 : ℝ) - (1 + (draw b : ℝ) / 2 ^ 23) = 1 - (draw b : ℝ) / 2 ^ 23 by ring,
    log_pos_real (below_one (draw_lt b)), log2e, ← EReal.coe_mul, zero_sub, ← EReal.coe_neg]
  rw [show ((noiseT (draw b) : ℝ) : EReal) = max ((raw (draw b) / Real.log 2 : ℝ) : EReal) ((tiny : ℝ) : EReal) from EReal.coe_strictMono.monotone.map_max]
  rw [show -(Real.log (1 - (draw b : ℝ) / 2 ^ 23) * (Real.log 2)⁻¹) = raw (draw b) / Real.log 2 by rw [raw, neg_div, div_eq_mul_inv _ (Real.log 2)]]

/-- The score of a cell is its scaled logit less the logarithm of its noise. -/
theorem score_draw (x : EReal) {t : EReal} (ht : t ≠ 0) (b : Word) : score (Ideal.div log2e t) x b = wide (Ideal.div x t) (draw b) := by
  rw [score, noise_draw, log_pos_real (noiseT_pos _), wide, Ideal.div, Ideal.div, if_neg ht, if_neg ht, mul_comm log2e,
    ← mul_assoc]
  rfl

variable (m : (ℓ : Loc nD τ sig) → Buf (Elt Ideal) ℓ)

/-- The temperatures, as launched. -/
def temps (c : Dev nD) : S128.Idx → EReal := m ((c.tc : Thread nD τ).loc main_arg1)

/-- The temperatures as a column. -/
theorem column_value (c : Dev nD) (r : Fin 128) : V m c main_v0 (ix2 r 0) = temps m c (ix1 r) := by
  show StableHlo.after (List.flatten [hostOps0]) (fun b => m (c, b)) (Proc.devRef .tc main_v0) (ix2 r 0) = _
  simp only [List.flatten_cons, List.flatten_nil, List.append_nil, hostOps0]
  rw [StableHlo.after_cons, StableHlo.after_nil, StableHlo.reshape_result']
  refine Idealize.ShloMosaic.shapeCast_apply (temps m c) shapeCasts_S128_S128x1 (ix2 r 0) (ix1 r) ?_
  rw [Shape.rowMajor_val_two, Shape.rowMajor_val_one]
  show r.val = r.val * 1 + 0
  omega

/-- The scaled inverse temperature of a row. -/
theorem scale_value (c : Dev nD) (r : Fin 128) : scale m c (ix2 r 0) = Ideal.div log2e (temps m c (ix1 r)) := by
  rw [← column_value]
  unfold scale
  generalize V m c main_v0 = T
  pointwise [k0_pay3]
  rfl

/-- The kernel's scores of a row. -/
def rowWide (c : Dev nD) (r : Fin 128) (k : Fin 100000) : EReal :=
  wide (Ideal.div (logits m c (ix2 r k)) (temps m c (ix1 r))) (draw (bits (cellWord r.val k.val)))

/-- A chunk's scores are the row's, minus infinity past its end. -/
theorem chunk_row (c : Dev nD) (ht : ∀ r, temps m c (ix1 r) ≠ 0) (r : Fin 128) (p : ℕ) (l : Fin 4096) :
    chunkScore p (chunkOf (logits m c) p) (scale m c) (ix2 r l)
      = if h : 4096 * p + l.val < 100000 then rowWide m c r ⟨4096 * p + l.val, h⟩ else ⊥ := by
  show (if 4096 * p + l.val < 100000 then score (scale m c (ix2 r 0))
    (if h : 4096 * p + l.val < 100000 then logits m c (ix2 r ⟨4096 * p + l.val, h⟩) else 0)
    (bits (cellWord r.val (4096 * p + l.val))) else ⊥) = _
  by_cases h : 4096 * p + l.val < 100000
  · rw [if_pos h, dif_pos h, dif_pos h, scale_value, score_draw _ (ht r)]
    rfl
  · rw [if_neg h, dif_neg h]

/-- The kernel's index of a row is the first place where its score is greatest. -/
theorem sampled_first (c : Dev nD) (ht : ∀ r, temps m c (ix1 r) ≠ 0) (r : Fin 128) :
    ∃ i : Fin 100000, First (rowWide m c r) i ∧ sampled m c (ix2 r 0) = BitVec.ofNat 32 i.val := by
  have hl := fun l : Fin 4096 => lanes (logits m c) (scale m c) (ix2 r l) 24
  choose q hq hC hV hall using hl
  obtain ⟨k, hk, hle, hex⟩ := row_pick (accV (logits m c) (scale m c) (24 + 1)) (accC (logits m c) (scale m c) (24 + 1)) r q hq hC
  obtain ⟨i, hi, e⟩ := pick_first (rowWide m c r) (fun p l => chunkScore p (chunkOf (logits m c) p) (scale m c) (ix2 r l))
    (fun p l => chunk_row m c ht r p l) (fun l => accV (logits m c) (scale m c) (24 + 1) (ix2 r l)) q hq hV hall _
    (row_greatest (accV (logits m c) (scale m c) (24 + 1)) r).1 k hle hex
  exact ⟨i, hi, by rw [← e]; exact hk⟩

end Cert.KernelIdeal.Hand

end
-- ==== Proof.ReferenceRead.lean ====
/-
  Reading the reference's line: every operation writes a buffer of its own, after the buffers it reads, so the contents
  every run ends with satisfy each operation's equation.
-/
module

public import proofs.«01_k».proof.Proof.ReferenceFrame

@[expose] public section

set_option maxRecDepth 65536

noncomputable section

namespace Cert.ReferenceIdeal.Hand

open Cert.ReferenceIdeal
open Idealize.ShloMosaic Idealize.ShloMosaic.TcCoe Idealize.SL.Sem
open Idealize.ShloMosaic.StableHlo (seq after launchContents TRef)

variable [Facts]
variable (m : (ℓ : Loc nD τ sig) → Buf (Elt Ideal) ℓ) (d : Dev nD)

/-- What a buffer holds at the end. -/
def val {T : BufTy} (x : TRef sig T) : T.Contents (Elt Ideal) := x.ofBuf (final (F := Ideal) m d (Proc.devRef .tc x.ref))

/-- The buffers are written in the order of their numbers, the first being 2. -/
theorem written_numbers : written.map (fun r => r.idx.val) = List.range' 2 304 := by decide +kernel

/-- The buffers written after some operations have greater numbers. -/
theorem number_of_mem {k : ℕ} {r : Ref sig .tc} (h : r ∈ written.drop k) : k + 2 ≤ r.idx.val := by
  have h1 : r.idx.val ∈ (written.drop k).map (fun r => r.idx.val) := List.mem_map_of_mem h
  rw [List.map_drop, written_numbers, List.drop_range', List.mem_range'_1] at h1
  omega

/-- The part of the line from a place on leaves the lower buffers. -/
theorem rest_keep {k : ℕ} {r : Ref sig .tc} (hr : r.idx.val < k + 2) (V : Valuation τ sig (Elt Ideal)) :
    after ((ops (F := Ideal)).drop k) V (Proc.devRef .tc r) = V (Proc.devRef .tc r) := by
  refine StableHlo.after_of_forall_not_mem _ _ fun op hop hm => ?_
  have h : op.writes ∈ ((ops (F := Ideal)).drop k).map HloOp.writes := List.mem_map_of_mem hop
  rw [List.map_drop, writes_eq, ← List.map_drop] at h
  obtain ⟨r', hr', he⟩ := List.mem_map.mp h
  rw [← he, Finset.mem_singleton] at hm
  have := number_of_mem (Proc.devRef_injective _ hm ▸ hr')
  omega

/-- The contents before a place. -/
def before (k : ℕ) : Valuation τ sig (Elt Ideal) := after ((ops (F := Ideal)).take k) (launchContents m d)

/-- A line in two stretches. -/
theorem after_two (l₁ l₂ : List (HloOp τ sig (Elt Ideal))) : ∀ V, after (l₁ ++ l₂) V = after l₂ (after l₁ V) := by
  induction l₁ with
  | nil => intro V; rfl
  | cons op l ih => intro V; exact ih _

/-- The final contents are those the rest of the line leaves. -/
theorem final_eq (k : ℕ) : final (F := Ideal) m d = after ((ops (F := Ideal)).drop k) (before m d k) := by
  rw [before, ← after_two, List.take_append_drop]; rfl

/-- A buffer written before has its final contents already. -/
theorem final_lower {k : ℕ} {r : Ref sig .tc} (hr : r.idx.val < k + 2) :
    final (F := Ideal) m d (Proc.devRef .tc r) = before m d k (Proc.devRef .tc r) := by
  rw [final_eq m d k]; exact rest_keep hr _

variable {k : ℕ} {op : HloOp τ sig (Elt Ideal)} {rest : List (HloOp τ sig (Elt Ideal))}

/-- The buffer that an operation at a place writes has the place's number. -/
theorem number_of_op (h : (ops (F := Ideal)).drop k = op :: rest) {y : Ref sig .tc} (hy : op.writes = {Proc.devRef .tc y}) : y.idx.val = k + 2 := by
  have h1 := congrArg (List.map HloOp.writes) h
  rw [List.map_drop, writes_eq, ← List.map_drop, List.map_cons, hy] at h1
  rcases hw : written.drop k with _ | ⟨r, W⟩
  · rw [hw] at h1; cases h1
  · rw [hw, List.map_cons, List.cons.injEq, Finset.singleton_inj] at h1
    have hr : r = y := Proc.devRef_injective _ h1.1
    have h2 := congrArg (List.map fun r : Ref sig .tc => r.idx.val) hw
    rw [List.map_drop, written_numbers, List.drop_range', List.map_cons] at h2
    rcases hn : 304 - k with _ | n
    · rw [hn] at h2; cases h2
    · rw [hn, List.range'_succ, List.cons.injEq] at h2
      rw [← hr, ← h2.1]; omega

/-- An operation's buffer ends with the operation's result. -/
theorem final_op (h : (ops (F := Ideal)).drop k = op :: rest) {y : Ref sig .tc} (hy : op.writes = {Proc.devRef .tc y}) :
    final (F := Ideal) m d (Proc.devRef .tc y) = op.result (before m d k) (Proc.devRef .tc y) := by
  have hn := number_of_op h hy
  have hr : rest = (ops (F := Ideal)).drop (k + 1) := by rw [← List.drop_drop, h]; rfl
  rw [final_eq m d k, h, StableHlo.after_cons, hr]
  exact rest_keep (by omega) _

/-- The rest of the line after one more operation. -/
theorem drop_next (h : (ops (F := Ideal)).drop k = op :: rest) : (ops (F := Ideal)).drop (k + 1) = rest := by
  rw [← List.drop_drop, h]; rfl

variable {Ta Tb Ty : BufTy}

/-- A constant. -/
theorem val_nullary {y : TRef sig Ty} {v : Ty.Contents (Elt Ideal)} (h : (ops (F := Ideal)).drop k = TRef.nullary y v :: rest) :
    val m d y = v ∧ y.ref.idx.val = k + 2 := by
  refine ⟨?_, number_of_op h rfl⟩
  rw [val, final_op m d h rfl, StableHlo.nullary_result']
  simp [TRef.ofBuf, TRef.toBuf]

/-- An operation of one operand. -/
theorem val_unary {x : TRef sig Ta} {y : TRef sig Ty} {f : Ta.Contents (Elt Ideal) → Ty.Contents (Elt Ideal)}
    (h : (ops (F := Ideal)).drop k = TRef.unary x y f :: rest) (hx : x.ref.idx.val < k + 2) :
    val m d y = f (val m d x) ∧ y.ref.idx.val = k + 2 := by
  refine ⟨?_, number_of_op h rfl⟩
  rw [val, final_op m d h rfl, StableHlo.unary_result', val, final_lower m d hx]
  simp [TRef.ofBuf, TRef.toBuf]

/-- An operation of two operands. -/
theorem val_binary {a : TRef sig Ta} {b : TRef sig Tb} {y : TRef sig Ty} {f : Ta.Contents (Elt Ideal) → Tb.Contents (Elt Ideal) → Ty.Contents (Elt Ideal)}
    (h : (ops (F := Ideal)).drop k = TRef.binary a b y f :: rest) (ha : a.ref.idx.val < k + 2) (hb : b.ref.idx.val < k + 2) :
    val m d y = f (val m d a) (val m d b) ∧ y.ref.idx.val = k + 2 := by
  refine ⟨?_, number_of_op h rfl⟩
  rw [val, final_op m d h rfl, StableHlo.binary_result', val, val, final_lower m d ha, final_lower m d hb]
  simp [TRef.ofBuf, TRef.toBuf]

end Cert.ReferenceIdeal.Hand

end
-- ==== Proof.ReferenceCipher.lean ====
/-
  The reference's cipher: each of its rounds and key injections is the cipher's, so its two results are the last state.
-/
module

public import proofs.«01_k».proof.Proof.ReferenceRead
public import proofs.«01_k».proof.Proof.Cipher

@[expose] public section

set_option maxRecDepth 65536

noncomputable section

namespace Cert.ReferenceIdeal.Hand

open Cert.ReferenceIdeal Cert.Cipher
open Idealize.ShloMosaic Idealize.ShloMosaic.TcCoe Idealize.SL.Sem
open Idealize.ShloMosaic.StableHlo (seq after launchContents TRef)

variable [Facts]
open Facts₀ Facts
variable (m : (ℓ : Loc nD τ sig) → Buf (Elt Ideal) ℓ) (d : Dev nD)

/-- A word for every cell, and a word for all. -/
abbrev Words : Type := TRef sig ⟨S128x100000, .i32⟩
/-- A buffer of one word. -/
abbrev OneWord : Type := TRef sig ⟨S_, .i32⟩

/-- A rotation by two shifts and a disjunction. -/
theorem turn_host (r t x : Word) (hr : r.toNat < 32) (ht : t.toNat < 32) :
    IntOp.ori (IntOp.shli .host x r) (IntOp.shrui .host x t) = turn r t x := by
  unfold turn
  rw [show Scalar.shli x r = IntOp.shli .host x r from (if_pos hr).trans (if_pos hr).symm,
    show Scalar.shrui x t = IntOp.shrui .host x t from (if_pos ht).trans (if_pos ht).symm]
  rfl

variable {k : ℕ} {rest : List (HloOp τ sig (Elt Ideal))}

/-- Nine operations that are a round. -/
theorem round_at {x0 x1 s b l b' h o z : Words} {c c' : OneWord} {r t : Word}
    (hd : (ops (F := Ideal)).drop k = TRef.binary x0 x1 s addi :: TRef.nullary c (constantI S_ 32 r)
      :: TRef.unary c b (broadcastInDim S128x100000 ![] bcast_S_S128x100000) :: TRef.binary x1 b l Host.shli
      :: TRef.nullary c' (constantI S_ 32 t) :: TRef.unary c' b' (broadcastInDim S128x100000 ![] bcast_S_S128x100000)
      :: TRef.binary x1 b' h Host.shrui :: TRef.binary l h o ori :: TRef.binary s o z xori :: rest)
    (hr : r.toNat < 32) (ht : t.toNat < 32) (h0 : x0.ref.idx.val < k + 2) (h1 : x1.ref.idx.val < k + 2) (j : S128x100000.Idx)
    (p : Word × Word) (hp : (val m d x0 j, val m d x1 j) = p) : (val m d s j, val m d z j) = round r t p := by
  subst hp
  have d1 := drop_next hd
  have d2 := drop_next d1
  have d3 := drop_next d2
  have d4 := drop_next d3
  have d5 := drop_next d4
  have d6 := drop_next d5
  have d7 := drop_next d6
  have d8 := drop_next d7
  have e0 := val_binary m d hd h0 h1
  have e1 := val_nullary m d d1
  have e2 := val_unary m d d2 (by omega)
  have e3 := val_binary m d d3 (by omega) (by omega)
  have e4 := val_nullary m d d4
  have e5 := val_unary m d d5 (by omega)
  have e6 := val_binary m d d6 (by omega) (by omega)
  have e7 := val_binary m d d7 (by omega) (by omega)
  have e8 := val_binary m d d8 (by omega) (by omega)
  rw [e8.1, e7.1, e6.1, e5.1, e4.1, e3.1, e2.1, e1.1, e0.1]
  refine Prod.ext rfl ?_
  show IntOp.xori (IntOp.addi (val m d x0 j) (val m d x1 j)) (IntOp.ori (IntOp.shli .host (val m d x1 j) r) (IntOp.shrui .host (val m d x1 j) t)) = _
  rw [turn_host r t _ hr ht]
  exact BitVec.xor_comm _ _

/-- Seven operations that are a key injection. -/
theorem inject_at {x0 x1 b1 y0 b2 u b3 y1 : Words} {a a' c : OneWord} {q : Word}
    (hd : (ops (F := Ideal)).drop k = TRef.unary a b1 (broadcastInDim S128x100000 ![] bcast_S_S128x100000) :: TRef.binary x0 b1 y0 addi
      :: TRef.unary a' b2 (broadcastInDim S128x100000 ![] bcast_S_S128x100000) :: TRef.binary x1 b2 u addi
      :: TRef.nullary c (constantI S_ 32 q) :: TRef.unary c b3 (broadcastInDim S128x100000 ![] bcast_S_S128x100000)
      :: TRef.binary u b3 y1 addi :: rest)
    (h0 : x0.ref.idx.val < k + 2) (h1 : x1.ref.idx.val < k + 2) (ha : a.ref.idx.val < k + 2) (ha' : a'.ref.idx.val < k + 2)
    (n n' : Word) (hn : val m d a = fun _ => n) (hn' : val m d a' = fun _ => n') (j : S128x100000.Idx)
    (p : Word × Word) (hp : (val m d x0 j, val m d x1 j) = p) : (val m d y0 j, val m d y1 j) = inject n n' q p := by
  subst hp
  have d1 := drop_next hd
  have d2 := drop_next d1
  have d3 := drop_next d2
  have d4 := drop_next d3
  have d5 := drop_next d4
  have d6 := drop_next d5
  have e0 := val_unary m d hd ha
  have e1 := val_binary m d d1 (by omega) (by omega)
  have e2 := val_unary m d d2 (by omega)
  have e3 := val_binary m d d3 (by omega) (by omega)
  have e4 := val_nullary m d d4
  have e5 := val_unary m d d5 (by omega)
  have e6 := val_binary m d d6 (by omega) (by omega)
  rw [e6.1, e5.1, e4.1, e3.1, e2.1, e1.1, e0.1, hn, hn']
  rfl

/-- The pair before the first round gives the last state, when the first word is zero and the keys are 0 and 42. -/
theorem last_state (w : Word) (j : S128x100000.Idx)
    (hp : (val m d main_call0_call0_call0.v3 j, val m d main_call0_call0_call0.v5 j) = (0#32, w))
    (k0 : val m d main_call0_call0.v5 = fun _ => 0#32) (k1 : val m d main_call0_call0.v7 = fun _ => 42#32)
    (k2 : val m d main_call0_call0_call0.v1 = fun _ => 466689008#32) :
    (val m d main_call0_call0_call0.v171 j, val m d main_call0_call0_call0.v175 j) = s25 w := by
  have h1 := round_at m d (k := 58) rfl (by decide) (by decide) (by decide) (by decide) j _ hp
  rw [show round 13#32 19#32 (0#32, w) = s1 w from by rw [Cert.Cipher.round, s1, show Scalar.addi 0#32 w = w from BitVec.zero_add w]] at h1
  have h2 := round_at m d (k := 67) rfl (by decide) (by decide) (by decide) (by decide) j _ h1
  have h3 := round_at m d (k := 76) rfl (by decide) (by decide) (by decide) (by decide) j _ h2
  have h4 := round_at m d (k := 85) rfl (by decide) (by decide) (by decide) (by decide) j _ h3
  have h5 := inject_at m d (k := 94) rfl (by decide) (by decide) (by decide) (by decide) _ _ k1 k2 j _ h4
  have h6 := round_at m d (k := 101) rfl (by decide) (by decide) (by decide) (by decide) j _ h5
  have h7 := round_at m d (k := 110) rfl (by decide) (by decide) (by decide) (by decide) j _ h6
  have h8 := round_at m d (k := 119) rfl (by decide) (by decide) (by decide) (by decide) j _ h7
  have h9 := round_at m d (k := 128) rfl (by decide) (by decide) (by decide) (by decide) j _ h8
  have h10 := inject_at m d (k := 137) rfl (by decide) (by decide) (by decide) (by decide) _ _ k2 k0 j _ h9
  have h11 := round_at m d (k := 144) rfl (by decide) (by decide) (by decide) (by decide) j _ h10
  have h12 := round_at m d (k := 153) rfl (by decide) (by decide) (by decide) (by decide) j _ h11
  have h13 := round_at m d (k := 162) rfl (by decide) (by decide) (by decide) (by decide) j _ h12
  have h14 := round_at m d (k := 171) rfl (by decide) (by decide) (by decide) (by decide) j _ h13
  have h15 := inject_at m d (k := 180) rfl (by decide) (by decide) (by decide) (by decide) _ _ k0 k1 j _ h14
  have h16 := round_at m d (k := 187) rfl (by decide) (by decide) (by decide) (by decide) j _ h15
  have h17 := round_at m d (k := 196) rfl (by decide) (by decide) (by decide) (by decide) j _ h16
  have h18 := round_at m d (k := 205) rfl (by decide) (by decide) (by decide) (by decide) j _ h17
  have h19 := round_at m d (k := 214) rfl (by decide) (by decide) (by decide) (by decide) j _ h18
  have h20 := inject_at m d (k := 223) rfl (by decide) (by decide) (by decide) (by decide) _ _ k1 k2 j _ h19
  have h21 := round_at m d (k := 230) rfl (by decide) (by decide) (by decide) (by decide) j _ h20
  have h22 := round_at m d (k := 239) rfl (by decide) (by decide) (by decide) (by decide) j _ h21
  have h23 := round_at m d (k := 248) rfl (by decide) (by decide) (by decide) (by decide) j _ h22
  have h24 := round_at m d (k := 257) rfl (by decide) (by decide) (by decide) (by decide) j _ h23
  have h25 := inject_at m d (k := 266) rfl (by decide) (by decide) (by decide) (by decide) _ _ k2 k0 j _ h24
  exact h25

end Cert.ReferenceIdeal.Hand

end
-- ==== Proof.ReferenceWords.lean ====
/-
  The reference's random words: the keys are 0 and 42, the counters the cells in row-major order, and the word drawn in a
  cell the cipher's.
-/
module

public import proofs.«01_k».proof.Proof.ReferenceCipher
public import proofs.«01_k».proof.Proof.KernelScore
public import Mathlib.Data.BitVec

@[expose] public section

set_option maxRecDepth 65536

noncomputable section

namespace Cert.ReferenceIdeal.Hand

open Cert.ReferenceIdeal Cert.Cipher
open Idealize.ShloMosaic Idealize.ShloMosaic.TcCoe Idealize.SL.Sem Idealize.ShloMosaic.Tactic Idealize.ShloMosaic.Pointwise
open Idealize.ShloMosaic.StableHlo (seq after launchContents TRef)

variable [Facts]
open Facts₀ Facts
variable (m : (ℓ : Loc nD τ sig) → Buf (Elt Ideal) ℓ) (d : Dev nD)

/-- The seed's upper word is zero. -/
theorem seed_high : val m d (.of main_v16 : TRef sig ⟨S1, .i32⟩) = fun _ => 0#32 := by
  have e0 := val_nullary m d (k := 17) (y := (.of main_c : TRef sig ⟨S_, .i32⟩)) rfl
  have e1 := val_nullary m d (k := 18) (y := (.of main_c_2 : TRef sig ⟨S_, .i32⟩)) rfl
  have e2 := val_binary m d (k := 19) (a := (.of main_c : TRef sig ⟨S_, .i32⟩)) (b := (.of main_c_2 : TRef sig ⟨S_, .i32⟩))
    (y := (.of main_v14 : TRef sig ⟨S_, .i32⟩)) (f := Host.shrui) rfl (by decide) (by decide)
  have e3 := val_unary m d (k := 20) (x := (.of main_v14 : TRef sig ⟨S_, .i32⟩)) (y := (.of main_v15 : TRef sig ⟨S_, .i32⟩)) (f := id) rfl (by decide)
  have e4 := val_unary m d (k := 21) (x := (.of main_v15 : TRef sig ⟨S_, .i32⟩)) (y := (.of main_v16 : TRef sig ⟨S1, .i32⟩))
    (f := broadcastInDim S1 ![] bcast_S_S1) rfl (by decide)
  rw [e4.1, e3.1, e2.1, e1.1, e0.1]
  rfl

/-- The seed's lower word is 42. -/
theorem seed_low : val m d (.of main_v19 : TRef sig ⟨S1, .i32⟩) = fun _ => 42#32 := by
  have e0 := val_nullary m d (k := 17) (y := (.of main_c : TRef sig ⟨S_, .i32⟩)) rfl
  have e1 := val_nullary m d (k := 22) (y := (.of main_c_3 : TRef sig ⟨S_, .i32⟩)) rfl
  have e2 := val_binary m d (k := 23) (a := (.of main_c : TRef sig ⟨S_, .i32⟩)) (b := (.of main_c_3 : TRef sig ⟨S_, .i32⟩))
    (y := (.of main_v17 : TRef sig ⟨S_, .i32⟩)) (f := andi) rfl (by decide) (by decide)
  have e3 := val_unary m d (k := 24) (x := (.of main_v17 : TRef sig ⟨S_, .i32⟩)) (y := (.of main_v18 : TRef sig ⟨S_, .i32⟩)) (f := id) rfl (by decide)
  have e4 := val_unary m d (k := 25) (x := (.of main_v18 : TRef sig ⟨S_, .i32⟩)) (y := (.of main_v19 : TRef sig ⟨S1, .i32⟩))
    (f := broadcastInDim S1 ![] bcast_S_S1) rfl (by decide)
  rw [e4.1, e3.1, e2.1, e1.1, e0.1]
  funext i
  show IntOp.andi 42#32 4294967295#32 = 42#32
  decide

/-- The two words of the seed. -/
theorem seed_pair : val m d (.of main_v20 : TRef sig ⟨S2, .i32⟩)
    = concatenate S2 0 [⟨S1, fun _ => 0#32⟩, ⟨S1, fun _ => 42#32⟩] concatenates_S1_S1_S2_d0 := by
  have e := val_binary m d (k := 26) (a := (.of main_v16 : TRef sig ⟨S1, .i32⟩)) (b := (.of main_v19 : TRef sig ⟨S1, .i32⟩))
    (y := (.of main_v20 : TRef sig ⟨S2, .i32⟩)) (f := fun a b => concatenate S2 0 [⟨S1, a⟩, ⟨S1, b⟩] concatenates_S1_S1_S2_d0) rfl (by decide) (by decide)
  rw [e.1, seed_high, seed_low]

/-- The cipher's first key. -/
theorem key0 : val m d main_call0_call0.v5 = fun _ => 0#32 := by
  have e := val_unary m d (k := 33) rfl (by decide)
  have e' : final (F := Ideal) m d (Proc.devRef .tc main_call0_call0_v5)
      = fun i => shapeCast S_ (val m d main_call0_call0.v4) shapeCasts_S1_S_ i := by
    rw [final_op m d (k := 34) rfl rfl, StableHlo.reshape_result', val, final_lower m d (k := 34) (by decide)]
    rfl
  refine e'.trans ?_
  rw [e.1, seed_pair]
  funext i
  pointwise

/-- The cipher's second key. -/
theorem key1 : val m d main_call0_call0.v7 = fun _ => 42#32 := by
  have e := val_unary m d (k := 35) rfl (by decide)
  have e' : final (F := Ideal) m d (Proc.devRef .tc main_call0_call0_v7)
      = fun i => shapeCast S_ (val m d main_call0_call0.v6) shapeCasts_S1_S_ i := by
    rw [final_op m d (k := 36) rfl rfl, StableHlo.reshape_result', val, final_lower m d (k := 36) (by decide)]
    rfl
  refine e'.trans ?_
  rw [e.1, seed_pair]
  funext i
  pointwise

/-- The cipher's third key. -/
theorem key2 : val m d main_call0_call0_call0.v1 = fun _ => 466689008#32 := by
  have e0 := val_binary m d (k := 51) rfl (by decide) (by decide)
  have e1 := val_nullary m d (k := 52) rfl
  have e2 := val_binary m d (k := 53) rfl (by decide) (by decide)
  rw [e2.1, e1.1, e0.1, key0, key1]
  funext i
  show IntOp.xori (IntOp.xori 0#32 42#32) 466688986#32 = 466689008#32
  decide

/-- The cell's number. -/
theorem counter (j : S128x100000.Idx) : val m d main_call0_call0.v14 j = BitVec.ofNat 64 (100000 * (j 0).val + (j 1).val) := by
  have e0 := val_nullary m d (k := 37) rfl
  have e1 := val_nullary m d (k := 38) rfl
  have e2 := val_nullary m d (k := 39) rfl
  have e3 := val_unary m d (k := 40) rfl (by decide)
  have e4 := val_binary m d (k := 41) rfl (by decide) (by decide)
  have e5 := val_nullary m d (k := 42) rfl
  have e6 := val_unary m d (k := 43) rfl (by decide)
  have e7 := val_binary m d (k := 44) rfl (by decide) (by decide)
  have e8 := val_binary m d (k := 45) rfl (by decide) (by decide)
  rw [e8.1, e7.1, e6.1, e5.1, e4.1, e3.1, e2.1, e1.1, e0.1]
  show 100000#64 * BitVec.ofNat 64 (j 0).val + 1#64 * BitVec.ofNat 64 (j 1).val = _
  rw [BitVec.one_mul, BitVec.ofNat_add, BitVec.ofNat_mul]

/-- A cell's counter, its lower word. -/
theorem counter_low (j : S128x100000.Idx) : val m d main_call0_call0.v17 j = BitVec.ofNat 32 (100000 * (j 0).val + (j 1).val) := by
  have e := val_unary m d (k := 49) rfl (by decide)
  rw [e.1]
  show (BitVec.setWidth 32 (val m d main_call0_call0.v14 j)) = _
  rw [counter]
  apply BitVec.eq_of_toNat_eq
  simp

/-- A cell's counter, its upper word. -/
theorem counter_high (j : S128x100000.Idx) : val m d main_call0_call0.v18 j = 0#32 := by
  have e0 := val_nullary m d (k := 46) rfl
  have e1 := val_unary m d (k := 47) rfl (by decide)
  have e2 := val_binary m d (k := 48) rfl (by decide) (by decide)
  have e := val_unary m d (k := 50) rfl (by decide)
  rw [e.1, e2.1, e1.1, e0.1]
  show BitVec.setWidth 32 (IntOp.shrui .host (val m d main_call0_call0.v14 j) 32#64) = _
  rw [counter, IntOp.shrui, if_pos (by decide)]
  have h0 : (j 0).val < 128 := (j 0).isLt
  have h1 : (j 1).val < 100000 := (j 1).isLt
  apply BitVec.eq_of_toNat_eq
  rw [BitVec.toNat_setWidth, BitVec.ushiftRight_eq', BitVec.toNat_ushiftRight, BitVec.toNat_ofNat, Nat.shiftRight_eq_div_pow]
  generalize (j 0).val = a at h0 ⊢
  generalize (j 1).val = b at h1 ⊢
  rw [Nat.mod_eq_of_lt (show 100000 * a + b < 2 ^ 64 by omega)]
  show (100000 * a + b) / 2 ^ 32 % 2 ^ 32 = 0
  rw [Nat.div_eq_of_lt (show 100000 * a + b < 2 ^ 32 by omega)]

/-- The word drawn in a cell. -/
theorem word (j : S128x100000.Idx) : val m d main_call0_call0.v20 j = bits (Cert.KernelIdeal.Hand.cellWord (j 0).val (j 1).val) := by
  have e2 := val_unary m d (k := 54) rfl (by decide)
  have e3 := val_binary m d (k := 55) rfl (by decide) (by decide)
  have e4 := val_unary m d (k := 56) rfl (by decide)
  have e5 := val_binary m d (k := 57) rfl (by decide) (by decide)
  have e := val_binary m d (k := 273) rfl (by decide) (by decide)
  have hp : (val m d main_call0_call0_call0.v3 j, val m d main_call0_call0_call0.v5 j)
      = (0#32, Cert.KernelIdeal.Hand.cellWord (j 0).val (j 1).val) := by
    rw [e5.1, e4.1, e3.1, e2.1, key0, key1]
    refine Prod.ext ?_ ?_
    · show val m d main_call0_call0.v18 j + 0#32 = 0#32
      rw [counter_high]; rfl
    · show val m d main_call0_call0.v17 j + 42#32 = _
      rw [counter_low, Cert.KernelIdeal.Hand.cellWord]
      simp only [BitVec.ofNat_add]
  have hl := last_state m d _ j hp (key0 m d) (key1 m d) (key2 m d)
  rw [e.1]
  show Scalar.xori (val m d main_call0_call0_call0.v171 j) (val m d main_call0_call0_call0.v175 j) = _
  rw [bits, ← hl]

end Cert.ReferenceIdeal.Hand

end
-- ==== Proof.ReferenceNoise.lean ====
/-
  The reference's noise: of each cell's word the uniform draw, and of the draw the clipped exponential noise.
-/
module

public import proofs.«01_k».proof.Proof.ReferenceWords
public import proofs.«01_k».proof.Proof.Row

@[expose] public section

set_option maxRecDepth 65536

noncomputable section

namespace Cert.ReferenceIdeal.Hand

open Cert.ReferenceIdeal Cert.Cipher Cert.Noise
open Idealize.ShloMosaic Idealize.ShloMosaic.TcCoe Idealize.SL.Sem Idealize.ShloMosaic.Tactic Idealize.ShloMosaic.Pointwise
open Idealize.ShloMosaic.StableHlo (seq after launchContents TRef)

variable [Facts]
open Facts₀ Facts
variable (m : (ℓ : Loc nD τ sig) → Buf (Elt Ideal) ℓ) (d : Dev nD)

/-! ## The operations at one index -/

section At

variable {s : Shape} (W X : FVec Ideal s .f32) (j : s.Idx)

/-- A difference at an index. -/
theorem sub_at : subf W X j = (show EReal from W j) - (show EReal from X j) := rfl
/-- A product at an index. -/
theorem mul_at : mulf W X j = (show EReal from W j) * (show EReal from X j) := rfl
/-- A sum at an index. -/
theorem add_at : addf W X j = (show EReal from W j) + (show EReal from X j) := rfl
/-- A maximum at an index. -/
theorem max_at : maximumf W X j = max (show EReal from W j) (show EReal from X j) := rfl
/-- A negation at an index. -/
theorem neg_at : Host.negf W j = -(show EReal from W j) := rfl
/-- A quotient at an index. -/
theorem div_at : Host.divf W X j = Ideal.div (W j) (X j) := rfl
/-- An exponential at an index. -/
theorem exp_at : Host.exp W j = Ideal.exp (W j) := rfl
/-- A logarithm of one and the argument at an index. -/
theorem log1p_at : Host.log1p W j = Ideal.log (1 + (show EReal from W j)) := rfl

end At

/-- The upper 23 bits of the word drawn in a cell. -/
def cellDraw (j : S128x100000.Idx) : ℕ := draw (bits (Cert.KernelIdeal.Hand.cellWord (j 0).val (j 1).val))

/-- The word of zero. -/
theorem zero_value : Ideal.ofBits .f32 0x00000000#32 = 0 := by simp [Ideal.ofBits, Ideal.ieee]

/-- The word of one. -/
theorem one_value : Ideal.ofBits .f32 0x3F800000#32 = ((1 : ℝ) : EReal) := by
  have h := frac_value 0#32
  rw [show (0#32 >>> 9 ||| 1065353216#32) = 0x3F800000#32 by decide] at h
  rw [h]
  simp [draw]

/-- The draws' lower end is zero. -/
theorem low_end : val m d main_call0_call0.v2 = fun _ => Ideal.ofBits .f32 0x00000000#32 := by
  have a0 := val_nullary m d (k := 27) rfl
  have a2 := val_unary m d (k := 29) rfl (by decide)
  have a4 := val_unary m d (k := 31) rfl (by decide)
  rw [a4.1, a2.1, a0.1]
  rfl

/-- The draws' upper end is one. -/
theorem high_end : val m d main_call0_call0.v3 = fun _ => Ideal.ofBits .f32 0x3F800000#32 := by
  have a1 := val_nullary m d (k := 28) rfl
  have a3 := val_unary m d (k := 30) rfl (by decide)
  have a5 := val_unary m d (k := 32) rfl (by decide)
  rw [a5.1, a3.1, a1.1]
  rfl

/-- The width of the draws' range. -/
theorem width_apply (j : S128x100000.Idx) : val m d main_call0_call0.v29 j
    = Ideal.ofBits .f32 0x3F800000#32 - Ideal.ofBits .f32 0x00000000#32 := by
  have c0 := val_binary m d (k := 284) rfl (by decide) (by decide)
  have c1 := val_unary m d (k := 285) rfl (by decide)
  rw [c1.1, c0.1, low_end, high_end]
  rfl

/-- The word drawn in a cell, shifted to its upper 23 bits. -/
theorem upper_apply (j : S128x100000.Idx) : val m d main_call0_call0.v22 j = val m d main_call0_call0.v20 j >>> 9 := by
  have b0 := val_nullary m d (k := 274) rfl
  have b1 := val_unary m d (k := 275) rfl (by decide)
  have b2 := val_binary m d (k := 276) rfl (by decide) (by decide)
  rw [b2.1, b1.1, b0.1]
  generalize val m d main_call0_call0.v20 = W
  show IntOp.shrui .host (W j) 9#32 = _
  exact if_pos (show (9#32 : BitVec 32).toNat < 32 by decide)

/-- The word with the exponent of one. -/
theorem packed_apply (j : S128x100000.Idx) : val m d main_call0_call0.v24 j = val m d main_call0_call0.v20 j >>> 9 ||| 1065353216#32 := by
  have b3 := val_nullary m d (k := 277) rfl
  have b4 := val_unary m d (k := 278) rfl (by decide)
  have b5 := val_binary m d (k := 279) rfl (by decide) (by decide)
  rw [b5.1, b4.1, b3.1, ← upper_apply]
  generalize val m d main_call0_call0.v22 = W
  rfl

/-- The float the word is read as. -/
theorem float_apply (j : S128x100000.Idx) :
    val m d main_call0_call0.v25 j = Ideal.ofBits .f32 (val m d main_call0_call0.v20 j >>> 9 ||| 1065353216#32) := by
  have b6 := val_unary m d (k := 280) rfl (by decide)
  rw [b6.1, ← packed_apply]
  generalize val m d main_call0_call0.v24 = W
  rfl

/-- An array of ones. -/
theorem ones : val m d main_call0_call0.v26 = fun _ => Ideal.ofBits .f32 0x3F800000#32 := by
  have b7 := val_nullary m d (k := 281) rfl
  have b8 := val_unary m d (k := 282) rfl (by decide)
  rw [b8.1, b7.1]
  rfl

/-- The float less one. -/
theorem shifted_apply (j : S128x100000.Idx) :
    val m d main_call0_call0.v27 j = val m d main_call0_call0.v25 j - Ideal.ofBits .f32 0x3F800000#32 := by
  have b9 := val_binary m d (k := 283) rfl (by decide) (by decide)
  rw [b9.1, sub_at, ones]

/-- The draw, scaled to its range and bounded from below. -/
theorem scaled_apply (j : S128x100000.Idx) : val m d main_call0_call0.v34 j
    = max (Ideal.ofBits .f32 0x00000000#32)
      (val m d main_call0_call0.v27 j * val m d main_call0_call0.v29 j + Ideal.ofBits .f32 0x00000000#32) := by
  have c2 := val_binary m d (k := 286) rfl (by decide) (by decide)
  have c3 := val_unary m d (k := 287) rfl (by decide)
  have c4 := val_binary m d (k := 288) rfl (by decide) (by decide)
  have c5 := val_unary m d (k := 289) rfl (by decide)
  have c6 := val_binary m d (k := 290) rfl (by decide) (by decide)
  rw [low_end] at c3 c5
  have e3 : val m d main_call0_call0.v31 = fun _ => Ideal.ofBits .f32 0x00000000#32 := c3.1
  have e5 : val m d main_call0_call0.v33 = fun _ => Ideal.ofBits .f32 0x00000000#32 := c5.1
  rw [c6.1, max_at, c4.1, add_at, c2.1, mul_at, e3, e5]

/-- The uniform draw of a cell. -/
theorem uniform_value (j : S128x100000.Idx) : val m d main_call0_call0.v34 j = (((cellDraw j : ℝ) / 2 ^ 23 : ℝ) : EReal) := by
  rw [scaled_apply, width_apply, shifted_apply, float_apply, word, frac_value, zero_value, one_value, ← cellDraw]
  generalize cellDraw j = w
  have h : (0 : ℝ) ≤ (w : ℝ) / 2 ^ 23 := by positivity
  rw [sub_zero, add_zero, ← EReal.coe_sub, ← EReal.coe_mul, max_eq_right]
  · refine congrArg ((↑) : ℝ → EReal) ?_
    ring
  · refine EReal.coe_nonneg.mpr ?_
    linarith

/-- The exponential noise of a cell. -/
theorem exponential_apply (j : S128x100000.Idx) :
    val m d main_call0.v3 j = -(Ideal.log (1 + -(val m d main_call0_call0.v34 j))) := by
  have a0 := val_unary m d (k := 291) rfl (by decide)
  have a1 := val_unary m d (k := 292) rfl (by decide)
  have a2 := val_unary m d (k := 293) rfl (by decide)
  rw [a2.1, neg_at, a1.1, log1p_at, a0.1, neg_at]

/-- The noise before clipping. -/
theorem raw_value {w : ℕ} (h : w < 2 ^ 23) : -(Ideal.log (1 + -(((w : ℝ) / 2 ^ 23 : ℝ) : EReal))) = ((raw w : ℝ) : EReal) := by
  have h0 := below_one h
  rw [← EReal.coe_neg, ← EReal.coe_one, ← EReal.coe_add, ← sub_eq_add_neg, raw]
  generalize (1 : ℝ) - (w : ℝ) / 2 ^ 23 = x at h0 ⊢
  show -(if x ≤ 0 then ⊥ else ((Real.log x : ℝ) : EReal)) = _
  rw [if_neg (not_le.mpr h0), EReal.coe_neg]

/-- The clipping bound, in every cell. -/
theorem bound : val m d main_call1.v1 = fun _ => Ideal.ofBits .f32 786163455#32 := by
  have a3 := val_nullary m d (k := 294) (y := (.of main_cst_4 : TRef sig ⟨S_, .f32⟩)) rfl
  have a4 := val_unary m d (k := 295) rfl (by decide)
  have a5 := val_unary m d (k := 296) rfl (by decide)
  rw [a5.1, a4.1, a3.1]
  rfl

/-- The clipped noise of a cell. -/
theorem noise_value (j : S128x100000.Idx) : val m d main_call1.v2 j = ((noiseE (cellDraw j) : ℝ) : EReal) := by
  have a6 := val_binary m d (k := 297) (b := main_call0.v3) rfl (by decide) (by decide)
  have e : val m d main_call0.v3 j = ((raw (cellDraw j) : ℝ) : EReal) := by
    rw [exponential_apply, uniform_value]
    exact raw_value (draw_lt _)
  rw [a6.1, max_at, bound, e, tiny_value, noiseE, max_comm, EReal.coe_strictMono.monotone.map_max]

end Cert.ReferenceIdeal.Hand

end
-- ==== Proof.Reduce.lean ====
/-
  The reductions along a row, read exactly: the maximum, the sum, and the place of the maximum.
-/
module

public import proofs.«01_k».proof.Proof.Row
public import proofs.«01_k».proof.ReferenceIdeal
public import Idealize.ShloMosaic.PureOps.Ideal.Laws
public import Idealize.ShloMosaic.PureOps.Reduce

@[expose] public section

noncomputable section

namespace Cert.Noise

open Idealize.ShloMosaic

/-- The maximum along some axes, from minus infinity, bounds what it runs over and is one of it or minus infinity. -/
theorem reduce_max {s t u : Shape} {axes : List (Fin s.rank)} (Z : FVec Ideal s .f32) (init : FVec Ideal u .f32)
    (h : s.ReducesTo axes t) (hu : 0 < u.numel) (hi : init (Shape.Idx.first hu) = (⊥ : EReal)) (j : t.Idx) :
    (∀ i, h.drop i = j → (Z i : EReal) ≤ Host.reduce FloatOps.maximumf Z init h hu j)
      ∧ (Host.reduce FloatOps.maximumf Z init h hu j = (⊥ : EReal)
        ∨ ∃ i, h.drop i = j ∧ Host.reduce FloatOps.maximumf Z init h hu j = Z i) := by
  have e : Host.reduce FloatOps.maximumf Z init h hu j
      = ((List.finRange s.numel).filter fun n => h.drop (s.rowMajor.symm n) = j).foldl
        (fun r n => max r (Z (s.rowMajor.symm n) : EReal)) (⊥ : EReal) := by rw [← hi]; rfl
  have hm := foldl_max ((List.finRange s.numel).filter fun n => h.drop (s.rowMajor.symm n) = j)
    (fun n => (Z (s.rowMajor.symm n) : EReal)) ⊥
  rw [← e] at hm
  refine ⟨fun i hi' => ?_, hm.2.imp id ?_⟩
  · have := hm.1 (s.rowMajor i) (by simp [hi'])
    simpa using this
  · rintro ⟨n, hn, h'⟩
    exact ⟨s.rowMajor.symm n, by simpa using (List.mem_filter.mp hn).2, h'⟩

/-- The sum along some axes. -/
theorem reduce_sum {s t u : Shape} {axes : List (Fin s.rank)} (Z : FVec Ideal s .f32) (init : FVec Ideal u .f32)
    (h : s.ReducesTo axes t) (hu : 0 < u.numel) (hi : init (Shape.Idx.first hu) = (0 : EReal)) (j : t.Idx) :
    Host.reduceAdd Z init h hu j = (0 : EReal) + ∑ i ∈ Finset.univ.filter (fun i => h.drop i = j), (Z i : EReal) := by
  rw [← hi]; rfl

/-- The step of the search for a maximum's place keeps the greater value, and of equal ones the lesser index. -/
theorem reducer_step (a b : EReal × BitVec 32) : Cert.ReferenceIdeal.reducer_argmax_f32_i32 (F := Ideal) a b
    = if b.1 < a.1 ∨ (a.1 = b.1 ∧ a.2.slt b.2 = true) then a else b := by
  obtain ⟨x, i⟩ := a
  obtain ⟨y, k⟩ := b
  unfold Cert.ReferenceIdeal.reducer_argmax_f32_i32
  simp only [Ideal.cmpf_def, Ideal.cmp, IntOp.cmpi, IntOp.ori, IntOp.andi, Scalar.select]
  rcases lt_trichotomy x y with h | h | h
  · simp [h.ne, not_lt.mpr h.le]
  · subst h
    by_cases hs : i.slt k = true <;> simp [hs]
  · simp [h, h.ne']

/-- The dropped index of a cell is its row. -/
theorem drop_row (h : Cert.ReferenceIdeal.S128x100000.ReducesTo [1] Cert.ReferenceIdeal.S128) (i : Cert.ReferenceIdeal.S128x100000.Idx)
    (j : Cert.ReferenceIdeal.S128.Idx) : h.drop i = j ↔ (i 0).val = (j 0).val := by
  have e : (h.drop i 0).val = (i 0).val := h.drop_apply_val_of_eq i 0 0
  constructor
  · rintro rfl; exact e.symm
  · intro h'
    funext a
    fin_cases a
    exact Fin.ext (e.trans h')

end Cert.Noise

end
-- ==== Proof.ReferenceRow.lean ====
/-
  The reference's result: in each row, the first place of the greatest probability over noise.
-/
module

public import proofs.«01_k».proof.Proof.ReferenceNoise
public import proofs.«01_k».proof.Proof.Reduce

@[expose] public section

set_option maxRecDepth 65536

noncomputable section

namespace Cert.ReferenceIdeal.Hand

open Cert.ReferenceIdeal Cert.Cipher Cert.Noise
open Idealize.ShloMosaic Idealize.ShloMosaic.TcCoe Idealize.SL.Sem Idealize.ShloMosaic.Tactic Idealize.ShloMosaic.Pointwise
open Idealize.ShloMosaic.StableHlo (seq after launchContents TRef)

variable [Facts]
open Facts₀ Facts
variable (m : (ℓ : Loc nD τ sig) → Buf (Elt Ideal) ℓ) (d : Dev nD)
variable {k : ℕ} {op : HloOp τ sig (Elt Ideal)} {rest : List (HloOp τ sig (Elt Ideal))}

/-- An operation of four operands. -/
theorem val_quaternary {Ta Tb Tc Te Ty : BufTy} {a : TRef sig Ta} {b : TRef sig Tb} {c : TRef sig Tc} {e : TRef sig Te} {y : TRef sig Ty}
    {f : Ta.Contents (Elt Ideal) → Tb.Contents (Elt Ideal) → Tc.Contents (Elt Ideal) → Te.Contents (Elt Ideal) → Ty.Contents (Elt Ideal)}
    (h : (ops (F := Ideal)).drop k = TRef.quaternary a b c e y f :: rest) (ha : a.ref.idx.val < k + 2) (hb : b.ref.idx.val < k + 2)
    (hc : c.ref.idx.val < k + 2) (he : e.ref.idx.val < k + 2) :
    val m d y = f (val m d a) (val m d b) (val m d c) (val m d e) ∧ y.ref.idx.val = k + 2 := by
  refine ⟨?_, number_of_op h rfl⟩
  rw [val, final_op m d h rfl, StableHlo.quaternary_result, val, val, val, val, final_lower m d ha, final_lower m d hb,
    final_lower m d hc, final_lower m d he]
  simp [TRef.ofBuf, TRef.toBuf]

/-- An operation of two operands, its buffers given by their numbers. -/
theorem plain_binary {a b y : Ref sig .tc} {f : a.ty.Contents (Elt Ideal) → b.ty.Contents (Elt Ideal) → y.ty.Contents (Elt Ideal)} {ha hb hy}
    (h : (ops (F := Ideal)).drop k = StableHlo.binary a b y f ha hb hy :: rest) (hak : a.idx.val < k + 2) (hbk : b.idx.val < k + 2) :
    final (F := Ideal) m d (Proc.devRef .tc y) = f (final (F := Ideal) m d (Proc.devRef .tc a)) (final (F := Ideal) m d (Proc.devRef .tc b)) := by
  rw [final_op m d h rfl, final_lower m d hak, final_lower m d hbk]
  exact StableHlo.binary_result ..

/-- The logits. -/
def logits : S128x100000.Idx → EReal := val m d (.of main_arg0 : TRef sig ⟨S128x100000, .f32⟩)

/-- The temperatures. -/
def temps : S128.Idx → EReal := val m d (.of main_arg1 : TRef sig ⟨S128, .f32⟩)

/-- Logits over temperatures. -/
def scaled (X : S128x100000.Idx → EReal) (T : S128.Idx → EReal) : S128x100000.Idx → EReal := fun j => Ideal.div (X j) (T (ix1 (j 0)))

/-- A row's value in each of its cells. -/
theorem spread (T : FVec Ideal S128 .f32) (j : S128x100000.Idx) :
    broadcastInDim S128x100000 ![0, 1] bcast_S128x1_S128x100000_0_1 (broadcastInDim S128x1 ![0] bcast_S128_S128x1_0 T) j = T (ix1 (j 0)) := by
  idx_vars j
  pointwise

/-- The scaled logits. -/
theorem scaled_value : val m d (.of main_v2 : TRef sig ⟨S128x100000, .f32⟩) = scaled (logits m d) (temps m d) := by
  have a0 := val_unary m d (k := 0) (x := (.of main_arg1 : TRef sig ⟨S128, .f32⟩)) (y := (.of main_v0 : TRef sig ⟨S128x1, .f32⟩))
    (f := broadcastInDim S128x1 ![0] bcast_S128_S128x1_0) rfl (by decide)
  have a1 := val_unary m d (k := 1) (x := (.of main_v0 : TRef sig ⟨S128x1, .f32⟩)) (y := (.of main_v1 : TRef sig ⟨S128x100000, .f32⟩))
    (f := broadcastInDim S128x100000 ![0, 1] bcast_S128x1_S128x100000_0_1) rfl (by decide)
  have a2 := val_binary m d (k := 2) (a := (.of main_arg0 : TRef sig ⟨S128x100000, .f32⟩)) (b := (.of main_v1 : TRef sig ⟨S128x100000, .f32⟩))
    (y := (.of main_v2 : TRef sig ⟨S128x100000, .f32⟩)) (f := Host.divf (F := Ideal) (s := S128x100000) (φ := .f32)) rfl (by decide) (by decide)
  funext j
  rw [a2.1, div_at, a1.1, a0.1, spread, scaled, logits, temps]

/-- Minus infinity. -/
theorem least_value : Ideal.ofBits .f32 0xFF800000#32 = ⊥ := by simp [Ideal.ofBits, Ideal.ieee]

/-- A row's greatest scaled logit. -/
def top : S128.Idx → EReal := val m d (.of main_v5 : TRef sig ⟨S128, .f32⟩)

/-- A row's greatest scaled logit, as a fold of maxima. -/
theorem max_value : val m d (.of main_v3 : TRef sig ⟨S128, .f32⟩)
    = Host.reduce (FloatOps.maximumf (F := Ideal) (φ := .f32)) (val m d (.of main_v2 : TRef sig ⟨S128x100000, .f32⟩))
      (val m d (.of main_cst : TRef sig ⟨S_, .f32⟩))
      reducesTo_S128x100000_S128_d1 h_S_ := by
  have h := plain_binary m d (k := 4) rfl (by decide) (by decide)
  have e1 : val m d (.of main_v3 : TRef sig ⟨S128, .f32⟩) = final (F := Ideal) m d (Proc.devRef .tc main_v3) := rfl
  have e2 : val m d (.of main_v2 : TRef sig ⟨S128x100000, .f32⟩) = final (F := Ideal) m d (Proc.devRef .tc main_v2) := rfl
  have e3 : val m d (.of main_cst : TRef sig ⟨S_, .f32⟩) = final (F := Ideal) m d (Proc.devRef .tc main_cst) := rfl
  rw [e1, e2, e3]
  generalize final (F := Ideal) m d (Proc.devRef .tc main_v3) = x at h ⊢
  generalize final (F := Ideal) m d (Proc.devRef .tc main_v2) = y at h ⊢
  generalize final (F := Ideal) m d (Proc.devRef .tc main_cst) = z at h ⊢
  exact h

/-- A row's greatest scaled logit bounds the row and is one of it, or minus infinity. -/
theorem top_value (r : S128.Idx) :
    (∀ i : S128x100000.Idx, (i 0).val = (r 0).val → scaled (logits m d) (temps m d) i ≤ top m d r)
      ∧ (top m d r = ⊥ ∨ ∃ i : S128x100000.Idx, (i 0).val = (r 0).val ∧ top m d r = scaled (logits m d) (temps m d) i) := by
  have a3 := val_nullary m d (k := 3) (y := (.of main_cst : TRef sig ⟨S_, .f32⟩)) rfl
  have a4 := max_value m d
  have a5 := val_nullary m d (k := 5) (y := (.of main_cst_0 : TRef sig ⟨S_, .f32⟩)) rfl
  have a6 := val_unary m d (k := 6) (x := (.of main_cst_0 : TRef sig ⟨S_, .f32⟩)) (y := (.of main_v4 : TRef sig ⟨S128, .f32⟩))
    (f := broadcastInDim S128 ![] bcast_S_S128) rfl (by decide)
  have a7 := val_binary m d (k := 7) (a := (.of main_v4 : TRef sig ⟨S128, .f32⟩)) (b := (.of main_v3 : TRef sig ⟨S128, .f32⟩))
    (y := (.of main_v5 : TRef sig ⟨S128, .f32⟩)) (f := maximumf (F := Ideal) (s := S128) (φ := .f32)) rfl (by decide) (by decide)
  have e4 : val m d (.of main_v4 : TRef sig ⟨S128, .f32⟩) = fun _ => (⊥ : EReal) := by
    have e5 : val m d (.of main_cst_0 : TRef sig ⟨S_, .f32⟩) = fun _ => (⊥ : EReal) := by rw [a5.1]; funext i; exact least_value
    rw [a6.1, e5]; rfl
  have h := reduce_max (scaled (logits m d) (temps m d)) (constant (F := Ideal) S_ .f32 0xFF800000#32) reducesTo_S128x100000_S128_d1 h_S_ least_value r
  have e : top m d r = Host.reduce (FloatOps.maximumf (F := Ideal) (φ := .f32)) (scaled (logits m d) (temps m d))
      (constant (F := Ideal) S_ .f32 0xFF800000#32) reducesTo_S128x100000_S128_d1 h_S_ r := by
    rw [top, a7.1, max_at, e4, a4, scaled_value, a3.1]
    exact max_eq_right bot_le
  rw [e]
  simp only [drop_row] at h
  exact h

/-- The exponential of a scaled logit less its row's greatest. -/
theorem weight_value (j : S128x100000.Idx) : val m d (.of main_v9 : TRef sig ⟨S128x100000, .f32⟩) j
    = Ideal.exp (scaled (logits m d) (temps m d) j - top m d (ix1 (j 0))) := by
  have a0 := val_unary m d (k := 8) (x := (.of main_v5 : TRef sig ⟨S128, .f32⟩)) (y := (.of main_v6 : TRef sig ⟨S128x1, .f32⟩))
    (f := broadcastInDim S128x1 ![0] bcast_S128_S128x1_0) rfl (by decide)
  have a1 := val_unary m d (k := 9) (x := (.of main_v6 : TRef sig ⟨S128x1, .f32⟩)) (y := (.of main_v7 : TRef sig ⟨S128x100000, .f32⟩))
    (f := broadcastInDim S128x100000 ![0, 1] bcast_S128x1_S128x100000_0_1) rfl (by decide)
  have a2 := val_binary m d (k := 10) (a := (.of main_v2 : TRef sig ⟨S128x100000, .f32⟩)) (b := (.of main_v7 : TRef sig ⟨S128x100000, .f32⟩))
    (y := (.of main_v8 : TRef sig ⟨S128x100000, .f32⟩)) (f := subf (F := Ideal) (s := S128x100000) (φ := .f32)) rfl (by decide) (by decide)
  have a3 := val_unary m d (k := 11) (x := (.of main_v8 : TRef sig ⟨S128x100000, .f32⟩)) (y := (.of main_v9 : TRef sig ⟨S128x100000, .f32⟩))
    (f := Host.exp (F := Ideal) (s := S128x100000) (φ := .f32)) rfl (by decide)
  rw [a3.1, exp_at, a2.1, sub_at, scaled_value, a1.1, a0.1, spread, top]

/-- A row's sum of exponentials. -/
def total (r : S128.Idx) : EReal :=
  0 + ∑ i ∈ Finset.univ.filter (fun i : S128x100000.Idx => (i 0).val = (r 0).val),
    Ideal.exp (scaled (logits m d) (temps m d) i - top m d (ix1 (i 0)))

/-- The row's sum as the line computes it. -/
theorem total_value (r : S128.Idx) : val m d (.of main_v10 : TRef sig ⟨S128, .f32⟩) r = total m d r := by
  have a0 := val_nullary m d (k := 12) (y := (.of main_cst_1 : TRef sig ⟨S_, .f32⟩)) rfl
  have a1 := val_binary m d (k := 13) (a := (.of main_v9 : TRef sig ⟨S128x100000, .f32⟩)) (b := (.of main_cst_1 : TRef sig ⟨S_, .f32⟩))
    (y := (.of main_v10 : TRef sig ⟨S128, .f32⟩)) (f := fun (x : FVec Ideal S128x100000 .f32) (v : FVec Ideal S_ .f32) => Host.reduceAdd (F := Ideal) (s := S128x100000) (φ := .f32) x v reducesTo_S128x100000_S128_d1 h_S_) rfl (by decide) (by decide)
  have h := reduce_sum (val m d (.of main_v9 : TRef sig ⟨S128x100000, .f32⟩)) (val m d (.of main_cst_1 : TRef sig ⟨S_, .f32⟩)) reducesTo_S128x100000_S128_d1 h_S_ (by rw [a0.1]; exact zero_value) r
  rw [a1.1, h, total]
  simp only [drop_row]
  refine congrArg (0 + ·) (Finset.sum_congr rfl fun i _ => weight_value m d i)

/-- A cell's probability over its noise. -/
theorem quotient_value (j : S128x100000.Idx) : val m d (.of main_v23 : TRef sig ⟨S128x100000, .f32⟩) j
    = quot (top m d (ix1 (j 0))) (total m d (ix1 (j 0))) (scaled (logits m d) (temps m d) j) (cellDraw j) := by
  have a0 := val_unary m d (k := 14) (x := (.of main_v10 : TRef sig ⟨S128, .f32⟩)) (y := (.of main_v11 : TRef sig ⟨S128x1, .f32⟩))
    (f := broadcastInDim S128x1 ![0] bcast_S128_S128x1_0) rfl (by decide)
  have a1 := val_unary m d (k := 15) (x := (.of main_v11 : TRef sig ⟨S128x1, .f32⟩)) (y := (.of main_v12 : TRef sig ⟨S128x100000, .f32⟩))
    (f := broadcastInDim S128x100000 ![0, 1] bcast_S128x1_S128x100000_0_1) rfl (by decide)
  have a2 := val_binary m d (k := 16) (a := (.of main_v9 : TRef sig ⟨S128x100000, .f32⟩)) (b := (.of main_v12 : TRef sig ⟨S128x100000, .f32⟩))
    (y := (.of main_v13 : TRef sig ⟨S128x100000, .f32⟩)) (f := Host.divf (F := Ideal) (s := S128x100000) (φ := .f32)) rfl (by decide) (by decide)
  have a3 := val_binary m d (k := 298) (a := (.of main_v13 : TRef sig ⟨S128x100000, .f32⟩)) (b := main_call1.v2)
    (y := (.of main_v23 : TRef sig ⟨S128x100000, .f32⟩)) (f := Host.divf (F := Ideal) (s := S128x100000) (φ := .f32)) rfl (by decide) (by decide)
  rw [a3.1, div_at, a2.1, div_at, noise_value, weight_value, a1.1, a0.1, spread, total_value, quot]

/-- The scores of a row. -/
def rowQuot (r : Fin 128) : Fin 100000 → EReal := fun c =>
  quot (top m d (ix1 r)) (total m d (ix1 r)) (scaled (logits m d) (temps m d) (ix2 r c)) (cellDraw (ix2 r c))

/-- The reference's result is the first place of a row's greatest score. -/
theorem result_value (r : S128.Idx) :
    ∃ i : Fin 100000, First (rowQuot m d (r 0)) i ∧ val m d main_call2.v1_1 r = BitVec.ofNat 32 i.val := by
  have a0 := val_nullary m d (k := 299) rfl
  have a1 := val_nullary m d (k := 300) rfl
  have a2 := val_nullary m d (k := 301) rfl
  have a3 := val_quaternary m d (k := 303) (a := (.of main_v23 : TRef sig ⟨S128x100000, .f32⟩)) rfl (by decide) (by decide) (by decide) (by decide)
  obtain ⟨i, hi, e⟩ := best_first (by norm_num) (by norm_num) (rowQuot m d (r 0)) (Cert.ReferenceIdeal.reducer_argmax_f32_i32 (F := Ideal)) reducer_step
    (fun n : Fin S128x100000.numel => (show EReal from val m d (.of main_v23 : TRef sig ⟨S128x100000, .f32⟩) (S128x100000.rowMajor.symm n)))
    (fun n => (S128x100000.rowMajor.symm n) 1)
    ((List.finRange S128x100000.numel).filter fun n => reducesTo_S128x100000_S128_d1.drop (S128x100000.rowMajor.symm n) = r)
    (fun n hn => by
      have h := (drop_row _ _ _).mp (by simpa using (List.mem_filter.mp hn).2)
      show val m d (.of main_v23 : TRef sig ⟨S128x100000, .f32⟩) (S128x100000.rowMajor.symm n) = _
      rw [quotient_value]
      generalize S128x100000.rowMajor.symm n = j at h ⊢
      have h' : j 0 = r 0 := Fin.ext h
      have e2 : (ix2 (r 0) (j 1) : S128x100000.Idx) = j := by
        funext a
        fin_cases a
        · exact h'.symm
        · rfl
      show _ = quot _ _ (scaled (logits m d) (temps m d) (ix2 (r 0) (j 1))) (cellDraw (ix2 (r 0) (j 1)))
      rw [e2]
      exact congrArg (fun a => quot (top m d (ix1 a)) (total m d (ix1 a)) (scaled (logits m d) (temps m d) j) (cellDraw j)) h')
    (fun c => ⟨S128x100000.rowMajor (ix2 (r 0) c), by simp [drop_row, ix2], by simp [ix2]⟩)
  refine ⟨i, hi, ?_⟩
  rw [← e, a3.1, a0.1, a1.1, a2.1, Ideal.argReduce_eq_reduce2, ← least_value]
  rfl

end Cert.ReferenceIdeal.Hand

end
-- ==== Proof.Resolved.lean ====
/-
  What the precondition says of the logits and the temperatures: no temperature is zero, no scaled logit is plus infinity,
  and the three cells whose draw is zero lie within seven of their row's greatest scaled logit or far below it.
-/
module

public import proofs.«01_k».proof.Proof.Reduce
public import proofs.«01_k».proof.Proof.Race
public import proofs.«01_k».proof.Pre_draws_resolved
public import Idealize.ShloMosaic.Lib.Pointwise

@[expose] public section

noncomputable section

namespace Cert.Noise

open Idealize.ShloMosaic Idealize.ShloMosaic.Tactic Idealize.ShloMosaic.Pointwise
open Cert.Pre_draws_resolved

/-- Both conditions of a conjunction that holds. -/
theorem and_one {s : Shape} {x y : IVec s 1} {i : s.Idx} (h : andi x y i = 1#1) : x i = 1#1 ∧ y i = 1#1 := by
  have h' : x i &&& y i = 1#1 := h
  generalize x i = a at *
  generalize y i = b at *
  revert a b
  decide

/-- One condition of a disjunction that holds. -/
theorem or_one {s : Shape} {x y : IVec s 1} {i : s.Idx} (h : ori x y i = 1#1) : x i = 1#1 ∨ y i = 1#1 := by
  have h' : x i ||| y i = 1#1 := h
  generalize x i = a at *
  generalize y i = b at *
  clear h
  revert a b
  decide

/-- Every element of a conjunction along some axes that holds. -/
theorem all_ones {s t u : Shape} {axes : List (Fin s.rank)} (x : IVec s 1) (v : IVec u 1) (h : s.ReducesTo axes t) (hu : 0 < u.numel)
    (j : t.Idx) (h1 : Host.reduce IntOp.andi x v h hu j = 1#1) (i : s.Idx) (hi : h.drop i = j) : x i = 1#1 := by
  have key : ∀ (L : List (Fin s.numel)) (a : BitVec 1), L.foldl (fun r n => IntOp.andi r (x (s.rowMajor.symm n))) a = 1#1 →
      a = 1#1 ∧ ∀ n ∈ L, x (s.rowMajor.symm n) = 1#1 := by
    intro L
    induction L with
    | nil => intro a h; exact ⟨h, by simp⟩
    | cons n L ih =>
      intro a h
      obtain ⟨h2, h3⟩ := ih _ h
      have h4 : a = 1#1 ∧ x (s.rowMajor.symm n) = 1#1 := by
        have h' : a &&& x (s.rowMajor.symm n) = 1#1 := h2
        generalize x (s.rowMajor.symm n) = b at *
        clear h h2 h3 ih
        revert a b
        decide
      refine ⟨h4.1, fun k hk => ?_⟩
      rcases List.mem_cons.mp hk with rfl | hk
      · exact h4.2
      · exact h3 k hk
  have := (key _ _ h1).2 (s.rowMajor i) (by simp [hi])
  simpa using this

/-- A cell of an array, as a slice of one element made a scalar. -/
theorem cell_value (Z : FVec Ideal S128x100000 .f32) {a b : ℕ} (ha : a < 128) (hb : b < 100000) (hs : S128x100000.Slices ![a, b] S1x1)
    (hc : S1x1.ShapeCasts S_) (k : S_.Idx) : shapeCast S_ (extractStridedSlice S1x1 ![a, b] Z hs) hc k = Z (ix2 ⟨a, ha⟩ ⟨b, hb⟩) := by
  refine (Idealize.ShloMosaic.shapeCast_apply _ hc k (ix2 0 0) ?_).trans ?_
  · have h1 := (S1x1.rowMajor (ix2 0 0)).isLt
    have h2 := (S_.rowMajor k).isLt
    have e1 : S1x1.numel = 1 := by decide
    have e2 : S_.numel = 1 := by decide
    omega
  · refine congrArg Z ?_
    funext x
    fin_cases x <;> exact Fin.ext rfl

/-- An element of a vector, as a slice of one element made a scalar. -/
theorem element_value (Z : FVec Ideal S128 .f32) {a : ℕ} (ha : a < 128) (hs : S128.Slices ![a] S1)
    (hc : S1.ShapeCasts S_) (k : S_.Idx) : shapeCast S_ (extractStridedSlice S1 ![a] Z hs) hc k = Z (ix1 ⟨a, ha⟩) := by
  refine (Idealize.ShloMosaic.shapeCast_apply _ hc k (ix1 0) ?_).trans ?_
  · have h1 := (S1.rowMajor (ix1 0)).isLt
    have h2 := (S_.rowMajor k).isLt
    have e1 : S1.numel = 1 := by decide
    have e2 : S_.numel = 1 := by decide
    omega
  · refine congrArg Z ?_
    funext x
    fin_cases x
    exact Fin.ext rfl

/-- The word of seven. -/
theorem seven_value : Ideal.ofBits .f32 0x40E00000#32 = ((7 : ℝ) : EReal) := by
  rw [normal_value 0x40E00000#32 (x := 129) (f := 6291456) (by decide) (by decide) (by decide) (by norm_num) (by norm_num)]
  refine congrArg ((↑) : ℝ → EReal) ?_
  norm_num

/-- The word of twenty-seven. -/
theorem far_value : Ideal.ofBits .f32 0x41D80000#32 = ((27 : ℝ) : EReal) := by
  rw [normal_value 0x41D80000#32 (x := 131) (f := 5767168) (by decide) (by decide) (by decide) (by norm_num) (by norm_num)]
  refine congrArg ((↑) : ℝ → EReal) ?_
  norm_num

/-- The word of plus infinity. -/
theorem greatest_value : Ideal.ofBits .f32 0x7F800000#32 = ⊤ := by simp [Ideal.ofBits, Ideal.ieee]

/-- The word of zero. -/
theorem null_value : Ideal.ofBits .f32 0x00000000#32 = 0 := by simp [Ideal.ofBits, Ideal.ieee]

/-- The word of minus infinity. -/
theorem lowest_value : Ideal.ofBits .f32 0xFF800000#32 = ⊥ := by simp [Ideal.ofBits, Ideal.ieee]

/-- A decision that reads one holds. -/
theorem of_one {p : Prop} [Decidable p] (h : BitVec.ofBool (decide p) = 1#1) : p := by
  by_contra hp
  rw [show decide p = false from decide_eq_false hp] at h
  exact absurd h (by decide)

/-- The comparisons of a cell with its row's greatest, in words. -/
theorem near_or_far (Z : FVec Ideal S128x100000 .f32) (M : FVec Ideal S128 .f32) {a b : ℕ} (ha : a < 128) (hb : b < 100000)
    (hs : S128x100000.Slices ![a, b] S1x1) (hc : S1x1.ShapeCasts S_) (hs' : S128.Slices ![a] S1) (hc' : S1.ShapeCasts S_) (k : S_.Idx)
    (h : ori (cmpf .oge (addf (shapeCast S_ (extractStridedSlice S1x1 ![a, b] Z hs) hc) (constant (F := Ideal) S_ .f32 0x40E00000#32))
        (shapeCast S_ (extractStridedSlice S1 ![a] M hs') hc'))
      (cmpf .ole (addf (shapeCast S_ (extractStridedSlice S1x1 ![a, b] Z hs) hc) (constant (F := Ideal) S_ .f32 0x41D80000#32))
        (shapeCast S_ (extractStridedSlice S1 ![a] M hs') hc')) k = 1#1) :
    Settled (Z (ix2 ⟨a, ha⟩ ⟨b, hb⟩)) (M (ix1 ⟨a, ha⟩)) := by
  have e1 := cell_value Z ha hb hs hc k
  have e2 := element_value M ha hs' hc' k
  refine (or_one h).imp (fun h => ?_) fun h => ?_
  · have h' : Ideal.cmp .oge ((shapeCast S_ (extractStridedSlice S1x1 ![a, b] Z hs) hc k : EReal) + Ideal.ofBits .f32 0x40E00000#32)
        (shapeCast S_ (extractStridedSlice S1 ![a] M hs') hc' k) = 1#1 := h
    rw [e1, e2, seven_value] at h'
    exact of_one h'
  · have h' : Ideal.cmp .ole ((shapeCast S_ (extractStridedSlice S1x1 ![a, b] Z hs) hc k : EReal) + Ideal.ofBits .f32 0x41D80000#32)
        (shapeCast S_ (extractStridedSlice S1 ![a] M hs') hc' k) = 1#1 := h
    rw [e1, e2, far_value] at h'
    exact of_one h'

variable [Facts]
open Facts

/-- Each temperature along its row. -/
theorem along (T : FVec Ideal S128 .f32) (j : S128x100000.Idx) :
    broadcastInDim S128x100000 ![0, 1] bcast_S128x1_S128x100000_0_1 (broadcastInDim S128x1 ![0] bcast_S128_S128x1_0 T) j = T (ix1 (j 0)) := by
  idx_vars j
  pointwise

/-- One of the three cells whose draw is zero. -/
def ZeroCell (a : Fin 128) (b : Fin 100000) : Prop :=
  (a.val = 80 ∧ b.val = 37755) ∨ (a.val = 110 ∧ b.val = 40093) ∨ (a.val = 118 ∧ b.val = 55306)

/-- What the precondition says. -/
theorem resolved (X : FVec Ideal S128x100000 .f32) (T : FVec Ideal S128 .f32) (h : fn (F := Ideal) X T = fun _ => 1#1) :
    (∀ j, (T j : EReal) ≠ 0) ∧ (∀ j, Ideal.div (X j) (T (ix1 (j 0))) ≠ ⊤)
      ∧ ∀ (a : Fin 128) (b : Fin 100000), ZeroCell a b →
        (∀ c : Fin 100000, Ideal.div (X (ix2 a c)) (T (ix1 a)) ≤ Ideal.div (X (ix2 a b)) (T (ix1 a)) + ((7 : ℝ) : EReal))
        ∨ ∃ c : Fin 100000, ¬ Ideal.div (X (ix2 a c)) (T (ix1 a)) ≤ Ideal.div (X (ix2 a b)) (T (ix1 a)) + ((7 : ℝ) : EReal)
          ∧ Ideal.div (X (ix2 a b)) (T (ix1 a)) + ((27 : ℝ) : EReal) ≤ Ideal.div (X (ix2 a c)) (T (ix1 a)) := by
  have h0 : fn (F := Ideal) X T (fun a => a.elim0) = 1#1 := congrFun h _
  unfold fn fn_part1 fn_part2 at h0
  dsimp only at h0
  obtain ⟨h1, c3⟩ := and_one h0
  obtain ⟨h2, c2⟩ := and_one h1
  obtain ⟨h3, c1⟩ := and_one h2
  obtain ⟨ht, hx⟩ := and_one h3
  clear h0 h1 h2 h3 h
  have hZ : Host.divf X (broadcastInDim S128x100000 ![0, 1] bcast_S128x1_S128x100000_0_1 (broadcastInDim S128x1 ![0] bcast_S128_S128x1_0 T))
      = fun j => Ideal.div (X j) (T (ix1 (j 0))) := by
    funext j
    rw [← along T j]
    rfl
  rw [hZ] at hx c1 c2 c3
  have n1 := near_or_far _ _ (by norm_num) (by norm_num) _ _ _ _ _ c1
  have n2 := near_or_far _ _ (by norm_num) (by norm_num) _ _ _ _ _ c2
  have n3 := near_or_far _ _ (by norm_num) (by norm_num) _ _ _ _ _ c3
  have hm := reduce_max (fun j : S128x100000.Idx => Ideal.div (X j) (T (ix1 (j 0)))) (constant (F := Ideal) S_ .f32 0xFF800000#32)
    reducesTo_S128x100000_S128_d1 h_S_ lowest_value
  refine ⟨fun j => ?_, fun i => ?_, fun a b hab => ?_⟩
  · have := all_ones _ _ _ _ _ ht j (funext fun a => a.elim0)
    have h' : Ideal.cmp .une (T j : EReal) (Ideal.ofBits .f32 0x00000000#32) = 1#1 := this
    rw [null_value] at h'
    exact of_one h'
  · have := all_ones _ _ _ _ _ hx i (funext fun a => a.elim0)
    have h' : Ideal.cmp .olt (Ideal.div (X i) (T (ix1 (i 0)))) (Ideal.ofBits .f32 0x7F800000#32) = 1#1 := this
    rw [greatest_value] at h'
    exact (of_one h').ne
  · have n : Settled (Ideal.div (X (ix2 a b)) (T (ix1 a))) (Host.reduce (FloatOps.maximumf (F := Ideal) (φ := .f32))
        (fun j : S128x100000.Idx => Ideal.div (X j) (T (ix1 (j 0)))) (constant (F := Ideal) S_ .f32 0xFF800000#32)
        reducesTo_S128x100000_S128_d1 h_S_ (ix1 a)) := by
      obtain ⟨a, ha⟩ := a
      obtain ⟨b, hb⟩ := b
      rcases hab with ⟨h1, h2⟩ | ⟨h1, h2⟩ | ⟨h1, h2⟩ <;> (dsimp only at h1 h2; subst h1; subst h2)
      · exact n1
      · exact n2
      · exact n3
    obtain ⟨hle, hex⟩ := hm (ix1 a)
    generalize (Host.reduce (FloatOps.maximumf (F := Ideal) (φ := .f32))
        (fun j : S128x100000.Idx => Ideal.div (X j) (T (ix1 (j 0)))) (constant (F := Ideal) S_ .f32 0xFF800000#32)
        reducesTo_S128x100000_S128_d1 h_S_ (ix1 a) : EReal) = M at n hle hex
    by_cases hM : M ≤ Ideal.div (X (ix2 a b)) (T (ix1 a)) + ((7 : ℝ) : EReal)
    · exact Or.inl fun c => (hle (ix2 a c) ((drop_row _ _ _).mpr rfl)).trans hM
    · refine Or.inr ?_
      obtain ⟨i, hi, e⟩ := hex.resolve_left fun h' => hM (h' ▸ bot_le)
      have hr := (drop_row _ _ _).mp hi
      obtain ⟨c, rfl⟩ : ∃ c : Fin 100000, i = ix2 a c := ⟨i 1, by
        funext x
        fin_cases x
        · exact Fin.ext hr
        · rfl⟩
      have e' : M = Ideal.div (X (ix2 a c)) (T (ix1 a)) := e
      exact ⟨c, by rw [← e']; exact ⟨hM, n.resolve_left hM⟩⟩

end Cert.Noise

end
-- ==== Proof.Packed.lean ====
/-
  The cipher on many words at once: words laid side by side in one number, 33 places to each, so that one operation on the
  number is that operation on every word.
-/
module

public import proofs.«01_k».proof.Proof.Cipher

@[expose] public section

namespace Cert.Packed

/-- A one in every lane. -/
def ones (n : ℕ) : ℕ := (2 ^ (33 * n) - 1) / (2 ^ 33 - 1)

/-- The lane's own index in every lane. -/
def iota (n : ℕ) : ℕ := (n * 2 ^ (33 * n) - 2 ^ 33 * ones n) / (2 ^ 33 - 1)

/-- The low `k` places of every lane. -/
def mask (one k : ℕ) : ℕ := (2 ^ k - 1) * one

/-- Every lane turned left by `r` of 32 places. -/
def turn (one r s X : ℕ) : ℕ := ((X &&& mask one s) <<< r) ||| ((X >>> s) &&& mask one r)

/-- The sum in every lane. -/
def plus (one X Y : ℕ) : ℕ := (X + Y) &&& mask one 32

/-- One round in every lane. -/
def round (one r s : ℕ) (p : ℕ × ℕ) : ℕ × ℕ := (plus one p.1 p.2, turn one r s p.2 ^^^ plus one p.1 p.2)

/-- One key injection in every lane. -/
def inject (one k l n : ℕ) (p : ℕ × ℕ) : ℕ × ℕ := (plus one p.1 (k * one), plus one (plus one p.2 (l * one)) (n * one))

/-- Four rounds, with the turns of the even groups. -/
def four (one : ℕ) (p : ℕ × ℕ) : ℕ × ℕ := round one 6 26 (round one 26 6 (round one 15 17 (round one 13 19 p)))

/-- Four rounds, with the turns of the odd groups. -/
def four' (one : ℕ) (p : ℕ × ℕ) : ℕ × ℕ := round one 24 8 (round one 16 16 (round one 29 3 (round one 17 15 p)))

/-- The last state in every lane. -/
def last (one X : ℕ) : ℕ × ℕ :=
  inject one 466689008 0 5 <| four one <| inject one 42 466689008 4 <| four' one <| inject one 0 42 3 <| four one <|
    inject one 466689008 0 2 <| four' one <| inject one 42 466689008 1 <| round one 6 26 <| round one 26 6 <| round one 15 17
      (X, turn one 13 19 X ^^^ X)

/-- The word drawn in every lane. -/
def draw (one X : ℕ) : ℕ := (last one X).1 ^^^ (last one X).2

/-- Whether the upper 23 places of every lane of a window hold a one somewhere. -/
def full (n b : ℕ) : Bool :=
  Nat.beq ((((draw (ones n) (iota n + b * ones n) >>> 9) &&& mask (ones n) 23) + mask (ones n) 23) &&& (2 ^ 23 * ones n)) (2 ^ 23 * ones n)

/-- The same for `k` windows, one after the other. -/
def segment (n lo : ℕ) : ℕ → Bool
  | 0 => true
  | k + 1 => full n (lo + n * k) && segment n lo k

end Cert.Packed

end
-- ==== Proof.PackedLanes.lean ====
/-
  The packed operations are the operations on every lane, so the packed cipher is the cipher on every lane.
-/
module

public import proofs.«01_k».proof.Proof.Packed
public import Mathlib.Data.BitVec
public import Mathlib.Tactic.Ring
public import Mathlib.Tactic.LinearCombination

@[expose] public section

namespace Cert.Packed

open Idealize.ShloMosaic Cert.Cipher

/-- Numbers side by side, 33 places to each. -/
def pack : ℕ → (ℕ → ℕ) → ℕ
  | 0, _ => 0
  | n + 1, f => f 0 + 2 ^ 33 * pack n (fun i => f (i + 1))

/-- Equal lanes pack to equal numbers. -/
theorem pack_congr (n : ℕ) : ∀ (f g : ℕ → ℕ), (∀ i, i < n → f i = g i) → pack n f = pack n g := by
  induction n with
  | zero => intros; rfl
  | succ n ih =>
    intro f g h
    rw [pack, pack, h 0 (by omega), ih _ (fun i => g (i + 1)) (fun i hi => h (i + 1) (by omega))]

/-- Equal packed numbers have equal lanes. -/
theorem pack_inj (n : ℕ) : ∀ (f g : ℕ → ℕ), (∀ i, f i < 2 ^ 33) → (∀ i, g i < 2 ^ 33) → pack n f = pack n g → ∀ i, i < n → f i = g i := by
  induction n with
  | zero => intro f g _ _ _ i hi; omega
  | succ n ih =>
    intro f g hf hg h i hi
    rw [pack, pack] at h
    have h0 := hf 0
    have h1 := hg 0
    rcases i with _ | i
    · omega
    · exact ih (fun i => f (i + 1)) (fun i => g (i + 1)) (fun i => hf _) (fun i => hg _) (by omega) i (by omega)

/-- A place of a packed number is a place of a lane. -/
theorem testBit_pack (n : ℕ) : ∀ (f : ℕ → ℕ), (∀ i, f i < 2 ^ 33) → ∀ j,
    (pack n f).testBit j = (decide (j / 33 < n) && (f (j / 33)).testBit (j % 33)) := by
  induction n with
  | zero => intro f _ j; simp [pack]
  | succ n ih =>
    intro f hf j
    rw [pack, Nat.add_comm, Nat.testBit_two_pow_mul_add _ (hf 0)]
    by_cases hj : j < 33
    · rw [if_pos hj, show j / 33 = 0 by omega, show j % 33 = j by omega]; simp
    · rw [if_neg hj, ih _ (fun i => hf _), show j / 33 = (j - 33) / 33 + 1 by omega, show j % 33 = (j - 33) % 33 by omega]
      simp

/-- The sum of packed numbers packs the sums. -/
theorem pack_add (n : ℕ) : ∀ (f g : ℕ → ℕ), pack n f + pack n g = pack n (fun i => f i + g i) := by
  induction n with
  | zero => intros; rfl
  | succ n ih =>
    intro f g
    rw [pack, pack, pack, ← ih]; ring

/-- A multiple of a packed number packs the multiples. -/
theorem pack_mul (n : ℕ) (k : ℕ) : ∀ (f : ℕ → ℕ), k * pack n f = pack n (fun i => k * f i) := by
  induction n with
  | zero => intros; rfl
  | succ n ih =>
    intro f
    rw [pack, pack, ← ih]; ring

/-- Conjunction is lane by lane. -/
theorem pack_and (n : ℕ) (f g : ℕ → ℕ) (hf : ∀ i, f i < 2 ^ 33) (hg : ∀ i, g i < 2 ^ 33) :
    pack n f &&& pack n g = pack n (fun i => f i &&& g i) := by
  refine Nat.eq_of_testBit_eq fun j => ?_
  rw [Nat.testBit_and, testBit_pack n f hf, testBit_pack n g hg, testBit_pack n _ (fun i => Nat.and_lt_two_pow _ (hg i)), Nat.testBit_and]
  cases decide (j / 33 < n) <;> simp

/-- Disjunction is lane by lane. -/
theorem pack_or (n : ℕ) (f g : ℕ → ℕ) (hf : ∀ i, f i < 2 ^ 33) (hg : ∀ i, g i < 2 ^ 33) :
    pack n f ||| pack n g = pack n (fun i => f i ||| g i) := by
  refine Nat.eq_of_testBit_eq fun j => ?_
  rw [Nat.testBit_or, testBit_pack n f hf, testBit_pack n g hg, testBit_pack n _ (fun i => Nat.or_lt_two_pow (hf i) (hg i)), Nat.testBit_or]
  cases decide (j / 33 < n) <;> simp

/-- Exclusive disjunction is lane by lane. -/
theorem pack_xor (n : ℕ) (f g : ℕ → ℕ) (hf : ∀ i, f i < 2 ^ 33) (hg : ∀ i, g i < 2 ^ 33) :
    pack n f ^^^ pack n g = pack n (fun i => f i ^^^ g i) := by
  refine Nat.eq_of_testBit_eq fun j => ?_
  rw [Nat.testBit_xor, testBit_pack n f hf, testBit_pack n g hg, testBit_pack n _ (fun i => Nat.xor_lt_two_pow (hf i) (hg i)), Nat.testBit_xor]
  cases decide (j / 33 < n) <;> simp

/-- One number in every lane. -/
theorem pack_one (n : ℕ) : (2 ^ 33 - 1) * pack n (fun _ => 1) + 1 = 2 ^ (33 * n) := by
  induction n with
  | zero => rfl
  | succ n ih =>
    rw [pack, Nat.mul_succ, Nat.pow_add, ← ih]; ring

/-- One in every lane. -/
theorem ones_eq (n : ℕ) : ones n = pack n (fun _ => 1) := by
  rw [ones, ← pack_one n, Nat.add_sub_cancel, Nat.mul_div_cancel_left _ (by norm_num)]

/-- A constant in every lane. -/
theorem const_eq (n k : ℕ) : k * ones n = pack n (fun _ => k) := by
  rw [ones_eq, pack_mul]; exact pack_congr _ _ _ fun _ _ => Nat.mul_one k

/-- Counting from one is counting from zero and one in every lane. -/
theorem pack_shift (n : ℕ) (f : ℕ → ℕ) : pack n (fun i => i + 1 + f i) = pack n (fun i => i + f i) + ones n := by
  rw [ones_eq, pack_add]; exact pack_congr _ _ _ fun _ _ => by ring

/-- The closed form of the lanes' numbers. -/
theorem pack_iota (n : ℕ) : (2 ^ 33 - 1) * pack n (fun i => i) + 2 ^ 33 * ones n = n * 2 ^ (33 * n) := by
  induction n with
  | zero => rfl
  | succ n ih =>
    have h1 := pack_one n
    rw [← ones_eq] at h1
    have h2 : ones (n + 1) = 1 + 2 ^ 33 * ones n := by rw [ones_eq, ones_eq, pack]
    have h3 : pack n (fun i => i + 1) = pack n (fun i => i) + ones n := by rw [ones_eq, pack_add]
    rw [pack, h2, h3, Nat.mul_succ, Nat.pow_add]
    linear_combination (2 ^ 33) * ih + (2 ^ 33) * h1

/-- Each lane's own number. -/
theorem iota_eq (n : ℕ) : iota n = pack n (fun i => i) := by
  rw [iota, ← pack_iota n, Nat.add_sub_cancel, Nat.mul_div_cancel_left _ (by norm_num)]

/-- A mask in every lane. -/
theorem mask_eq (n k : ℕ) : mask (ones n) k = pack n (fun _ => 2 ^ k - 1) := const_eq n _

/-- A mask fits its lane. -/
theorem mask_lt (k : ℕ) (hk : k ≤ 32) : 2 ^ k - 1 < 2 ^ 33 := by
  have := Nat.pow_le_pow_right (n := 2) (by norm_num) hk
  omega

/-- The low places of every lane. -/
theorem pack_low (n k : ℕ) (hk : k ≤ 32) (f : ℕ → ℕ) (hf : ∀ i, f i < 2 ^ 33) :
    pack n f &&& mask (ones n) k = pack n (fun i => f i % 2 ^ k) := by
  rw [mask_eq, pack_and n f _ hf (fun _ => mask_lt k hk)]
  exact pack_congr _ _ _ fun i _ => Nat.and_two_pow_sub_one_eq_mod _ _

/-- Every lane moved right, what crosses from the next lane masked off. -/
theorem pack_right (n k s : ℕ) (hk : k ≤ 32) (hs : k + s ≤ 33) (f : ℕ → ℕ) (hf : ∀ i, f i < 2 ^ 33) :
    (pack n f >>> s) &&& mask (ones n) k = pack n (fun i => f i / 2 ^ s % 2 ^ k) := by
  have hl : ∀ i, f i / 2 ^ s % 2 ^ k < 2 ^ 33 := fun i => lt_of_le_of_lt (Nat.mod_le _ _) (lt_of_le_of_lt (Nat.div_le_self _ _) (hf i))
  refine Nat.eq_of_testBit_eq fun j => ?_
  rw [mask_eq, Nat.testBit_and, Nat.testBit_shiftRight, testBit_pack n f hf, testBit_pack n _ (fun _ => mask_lt k hk), testBit_pack n _ hl,
    Nat.testBit_two_pow_sub_one, Nat.testBit_mod_two_pow, Nat.testBit_div_two_pow]
  by_cases hj : j % 33 < k
  · rw [show (s + j) / 33 = j / 33 by omega, show (s + j) % 33 = j % 33 + s by omega]
    cases decide (j / 33 < n) <;> simp [hj]
  · simp [hj]

/-- Words side by side. -/
def P (n : ℕ) (x : ℕ → Word) : ℕ := pack n (fun i => (x i).toNat)

/-- A word fits its lane. -/
theorem word_lt (x : Word) : x.toNat < 2 ^ 33 := lt_trans x.isLt (by norm_num)

/-- Exclusive disjunction of packed words. -/
theorem P_xor (n : ℕ) (x y : ℕ → Word) : P n x ^^^ P n y = P n (fun i => Scalar.xori (x i) (y i)) := by
  rw [P, P, pack_xor n _ _ (fun _ => word_lt _) (fun _ => word_lt _)]
  exact pack_congr _ _ _ fun i _ => (BitVec.toNat_xor (x i) (y i)).symm

/-- Sum of packed words. -/
theorem P_plus (n : ℕ) (x y : ℕ → Word) : plus (ones n) (P n x) (P n y) = P n (fun i => Scalar.addi (x i) (y i)) := by
  rw [plus, P, P, pack_add, pack_low n 32 (le_refl _) _ (fun i => by have := (x i).isLt; have := (y i).isLt; omega)]
  exact pack_congr _ _ _ fun i _ => (BitVec.toNat_add (x i) (y i)).symm

/-- A word in every lane. -/
theorem P_const (n : ℕ) (k : ℕ) (hk : k < 2 ^ 32) : k * ones n = P n (fun _ => BitVec.ofNat 32 k) := by
  rw [const_eq, P]
  exact pack_congr _ _ _ fun i _ => by rw [BitVec.toNat_ofNat, Nat.mod_eq_of_lt hk]

/-- A turn on one word, in numbers. -/
theorem turn_nat (r s : ℕ) (h : r + s = 32) (hr : 0 < r) (hs : 0 < s) (x : Word) :
    (Cipher.turn (BitVec.ofNat 32 r) (BitVec.ofNat 32 s) x).toNat = (2 ^ r * (x.toNat % 2 ^ s)) ||| (x.toNat / 2 ^ s % 2 ^ r) := by
  have hx := x.isLt
  have er : (BitVec.ofNat 32 r).toNat = r := by rw [BitVec.toNat_ofNat]; omega
  have es : (BitVec.ofNat 32 s).toNat = s := by rw [BitVec.toNat_ofNat]; omega
  have e1 : Scalar.shli x (BitVec.ofNat 32 r) = x <<< BitVec.ofNat 32 r := if_pos (by omega)
  have e2 : Scalar.shrui x (BitVec.ofNat 32 s) = x >>> BitVec.ofNat 32 s := if_pos (by omega)
  have h2 : x.toNat / 2 ^ s < 2 ^ r := Nat.div_lt_of_lt_mul (by rw [← Nat.pow_add, Nat.add_comm s r, h]; exact hx)
  rw [Cipher.turn, e1, e2]
  refine (BitVec.toNat_or _ _).trans ?_
  rw [BitVec.shiftLeft_eq', BitVec.ushiftRight_eq', er, es, BitVec.toNat_shiftLeft, BitVec.toNat_ushiftRight, Nat.shiftLeft_eq, Nat.shiftRight_eq_div_pow, Nat.mod_eq_of_lt h2,
    Nat.mul_comm, show (2 : ℕ) ^ 32 = 2 ^ r * 2 ^ s by rw [← Nat.pow_add, h], Nat.mul_mod_mul_left]

/-- Rotation of packed words. -/
theorem P_turn (n r s : ℕ) (h : r + s = 32) (hr : 0 < r) (hs : 0 < s) (x : ℕ → Word) :
    turn (ones n) r s (P n x) = P n (fun i => Cipher.turn (BitVec.ofNat 32 r) (BitVec.ofNat 32 s) (x i)) := by
  have hb : ∀ i, 2 ^ r * ((x i).toNat % 2 ^ s) < 2 ^ 33 := fun i => by
    have h1 : (x i).toNat % 2 ^ s < 2 ^ s := Nat.mod_lt _ (by positivity)
    have h2 : 2 ^ r * 2 ^ s = 2 ^ 32 := by rw [← Nat.pow_add, h]
    have h3 := (Nat.mul_lt_mul_left (a := 2 ^ r) (by positivity)).mpr h1
    omega
  rw [turn, P, pack_low n s (by omega) _ (fun _ => word_lt _), pack_right n r s (by omega) (by omega) _ (fun _ => word_lt _),
    Nat.shiftLeft_eq, Nat.mul_comm, pack_mul, pack_or n _ _ hb (fun i => lt_of_le_of_lt (Nat.mod_le _ _) (lt_of_le_of_lt (Nat.div_le_self _ _) (word_lt _)))]
  exact pack_congr _ _ _ fun i _ => (turn_nat r s h hr hs (x i)).symm

/-- A pair of words side by side. -/
def PP (n : ℕ) (p : ℕ → Word × Word) : ℕ × ℕ := (P n (fun i => (p i).1), P n (fun i => (p i).2))

/-- A round of the cipher on packed pairs. -/
theorem PP_round (n r s : ℕ) (h : r + s = 32) (hr : 0 < r) (hs : 0 < s) (p : ℕ → Word × Word) :
    round (ones n) r s (PP n p) = PP n (fun i => Cipher.round (BitVec.ofNat 32 r) (BitVec.ofNat 32 s) (p i)) := by
  rw [round, PP]
  simp only [P_plus, P_turn n r s h hr hs, P_xor]
  rfl

/-- A key injection on packed pairs. -/
theorem PP_inject (n k l q : ℕ) (hk : k < 2 ^ 32) (hl : l < 2 ^ 32) (hq : q < 2 ^ 32) (p : ℕ → Word × Word) :
    inject (ones n) k l q (PP n p) = PP n (fun i => Cipher.inject (BitVec.ofNat 32 k) (BitVec.ofNat 32 l) (BitVec.ofNat 32 q) (p i)) := by
  rw [inject, PP]
  simp only [P_const n k hk, P_const n l hl, P_const n q hq, P_plus]
  rfl

/-- The packed cipher is the cipher in every lane. -/
theorem draw_eq (n : ℕ) (x : ℕ → Word) : draw (ones n) (P n x) = P n (fun i => bits (x i)) := by
  have h0 : (P n x, turn (ones n) 13 19 (P n x) ^^^ P n x) = PP n (fun i => s1 (x i)) := by
    rw [P_turn n 13 19 rfl (by norm_num) (by norm_num), P_xor]; rfl
  have h : last (ones n) (P n x) = PP n (fun i => s25 (x i)) := by
    rw [last, h0]
    simp only [four, four', PP_round n 15 17 rfl (by norm_num) (by norm_num), PP_round n 26 6 rfl (by norm_num) (by norm_num),
      PP_round n 6 26 rfl (by norm_num) (by norm_num), PP_round n 17 15 rfl (by norm_num) (by norm_num), PP_round n 29 3 rfl (by norm_num) (by norm_num),
      PP_round n 16 16 rfl (by norm_num) (by norm_num), PP_round n 24 8 rfl (by norm_num) (by norm_num), PP_round n 13 19 rfl (by norm_num) (by norm_num),
      PP_inject n 42 466689008 1 (by norm_num) (by norm_num) (by norm_num), PP_inject n 466689008 0 2 (by norm_num) (by norm_num) (by norm_num),
      PP_inject n 0 42 3 (by norm_num) (by norm_num) (by norm_num), PP_inject n 42 466689008 4 (by norm_num) (by norm_num) (by norm_num),
      PP_inject n 466689008 0 5 (by norm_num) (by norm_num) (by norm_num)]
    rfl
  rw [draw, h, PP, P_xor]
  rfl

/-- A window that passes holds no word whose upper 23 places are all zero. -/
theorem full_spec (n b : ℕ) (hb : b + n ≤ 2 ^ 32) (h : full n b = true) (i : ℕ) (hi : i < n) :
    512 ≤ (bits (BitVec.ofNat 32 (b + i))).toNat := by
  have hx : iota n + b * ones n = P n (fun i => BitVec.ofNat 32 (b + i)) := by
    rw [iota_eq, const_eq, pack_add, P]
    exact pack_congr _ _ _ fun i hi => by rw [BitVec.toNat_ofNat, Nat.mod_eq_of_lt (by omega)]; ring
  have h := Nat.eq_of_beq_eq_true h
  rw [hx, draw_eq, P, pack_right n 23 9 (by norm_num) (by norm_num) _ (fun _ => word_lt _), mask_eq, pack_add, const_eq,
    pack_and n _ _ (fun i => by
      have : (bits (BitVec.ofNat 32 (b + i))).toNat / 2 ^ 9 % 2 ^ 23 < 2 ^ 23 := Nat.mod_lt _ (by norm_num)
      omega) (fun _ => by norm_num)] at h
  have hl := pack_inj n _ _ (fun i => lt_of_le_of_lt Nat.and_le_right (by norm_num)) (fun _ => by norm_num) h i hi
  by_contra hc
  rw [show (bits (BitVec.ofNat 32 (b + i))).toNat / 2 ^ 9 % 2 ^ 23 = 0 by omega] at hl
  exact absurd hl (by decide)

/-- The same for a segment. -/
theorem segment_spec (n lo : ℕ) : ∀ k, lo + n * k ≤ 2 ^ 32 → segment n lo k = true → ∀ i, i < n * k →
    512 ≤ (bits (BitVec.ofNat 32 (lo + i))).toNat := by
  intro k
  induction k with
  | zero => intro _ _ i hi; omega
  | succ k ih =>
    intro hb h i hi
    rw [segment, Bool.and_eq_true] at h
    rw [Nat.mul_succ] at hb hi
    by_cases hk : i < n * k
    · exact ih (by omega) h.2 i hk
    · have := full_spec n (lo + n * k) (by omega) h.1 (i - n * k) (by omega)
      rwa [show lo + n * k + (i - n * k) = lo + i by omega] at this

end Cert.Packed

end
-- ==== Proof.Draws.lean ====
/-
  Which cells of the array of draws can draw a zero: of its 128 * 100000 cells three at most.
-/
module

public import proofs.«01_k».proof.Proof.PackedLanes

@[expose] public section

namespace Cert.Packed

open Idealize.ShloMosaic Cert.Cipher

/-- The first segment, its first half. -/
theorem part1 : segment 16384 42 245 = true := by decide +kernel
/-- The first segment, its second half. -/
theorem part2 : segment 16384 4014122 245 = true := by decide +kernel
/-- Between the first two of the three cells. -/
theorem part3 : segment 16384 8037798 183 = true := by decide +kernel
/-- Between the last two of the three cells, and after them. -/
theorem part4 : (segment 16384 11040136 49 && segment 16384 11855349 57) = true := by decide +kernel
/-- The windows that end where a segment ends. -/
theorem part5 : (segment 16384 8021413 1 && segment 16384 11023751 1 && segment 16384 11838964 1 && segment 16384 12783658 1) = true := by
  decide +kernel

/-- Every cell but three draws a word whose upper 23 places are not all zero. -/
theorem draws (k : ℕ) (hk : k < 12800000) (h1 : k ≠ 8037755) (h2 : k ≠ 11040093) (h3 : k ≠ 11855306) :
    512 ≤ (bits (BitVec.ofNat 32 (k + 42))).toNat := by
  have go : ∀ lo c : ℕ, segment 16384 lo c = true → lo + 16384 * c ≤ 2 ^ 32 → lo ≤ k + 42 → k + 42 < lo + 16384 * c →
      512 ≤ (bits (BitVec.ofNat 32 (k + 42))).toNat := fun lo c h hb ha hc => by
    have := segment_spec 16384 lo c hb h (k + 42 - lo) (by omega)
    rwa [show lo + (k + 42 - lo) = k + 42 by omega] at this
  have p4 := Bool.and_eq_true_iff.mp part4
  have p5 := Bool.and_eq_true_iff.mp part5
  have q5 := Bool.and_eq_true_iff.mp p5.1
  have r5 := Bool.and_eq_true_iff.mp q5.1
  by_cases a1 : k + 42 < 4014122
  · exact go 42 245 part1 (by norm_num) (by omega) (by omega)
  by_cases a2 : k + 42 < 8028202
  · exact go 4014122 245 part2 (by norm_num) (by omega) (by omega)
  by_cases a3 : k < 8037755
  · exact go 8021413 1 r5.1 (by norm_num) (by omega) (by omega)
  by_cases a4 : k + 42 < 8037798 + 16384 * 183
  · exact go 8037798 183 part3 (by norm_num) (by omega) (by omega)
  by_cases a5 : k < 11040093
  · exact go 11023751 1 r5.2 (by norm_num) (by omega) (by omega)
  by_cases a6 : k + 42 < 11040136 + 16384 * 49
  · exact go 11040136 49 p4.1 (by norm_num) (by omega) (by omega)
  by_cases a7 : k < 11855306
  · exact go 11838964 1 q5.2 (by norm_num) (by omega) (by omega)
  by_cases a8 : k + 42 < 11855349 + 16384 * 57
  · exact go 11855349 57 p4.2 (by norm_num) (by omega) (by omega)
  · exact go 12783658 1 p5.2 (by norm_num) (by omega) (by omega)

end Cert.Packed

end
-- ==== Proof.RowOrder.lean ====
/-
  The kernel's scores of a row and the reference's have the same first place of the maximum, under the precondition.
-/
module

public import proofs.«01_k».proof.Proof.KernelClosed
public import proofs.«01_k».proof.Proof.ReferenceRow
public import proofs.«01_k».proof.Proof.Resolved
public import proofs.«01_k».proof.Proof.Draws

@[expose] public section

noncomputable section

namespace Cert.Noise

open Idealize.ShloMosaic Idealize.ShloMosaic.Tactic Idealize.SL.Sem
open Cert.Cipher
open Cert.KernelIdeal.Hand (cellWord)

/-- A cell whose draw is zero is one of three. -/
theorem zero_draw (r : Fin 128) (c : Fin 100000) (h : draw (bits (cellWord r.val c.val)) = 0) :
    ZeroCell r c := by
  have hr := r.isLt
  have hc := c.isLt
  by_contra hn
  unfold ZeroCell at hn
  have hd := Cert.Packed.draws (100000 * r.val + c.val) (by omega) (by omega) (by omega) (by omega)
  have h' : (bits (cellWord r.val c.val)).toNat / 512 = 0 := h
  have hd' : 512 ≤ (bits (cellWord r.val c.val)).toNat := hd
  omega

/-- A row has one cell at most whose draw is zero. -/
theorem zero_unique {r : Fin 128} {a b : Fin 100000} (ha : ZeroCell r a) (hb : ZeroCell r b) : a = b := by
  unfold ZeroCell at ha hb
  exact Fin.ext (by omega)

open Cert.ReferenceIdeal.Hand in
/-- Two cells of a row compare alike under both scores, if one whose draw is zero is settled against the other. -/
theorem ordered [Cert.Pre_draws_resolved.Facts]
    (m : (ℓ : Loc Cert.ReferenceIdeal.nD Cert.ReferenceIdeal.τ Cert.ReferenceIdeal.sig) → Buf (Elt Ideal) ℓ) (d : Dev Cert.ReferenceIdeal.nD)
    (h : Cert.Pre_draws_resolved.fn (F := Ideal) (logits m d) (temps m d) = fun _ => 1#1) (r : Fin 128) (a b : Fin 100000)
    (ha : draw (bits (cellWord r.val a.val)) = 0 → b ≠ a → Settled (Ideal.div (logits m d (ix2 r a)) (temps m d (ix1 r))) (Ideal.div (logits m d (ix2 r b)) (temps m d (ix1 r))))
    (hb : draw (bits (cellWord r.val b.val)) = 0 → a ≠ b → Settled (Ideal.div (logits m d (ix2 r b)) (temps m d (ix1 r))) (Ideal.div (logits m d (ix2 r a)) (temps m d (ix1 r)))) :
    wide (Ideal.div (logits m d (ix2 r a)) (temps m d (ix1 r))) (draw (bits (cellWord r.val a.val)))
        < wide (Ideal.div (logits m d (ix2 r b)) (temps m d (ix1 r))) (draw (bits (cellWord r.val b.val)))
      ↔ rowQuot m d r a < rowQuot m d r b := by
  obtain ⟨-, hx, -⟩ := resolved _ _ h
  obtain ⟨hle, hM⟩ := top_value m d (ix1 r)
  have e : total m d (ix1 r) = 0 + ∑ i ∈ Finset.univ.filter (fun i : Cert.ReferenceIdeal.S128x100000.Idx => (i 0).val = r.val),
      Ideal.exp (scaled (logits m d) (temps m d) i - top m d (ix1 r)) := by
    unfold total
    refine congrArg (fun s : EReal => 0 + s) (Finset.sum_congr rfl fun i hi => ?_)
    have hi' : (i 0).val = r.val := (Finset.mem_filter.mp hi).2
    exact congrArg (fun x : Fin 128 => Ideal.exp (scaled (logits m d) (temps m d) i - top m d (ix1 x)))
      (show (i 0 : Fin 128) = r from Fin.ext hi')
  unfold rowQuot
  rw [e]
  refine row_alike (Finset.univ.filter (fun i : Cert.ReferenceIdeal.S128x100000.Idx => (i 0).val = r.val))
    (scaled (logits m d) (temps m d)) (top m d (ix1 r)) (fun i hi => hle i (Finset.mem_filter.mp hi).2) (hM.imp id fun ⟨i, hi, h'⟩ =>
      ⟨i, Finset.mem_filter.mpr ⟨Finset.mem_univ _, hi⟩, h'⟩) (fun i _ => hx i)
    (c := ix2 r a) (d := ix2 r b) (Finset.mem_filter.mpr ⟨Finset.mem_univ _, rfl⟩) (Finset.mem_filter.mpr ⟨Finset.mem_univ _, rfl⟩)
    (draw_lt _) (draw_lt _) (fun hv hw => ha hv ?_) (fun hw hv => hb hw ?_)
  · rintro rfl; exact hw hv
  · rintro rfl; exact hv hw

open Cert.ReferenceIdeal.Hand in
/-- A row's first place of the maximum under the kernel's score is its first place under the reference's. -/
theorem same_first [Cert.Pre_draws_resolved.Facts]
    (m : (ℓ : Loc Cert.ReferenceIdeal.nD Cert.ReferenceIdeal.τ Cert.ReferenceIdeal.sig) → Buf (Elt Ideal) ℓ) (d : Dev Cert.ReferenceIdeal.nD)
    (h : Cert.Pre_draws_resolved.fn (F := Ideal) (logits m d) (temps m d) = fun _ => 1#1) (r : Fin 128) (i : Fin 100000)
    (hi : First (fun c : Fin 100000 => wide (Ideal.div (logits m d (ix2 r c)) (temps m d (ix1 r))) (draw (bits (cellWord r.val c.val)))) i) :
    First (rowQuot m d r) i := by
  obtain ⟨-, hx, hn⟩ := resolved _ _ h
  by_cases hz : ∃ k : Fin 100000, draw (bits (cellWord r.val k.val)) = 0
  · obtain ⟨k, hk⟩ := hz
    have only : ∀ {c : Fin 100000}, draw (bits (cellWord r.val c.val)) = 0 → c = k := fun h0 =>
      zero_unique (zero_draw r _ h0) (zero_draw r k hk)
    rcases hn r k (zero_draw r k hk) with hnear | ⟨e, he, hfar⟩
    · refine First.congr (fun a b => ordered m d h r a b (fun ha _ => Or.inl ?_) (fun hb _ => Or.inl ?_)) hi
      · rw [only ha]; exact hnear b
      · rw [only hb]; exact hnear a
    · have hek : e ≠ k := by
        rintro rfl
        refine he ?_
        generalize Ideal.div (logits m d (ix2 r e)) (temps m d (ix1 r)) = z
        calc z = z + 0 := (add_zero z).symm
          _ ≤ z + ((7 : ℝ) : EReal) := by gcongr; exact_mod_cast (by norm_num : (0 : ℝ) ≤ 7)
      have hb : Ideal.div (logits m d (ix2 r e)) (temps m d (ix1 r)) ≠ ⊥ := fun h' => he (h' ▸ bot_le)
      have hlt : wide (Ideal.div (logits m d (ix2 r k)) (temps m d (ix1 r))) (draw (bits (cellWord r.val k.val)))
          < wide (Ideal.div (logits m d (ix2 r e)) (temps m d (ix1 r))) (draw (bits (cellWord r.val e.val))) := by
        rw [hk]
        exact wide_far (hx (ix2 r e)) hb hfar (draw_lt _) fun h0 => hek (only h0)
      refine First.except k e (fun a b ha hb => ordered m d h r a b (fun h' _ => absurd (only h') ha)
        (fun h' _ => absurd (only h') hb)) hek hlt ?_ hi
      exact (ordered m d h r k e (fun _ _ => Or.inr hfar) (fun h' _ => absurd (only h') hek)).mp hlt
  · exact First.congr (fun a b => ordered m d h r a b (fun h' _ => absurd ⟨a, h'⟩ hz) (fun h' _ => absurd ⟨b, h'⟩ hz)) hi

end Cert.Noise

end
-- ==== Proof.Agree.lean ====
/-
  The kernel and the reference choose the same index in every row.
-/
module

public import proofs.«01_k».proof.Proof.RowOrder
public import proofs.«01_k».proof.Proof.ReferenceFrame
public import proofs.«01_k».proof.Defs

@[expose] public section

noncomputable section

namespace Cert.Agree

open Idealize.ShloMosaic Idealize.ShloMosaic.Tactic Idealize.ShloMosaic.TcCoe Idealize.SL.Sem
open Cert.Noise Cert.Cipher
open Cert.KernelIdeal.Hand (cellWord)

/-- The side conditions of the precondition's operations. -/
theorem facts : Cert.Pre_draws_resolved.Facts where
  bcast_S128_S128x1_0 := by decide
  bcast_S128x1_S128x100000_0_1 := by decide
  reducesTo_S128x100000_S128_d1 := by decide
  h_S_ := by decide
  bcast_S_S128x100000 := by decide
  reducesTo_S128x100000_S_d0_1 := by decide
  bcast_S_S128 := by decide
  reducesTo_S128_S_d0 := by decide
  slices_S128x100000_S1x1_80_37755 := by decide
  shapeCasts_S1x1_S_ := by decide
  slices_S128_S1_80 := by decide
  shapeCasts_S1_S_ := by decide
  slices_S128x100000_S1x1_110_40093 := by decide
  slices_S128_S1_110 := by decide
  slices_S128x100000_S1x1_118_55306 := by decide
  slices_S128_S1_118 := by decide

section Reference

variable [Cert.ReferenceIdeal.Facts]
variable (m : (ℓ : Loc Cert.ReferenceIdeal.nD Cert.ReferenceIdeal.τ Cert.ReferenceIdeal.sig) → Buf (Elt Ideal) ℓ) (d : Dev Cert.ReferenceIdeal.nD)

/-- The reference's logits are its first argument. -/
theorem logits_arg : Cert.ReferenceIdeal.Hand.logits m d
    = m ((d.tc : Thread Cert.ReferenceIdeal.nD Cert.ReferenceIdeal.τ).loc Cert.ReferenceIdeal.main_arg0) :=
  Cert.ReferenceIdeal.Hand.after_keep (F := Ideal) Cert.ReferenceIdeal.Hand.arg0_keep _

/-- The reference's temperatures are its second argument. -/
theorem temps_arg : Cert.ReferenceIdeal.Hand.temps m d
    = m ((d.tc : Thread Cert.ReferenceIdeal.nD Cert.ReferenceIdeal.τ).loc Cert.ReferenceIdeal.main_arg1) :=
  Cert.ReferenceIdeal.Hand.after_keep (F := Ideal) Cert.ReferenceIdeal.Hand.arg1_keep _

/-- The reference's result. -/
theorem result_final (r : Cert.ReferenceIdeal.S128.Idx) :
    Cert.ReferenceIdeal.Hand.final (F := Ideal) m d (Proc.devRef .tc Cert.ReferenceIdeal.main_v24) r
      = Cert.ReferenceIdeal.Hand.val m d Cert.ReferenceIdeal.main_call2.v1_1 r := rfl

end Reference

/-- From equal arguments under the precondition, the kernel's index of a row is the reference's. -/
theorem same_index [hK : Cert.KernelIdeal.Facts] [hR : Cert.ReferenceIdeal.Facts] [hP : Cert.Pre_draws_resolved.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_draws_resolved m) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) (r : Fin 128) :
    Cert.ReferenceIdeal.Hand.val m' c Cert.ReferenceIdeal.main_call2.v1_1 (ix1 r) = Cert.KernelIdeal.Hand.sampled m c (ix2 r 0) := by
  have eL : Cert.ReferenceIdeal.Hand.logits m' c = Cert.KernelIdeal.Hand.logits m c :=
    (logits_arg m' c).trans (h0.trans (Cert.KernelIdeal.Gen.V_main_arg0 m c).symm)
  have eT : Cert.ReferenceIdeal.Hand.temps m' c = Cert.KernelIdeal.Hand.temps m c := (temps_arg m' c).trans h1
  have hp : Cert.Pre_draws_resolved.fn (F := Ideal) (Cert.ReferenceIdeal.Hand.logits m' c) (Cert.ReferenceIdeal.Hand.temps m' c)
      = fun _ => 1#1 := by
    rw [logits_arg, temps_arg, h0, h1]
    exact hpre c
  have ht : ∀ r, Cert.KernelIdeal.Hand.temps m c (ix1 r) ≠ 0 := by
    intro r
    rw [← eT]
    exact (resolved _ _ hp).1 (ix1 r)
  obtain ⟨i, hi, ei⟩ := Cert.KernelIdeal.Hand.sampled_first m c ht r
  obtain ⟨k, hk, ek⟩ := Cert.ReferenceIdeal.Hand.result_value m' c (ix1 r)
  have hs := same_first m' c hp r i
  rw [eL, eT] at hs
  have hik : i = k := First.unique (hs hi) hk
  rw [ei, ek, hik]

/-- The kernel and the reference, both exact, run and end with equal results under the precondition. -/
theorem algebraic [hR : Cert.ReferenceIdeal.Facts] [hP : Cert.Pre_draws_resolved.Facts] :
    Cert.algebraic_KernelIdeal_ReferenceIdeal_pre_draws_resolved (hKernelIdeal := Cert.KernelIdeal.Gen.facts) := by
  intro m g m' g' hpre hargs
  refine ⟨fun c j => Cert.KernelIdeal.Hand.sampled m c (ix2 (j 0) 0), ?_, ?_⟩
  · exact (θ_run _ _ _).mono (fun r h c => ⟨funext (h.1 c).1, (h.1 c).2.1, (h.1 c).2.2⟩) (Cert.KernelIdeal.Hand.value m g)
  · refine (θ_run _ _ _).mono (fun r h c => ⟨?_, (h c Cert.ReferenceIdeal.main_arg0).trans
      (Cert.ReferenceIdeal.Hand.after_keep Cert.ReferenceIdeal.Hand.arg0_keep _), (h c Cert.ReferenceIdeal.main_arg1).trans
      (Cert.ReferenceIdeal.Hand.after_keep Cert.ReferenceIdeal.Hand.arg1_keep _)⟩) (Cert.ReferenceIdeal.Hand.run (F := Ideal) m' g')
    refine (h c Cert.ReferenceIdeal.main_v24).trans ?_
    funext j
    have ej : j = ix1 (j 0) := by
      funext a
      fin_cases a
      rfl
    rw [result_final]
    have hs := same_index (hK := Cert.KernelIdeal.Gen.facts) m m' hpre c (hargs c).1 (hargs c).2 (j 0)
    exact (congrArg (Cert.ReferenceIdeal.Hand.val m' c Cert.ReferenceIdeal.main_call2.v1_1) ej).trans hs

end Cert.Agree

end
-- ==== Proof.lean ====
/-
  The certificate of the sampling kernel: the frames of the kernel, its idealization and the reference, the idealization's
  one rule, and the equality of the idealization's result with the reference's.
-/
module

public import proofs.«01_k».proof.Defs
public import proofs.«01_k».proof.Proof.KernelFrame
public import proofs.«01_k».proof.Proof.KernelIdealFrame
public import proofs.«01_k».proof.Proof.ReferenceFrame
public import proofs.«01_k».proof.Proof.Agree

@[expose] public section

noncomputable section

namespace Cert.Proof

open Idealize.ShloMosaic Idealize.SL.Sem

/-- The printed constant is the inverse of the logarithm of two, in the idealization. -/
theorem preserves : Cert.preserves_Kernel_KernelIdeal :=
  IdealRules.named_const.statement Cert.KernelIdeal.κ "log2_e" .f32 0x3FB8AA3B#32 (((Real.log 2)⁻¹ : ℝ) : EReal) rfl

/-- Everything claimed. -/
theorem claim : Cert.Claim :=
  ⟨Cert.Kernel.Gen.facts, Cert.KernelIdeal.Gen.facts, Cert.ReferenceIdeal.Gen.facts, Cert.Agree.facts,
    fun m g _ => Cert.Kernel.Hand.frame m g, fun m g _ => Cert.KernelIdeal.Hand.frame m g,
    fun m g _ => Cert.KernelIdeal.Hand.frame m g, Cert.ReferenceIdeal.Hand.frame,
    fun m g _ => Cert.ReferenceIdeal.Hand.frame m g trivial, preserves,
    Cert.Agree.algebraic (hR := Cert.ReferenceIdeal.Gen.facts) (hP := Cert.Agree.facts)⟩

end Cert.Proof

end
